-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_expert_ids : Cert.Pre_expert_ids.Facts] (m : (ℓ : Loc Cert.Experts.nD Cert.Experts.τ Cert.Experts.sig) → Buf (Elt Bits) ℓ) : Prop :=
  ∀ c : Dev Cert.Experts.nD,
    (Cert.Pre_expert_ids.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_expert_ids : Cert.Pre_expert_ids.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_expert_ids.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_PlainExpertsIdeal (m : (ℓ : Loc Cert.PlainExpertsIdeal.nD Cert.PlainExpertsIdeal.τ Cert.PlainExpertsIdeal.sig) → Buf (Elt Ideal) ℓ) : Prop :=
  True

def Pre_PlainExpertsIdeal_expert_ids [hPre_expert_ids : Cert.Pre_expert_ids.Facts] (m : (ℓ : Loc Cert.PlainExpertsIdeal.nD Cert.PlainExpertsIdeal.τ Cert.PlainExpertsIdeal.sig) → Buf (Elt Ideal) ℓ) : Prop :=
  ∀ c : Dev Cert.PlainExpertsIdeal.nD,
    (Cert.Pre_expert_ids.fn (F := Ideal) (m ((c.tc : Thread Cert.PlainExpertsIdeal.nD Cert.PlainExpertsIdeal.τ).loc Cert.PlainExpertsIdeal.main_arg0)) (m ((c.tc : Thread Cert.PlainExpertsIdeal.nD Cert.PlainExpertsIdeal.τ).loc Cert.PlainExpertsIdeal.main_arg1)) (m ((c.tc : Thread Cert.PlainExpertsIdeal.nD Cert.PlainExpertsIdeal.τ).loc Cert.PlainExpertsIdeal.main_arg2)) (m ((c.tc : Thread Cert.PlainExpertsIdeal.nD Cert.PlainExpertsIdeal.τ).loc Cert.PlainExpertsIdeal.main_arg3)) (m ((c.tc : Thread Cert.PlainExpertsIdeal.nD Cert.PlainExpertsIdeal.τ).loc Cert.PlainExpertsIdeal.main_arg4))) = (fun _ => 1#1)

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_PlainFinalIdeal (m : (ℓ : Loc Cert.PlainFinalIdeal.nD Cert.PlainFinalIdeal.τ Cert.PlainFinalIdeal.sig) → Buf (Elt Ideal) ℓ) : Prop :=
  True

def Pre_Mixer (m : (ℓ : Loc Cert.Mixer.nD Cert.Mixer.τ Cert.Mixer.sig) → Buf (Elt Bits) ℓ) : Prop :=
  True

def Pre_MixerIdeal (m : (ℓ : Loc Cert.MixerIdeal.nD Cert.MixerIdeal.τ Cert.MixerIdeal.sig) → Buf (Elt Ideal) ℓ) : Prop :=
  True

def Pre_PlainMixerIdeal (m : (ℓ : Loc Cert.PlainMixerIdeal.nD Cert.PlainMixerIdeal.τ Cert.PlainMixerIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_PlainSecondIdeal (m : (ℓ : Loc Cert.PlainSecondIdeal.nD Cert.PlainSecondIdeal.τ Cert.PlainSecondIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_expert_ids : Cert.Pre_expert_ids.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_expert_ids : Cert.Pre_expert_ids.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_PlainExpertsIdeal [hPlainExpertsIdeal : Cert.PlainExpertsIdeal.Facts] : Prop :=
  ∀ (m : (ℓ : Loc Cert.PlainExpertsIdeal.nD Cert.PlainExpertsIdeal.τ Cert.PlainExpertsIdeal.sig) → Buf (Elt Ideal) ℓ) (g : Dev Cert.PlainExpertsIdeal.nD → PrngReg), Pre_PlainExpertsIdeal m →
    θ_run (Cert.PlainExpertsIdeal.defs (F := Ideal)) (onTc (τ := Cert.PlainExpertsIdeal.τ) (Cert.PlainExpertsIdeal.main (F := Ideal))) ⟨m, fun _ => 0, g⟩ (fun r => (∀ c : Dev Cert.PlainExpertsIdeal.nD,
      r.2.mem ((c.tc : Thread Cert.PlainExpertsIdeal.nD Cert.PlainExpertsIdeal.τ).loc Cert.PlainExpertsIdeal.main_arg0) = m ((c.tc : Thread Cert.PlainExpertsIdeal.nD Cert.PlainExpertsIdeal.τ).loc Cert.PlainExpertsIdeal.main_arg0)
      ∧ r.2.mem ((c.tc : Thread Cert.PlainExpertsIdeal.nD Cert.PlainExpertsIdeal.τ).loc Cert.PlainExpertsIdeal.main_arg1) = m ((c.tc : Thread Cert.PlainExpertsIdeal.nD Cert.PlainExpertsIdeal.τ).loc Cert.PlainExpertsIdeal.main_arg1)
      ∧ r.2.mem ((c.tc : Thread Cert.PlainExpertsIdeal.nD Cert.PlainExpertsIdeal.τ).loc Cert.PlainExpertsIdeal.main_arg2) = m ((c.tc : Thread Cert.PlainExpertsIdeal.nD Cert.PlainExpertsIdeal.τ).loc Cert.PlainExpertsIdeal.main_arg2)
      ∧ r.2.mem ((c.tc : Thread Cert.PlainExpertsIdeal.nD Cert.PlainExpertsIdeal.τ).loc Cert.PlainExpertsIdeal.main_arg3) = m ((c.tc : Thread Cert.PlainExpertsIdeal.nD Cert.PlainExpertsIdeal.τ).loc Cert.PlainExpertsIdeal.main_arg3)
      ∧ r.2.mem ((c.tc : Thread Cert.PlainExpertsIdeal.nD Cert.PlainExpertsIdeal.τ).loc Cert.PlainExpertsIdeal.main_arg4) = m ((c.tc : Thread Cert.PlainExpertsIdeal.nD Cert.PlainExpertsIdeal.τ).loc Cert.PlainExpertsIdeal.main_arg4))
      ∧ r.2.sem = fun _ => 0)

def quiescent_PlainExpertsIdeal_pre_expert_ids [hPlainExpertsIdeal : Cert.PlainExpertsIdeal.Facts] [hPre_expert_ids : Cert.Pre_expert_ids.Facts] : Prop :=
  ∀ (m : (ℓ : Loc Cert.PlainExpertsIdeal.nD Cert.PlainExpertsIdeal.τ Cert.PlainExpertsIdeal.sig) → Buf (Elt Ideal) ℓ) (g : Dev Cert.PlainExpertsIdeal.nD → PrngReg), Pre_PlainExpertsIdeal_expert_ids m →
    θ_run (Cert.PlainExpertsIdeal.defs (F := Ideal)) (onTc (τ := Cert.PlainExpertsIdeal.τ) (Cert.PlainExpertsIdeal.main (F := Ideal))) ⟨m, fun _ => 0, g⟩ (fun r => (∀ c : Dev Cert.PlainExpertsIdeal.nD,
      r.2.mem ((c.tc : Thread Cert.PlainExpertsIdeal.nD Cert.PlainExpertsIdeal.τ).loc Cert.PlainExpertsIdeal.main_arg0) = m ((c.tc : Thread Cert.PlainExpertsIdeal.nD Cert.PlainExpertsIdeal.τ).loc Cert.PlainExpertsIdeal.main_arg0)
      ∧ r.2.mem ((c.tc : Thread Cert.PlainExpertsIdeal.nD Cert.PlainExpertsIdeal.τ).loc Cert.PlainExpertsIdeal.main_arg1) = m ((c.tc : Thread Cert.PlainExpertsIdeal.nD Cert.PlainExpertsIdeal.τ).loc Cert.PlainExpertsIdeal.main_arg1)
      ∧ r.2.mem ((c.tc : Thread Cert.PlainExpertsIdeal.nD Cert.PlainExpertsIdeal.τ).loc Cert.PlainExpertsIdeal.main_arg2) = m ((c.tc : Thread Cert.PlainExpertsIdeal.nD Cert.PlainExpertsIdeal.τ).loc Cert.PlainExpertsIdeal.main_arg2)
      ∧ r.2.mem ((c.tc : Thread Cert.PlainExpertsIdeal.nD Cert.PlainExpertsIdeal.τ).loc Cert.PlainExpertsIdeal.main_arg3) = m ((c.tc : Thread Cert.PlainExpertsIdeal.nD Cert.PlainExpertsIdeal.τ).loc Cert.PlainExpertsIdeal.main_arg3)
      ∧ r.2.mem ((c.tc : Thread Cert.PlainExpertsIdeal.nD Cert.PlainExpertsIdeal.τ).loc Cert.PlainExpertsIdeal.main_arg4) = m ((c.tc : Thread Cert.PlainExpertsIdeal.nD Cert.PlainExpertsIdeal.τ).loc Cert.PlainExpertsIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_PlainFinalIdeal [hPlainFinalIdeal : Cert.PlainFinalIdeal.Facts] : Prop :=
  ∀ (m : (ℓ : Loc Cert.PlainFinalIdeal.nD Cert.PlainFinalIdeal.τ Cert.PlainFinalIdeal.sig) → Buf (Elt Ideal) ℓ) (g : Dev Cert.PlainFinalIdeal.nD → PrngReg), Pre_PlainFinalIdeal m →
    θ_run (Cert.PlainFinalIdeal.defs (F := Ideal)) (onTc (τ := Cert.PlainFinalIdeal.τ) (Cert.PlainFinalIdeal.main (F := Ideal))) ⟨m, fun _ => 0, g⟩ (fun r => (∀ c : Dev Cert.PlainFinalIdeal.nD,
      r.2.mem ((c.tc : Thread Cert.PlainFinalIdeal.nD Cert.PlainFinalIdeal.τ).loc Cert.PlainFinalIdeal.main_arg0) = m ((c.tc : Thread Cert.PlainFinalIdeal.nD Cert.PlainFinalIdeal.τ).loc Cert.PlainFinalIdeal.main_arg0)
      ∧ r.2.mem ((c.tc : Thread Cert.PlainFinalIdeal.nD Cert.PlainFinalIdeal.τ).loc Cert.PlainFinalIdeal.main_arg1) = m ((c.tc : Thread Cert.PlainFinalIdeal.nD Cert.PlainFinalIdeal.τ).loc Cert.PlainFinalIdeal.main_arg1)
      ∧ r.2.mem ((c.tc : Thread Cert.PlainFinalIdeal.nD Cert.PlainFinalIdeal.τ).loc Cert.PlainFinalIdeal.main_arg2) = m ((c.tc : Thread Cert.PlainFinalIdeal.nD Cert.PlainFinalIdeal.τ).loc Cert.PlainFinalIdeal.main_arg2)
      ∧ r.2.mem ((c.tc : Thread Cert.PlainFinalIdeal.nD Cert.PlainFinalIdeal.τ).loc Cert.PlainFinalIdeal.main_arg3) = m ((c.tc : Thread Cert.PlainFinalIdeal.nD Cert.PlainFinalIdeal.τ).loc Cert.PlainFinalIdeal.main_arg3))
      ∧ r.2.sem = fun _ => 0)

def quiescent_Mixer [hMixer : Cert.Mixer.Facts] : Prop :=
  ∀ (m : (ℓ : Loc Cert.Mixer.nD Cert.Mixer.τ Cert.Mixer.sig) → Buf (Elt Bits) ℓ) (g : Dev Cert.Mixer.nD → PrngReg), Pre_Mixer m →
    θ_run (Cert.Mixer.defs (F := Bits)) (onTc (τ := Cert.Mixer.τ) (Cert.Mixer.main (F := Bits))) ⟨m, fun _ => 0, g⟩ (fun r => (∀ c : Dev Cert.Mixer.nD,
      r.2.mem ((c.tc : Thread Cert.Mixer.nD Cert.Mixer.τ).loc Cert.Mixer.main_arg0) = m ((c.tc : Thread Cert.Mixer.nD Cert.Mixer.τ).loc Cert.Mixer.main_arg0)
      ∧ r.2.mem ((c.tc : Thread Cert.Mixer.nD Cert.Mixer.τ).loc Cert.Mixer.main_arg1) = m ((c.tc : Thread Cert.Mixer.nD Cert.Mixer.τ).loc Cert.Mixer.main_arg1)
      ∧ r.2.mem ((c.tc : Thread Cert.Mixer.nD Cert.Mixer.τ).loc Cert.Mixer.main_arg2) = m ((c.tc : Thread Cert.Mixer.nD Cert.Mixer.τ).loc Cert.Mixer.main_arg2)
      ∧ r.2.mem ((c.tc : Thread Cert.Mixer.nD Cert.Mixer.τ).loc Cert.Mixer.main_arg3) = m ((c.tc : Thread Cert.Mixer.nD Cert.Mixer.τ).loc Cert.Mixer.main_arg3)
      ∧ r.2.mem ((c.tc : Thread Cert.Mixer.nD Cert.Mixer.τ).loc Cert.Mixer.main_arg4) = m ((c.tc : Thread Cert.Mixer.nD Cert.Mixer.τ).loc Cert.Mixer.main_arg4)
      ∧ r.2.mem ((c.tc : Thread Cert.Mixer.nD Cert.Mixer.τ).loc Cert.Mixer.main_arg5) = m ((c.tc : Thread Cert.Mixer.nD Cert.Mixer.τ).loc Cert.Mixer.main_arg5)
      ∧ r.2.mem ((c.tc : Thread Cert.Mixer.nD Cert.Mixer.τ).loc Cert.Mixer.main_arg6) = m ((c.tc : Thread Cert.Mixer.nD Cert.Mixer.τ).loc Cert.Mixer.main_arg6)
      ∧ r.2.mem ((c.tc : Thread Cert.Mixer.nD Cert.Mixer.τ).loc Cert.Mixer.main_arg7) = m ((c.tc : Thread Cert.Mixer.nD Cert.Mixer.τ).loc Cert.Mixer.main_arg7)
      ∧ r.2.mem ((c.tc : Thread Cert.Mixer.nD Cert.Mixer.τ).loc Cert.Mixer.main_arg8) = m ((c.tc : Thread Cert.Mixer.nD Cert.Mixer.τ).loc Cert.Mixer.main_arg8)
      ∧ r.2.mem ((c.tc : Thread Cert.Mixer.nD Cert.Mixer.τ).loc Cert.Mixer.main_arg9) = m ((c.tc : Thread Cert.Mixer.nD Cert.Mixer.τ).loc Cert.Mixer.main_arg9)
      ∧ r.2.mem ((c.tc : Thread Cert.Mixer.nD Cert.Mixer.τ).loc Cert.Mixer.main_arg10) = m ((c.tc : Thread Cert.Mixer.nD Cert.Mixer.τ).loc Cert.Mixer.main_arg10)
      ∧ r.2.mem ((c.tc : Thread Cert.Mixer.nD Cert.Mixer.τ).loc Cert.Mixer.main_arg11) = m ((c.tc : Thread Cert.Mixer.nD Cert.Mixer.τ).loc Cert.Mixer.main_arg11)
      ∧ r.2.mem ((c.tc : Thread Cert.Mixer.nD Cert.Mixer.τ).loc Cert.Mixer.main_arg12) = m ((c.tc : Thread Cert.Mixer.nD Cert.Mixer.τ).loc Cert.Mixer.main_arg12))
      ∧ r.2.sem = fun _ => 0)

def quiescent_MixerIdeal [hMixerIdeal : Cert.MixerIdeal.Facts] : Prop :=
  ∀ (m : (ℓ : Loc Cert.MixerIdeal.nD Cert.MixerIdeal.τ Cert.MixerIdeal.sig) → Buf (Elt Ideal) ℓ) (g : Dev Cert.MixerIdeal.nD → PrngReg), Pre_MixerIdeal m →
    θ_run (Cert.MixerIdeal.defs (F := Ideal)) (onTc (τ := Cert.MixerIdeal.τ) (Cert.MixerIdeal.main (F := Ideal))) ⟨m, fun _ => 0, g⟩ (fun r => (∀ c : Dev Cert.MixerIdeal.nD,
      r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
      ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
      ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
      ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
      ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
      ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
      ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
      ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
      ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
      ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
      ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
      ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
      ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ r.2.sem = fun _ => 0)

def quiescent_PlainMixerIdeal [hPlainMixerIdeal : Cert.PlainMixerIdeal.Facts] : Prop :=
  ∀ (m : (ℓ : Loc Cert.PlainMixerIdeal.nD Cert.PlainMixerIdeal.τ Cert.PlainMixerIdeal.sig) → Buf (Elt Ideal) ℓ) (g : Dev Cert.PlainMixerIdeal.nD → PrngReg), Pre_PlainMixerIdeal m →
    θ_run (Cert.PlainMixerIdeal.defs (F := Ideal)) (onTc (τ := Cert.PlainMixerIdeal.τ) (Cert.PlainMixerIdeal.main (F := Ideal))) ⟨m, fun _ => 0, g⟩ (fun r => (∀ c : Dev Cert.PlainMixerIdeal.nD,
      r.2.mem ((c.tc : Thread Cert.PlainMixerIdeal.nD Cert.PlainMixerIdeal.τ).loc Cert.PlainMixerIdeal.main_arg0) = m ((c.tc : Thread Cert.PlainMixerIdeal.nD Cert.PlainMixerIdeal.τ).loc Cert.PlainMixerIdeal.main_arg0)
      ∧ r.2.mem ((c.tc : Thread Cert.PlainMixerIdeal.nD Cert.PlainMixerIdeal.τ).loc Cert.PlainMixerIdeal.main_arg1) = m ((c.tc : Thread Cert.PlainMixerIdeal.nD Cert.PlainMixerIdeal.τ).loc Cert.PlainMixerIdeal.main_arg1)
      ∧ r.2.mem ((c.tc : Thread Cert.PlainMixerIdeal.nD Cert.PlainMixerIdeal.τ).loc Cert.PlainMixerIdeal.main_arg2) = m ((c.tc : Thread Cert.PlainMixerIdeal.nD Cert.PlainMixerIdeal.τ).loc Cert.PlainMixerIdeal.main_arg2)
      ∧ r.2.mem ((c.tc : Thread Cert.PlainMixerIdeal.nD Cert.PlainMixerIdeal.τ).loc Cert.PlainMixerIdeal.main_arg3) = m ((c.tc : Thread Cert.PlainMixerIdeal.nD Cert.PlainMixerIdeal.τ).loc Cert.PlainMixerIdeal.main_arg3)
      ∧ r.2.mem ((c.tc : Thread Cert.PlainMixerIdeal.nD Cert.PlainMixerIdeal.τ).loc Cert.PlainMixerIdeal.main_arg4) = m ((c.tc : Thread Cert.PlainMixerIdeal.nD Cert.PlainMixerIdeal.τ).loc Cert.PlainMixerIdeal.main_arg4)
      ∧ r.2.mem ((c.tc : Thread Cert.PlainMixerIdeal.nD Cert.PlainMixerIdeal.τ).loc Cert.PlainMixerIdeal.main_arg5) = m ((c.tc : Thread Cert.PlainMixerIdeal.nD Cert.PlainMixerIdeal.τ).loc Cert.PlainMixerIdeal.main_arg5)
      ∧ r.2.mem ((c.tc : Thread Cert.PlainMixerIdeal.nD Cert.PlainMixerIdeal.τ).loc Cert.PlainMixerIdeal.main_arg6) = m ((c.tc : Thread Cert.PlainMixerIdeal.nD Cert.PlainMixerIdeal.τ).loc Cert.PlainMixerIdeal.main_arg6)
      ∧ r.2.mem ((c.tc : Thread Cert.PlainMixerIdeal.nD Cert.PlainMixerIdeal.τ).loc Cert.PlainMixerIdeal.main_arg7) = m ((c.tc : Thread Cert.PlainMixerIdeal.nD Cert.PlainMixerIdeal.τ).loc Cert.PlainMixerIdeal.main_arg7)
      ∧ r.2.mem ((c.tc : Thread Cert.PlainMixerIdeal.nD Cert.PlainMixerIdeal.τ).loc Cert.PlainMixerIdeal.main_arg8) = m ((c.tc : Thread Cert.PlainMixerIdeal.nD Cert.PlainMixerIdeal.τ).loc Cert.PlainMixerIdeal.main_arg8)
      ∧ r.2.mem ((c.tc : Thread Cert.PlainMixerIdeal.nD Cert.PlainMixerIdeal.τ).loc Cert.PlainMixerIdeal.main_arg9) = m ((c.tc : Thread Cert.PlainMixerIdeal.nD Cert.PlainMixerIdeal.τ).loc Cert.PlainMixerIdeal.main_arg9)
      ∧ r.2.mem ((c.tc : Thread Cert.PlainMixerIdeal.nD Cert.PlainMixerIdeal.τ).loc Cert.PlainMixerIdeal.main_arg10) = m ((c.tc : Thread Cert.PlainMixerIdeal.nD Cert.PlainMixerIdeal.τ).loc Cert.PlainMixerIdeal.main_arg10)
      ∧ r.2.mem ((c.tc : Thread Cert.PlainMixerIdeal.nD Cert.PlainMixerIdeal.τ).loc Cert.PlainMixerIdeal.main_arg11) = m ((c.tc : Thread Cert.PlainMixerIdeal.nD Cert.PlainMixerIdeal.τ).loc Cert.PlainMixerIdeal.main_arg11)
      ∧ r.2.mem ((c.tc : Thread Cert.PlainMixerIdeal.nD Cert.PlainMixerIdeal.τ).loc Cert.PlainMixerIdeal.main_arg12) = m ((c.tc : Thread Cert.PlainMixerIdeal.nD Cert.PlainMixerIdeal.τ).loc Cert.PlainMixerIdeal.main_arg12))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ r.2.sem = fun _ => 0)

def quiescent_PlainSecondIdeal [hPlainSecondIdeal : Cert.PlainSecondIdeal.Facts] : Prop :=
  ∀ (m : (ℓ : Loc Cert.PlainSecondIdeal.nD Cert.PlainSecondIdeal.τ Cert.PlainSecondIdeal.sig) → Buf (Elt Ideal) ℓ) (g : Dev Cert.PlainSecondIdeal.nD → PrngReg), Pre_PlainSecondIdeal m →
    θ_run (Cert.PlainSecondIdeal.defs (F := Ideal)) (onTc (τ := Cert.PlainSecondIdeal.τ) (Cert.PlainSecondIdeal.main (F := Ideal))) ⟨m, fun _ => 0, g⟩ (fun r => (∀ c : Dev Cert.PlainSecondIdeal.nD,
      r.2.mem ((c.tc : Thread Cert.PlainSecondIdeal.nD Cert.PlainSecondIdeal.τ).loc Cert.PlainSecondIdeal.main_arg0) = m ((c.tc : Thread Cert.PlainSecondIdeal.nD Cert.PlainSecondIdeal.τ).loc Cert.PlainSecondIdeal.main_arg0)
      ∧ r.2.mem ((c.tc : Thread Cert.PlainSecondIdeal.nD Cert.PlainSecondIdeal.τ).loc Cert.PlainSecondIdeal.main_arg1) = m ((c.tc : Thread Cert.PlainSecondIdeal.nD Cert.PlainSecondIdeal.τ).loc Cert.PlainSecondIdeal.main_arg1)
      ∧ r.2.mem ((c.tc : Thread Cert.PlainSecondIdeal.nD Cert.PlainSecondIdeal.τ).loc Cert.PlainSecondIdeal.main_arg2) = m ((c.tc : Thread Cert.PlainSecondIdeal.nD Cert.PlainSecondIdeal.τ).loc Cert.PlainSecondIdeal.main_arg2)
      ∧ r.2.mem ((c.tc : Thread Cert.PlainSecondIdeal.nD Cert.PlainSecondIdeal.τ).loc Cert.PlainSecondIdeal.main_arg3) = m ((c.tc : Thread Cert.PlainSecondIdeal.nD Cert.PlainSecondIdeal.τ).loc Cert.PlainSecondIdeal.main_arg3)
      ∧ r.2.mem ((c.tc : Thread Cert.PlainSecondIdeal.nD Cert.PlainSecondIdeal.τ).loc Cert.PlainSecondIdeal.main_arg4) = m ((c.tc : Thread Cert.PlainSecondIdeal.nD Cert.PlainSecondIdeal.τ).loc Cert.PlainSecondIdeal.main_arg4))
      ∧ r.2.sem = fun _ => 0)

def preserves_Kernel_KernelIdeal : Prop :=
  IdealRules.named_const.Statement Cert.KernelIdeal.κ "log2e" .f32 0xBFB8AA3B#32 ((-((Real.log 2)⁻¹) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_PlainExpertsIdeal [hExpertsIdeal : Cert.ExpertsIdeal.Facts] [hPlainExpertsIdeal : Cert.PlainExpertsIdeal.Facts] [hPre_expert_ids : Cert.Pre_expert_ids.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.PlainExpertsIdeal.nD Cert.PlainExpertsIdeal.τ Cert.PlainExpertsIdeal.sig) → Buf (Elt Ideal) ℓ) (g' : Dev Cert.PlainExpertsIdeal.nD → PrngReg), Pre_ExpertsIdeal m →
    (∀ c : Dev Cert.ExpertsIdeal.nD,
      m' ((c.tc : Thread Cert.PlainExpertsIdeal.nD Cert.PlainExpertsIdeal.τ).loc Cert.PlainExpertsIdeal.main_arg0) = m ((c.tc : Thread Cert.ExpertsIdeal.nD Cert.ExpertsIdeal.τ).loc Cert.ExpertsIdeal.main_arg0)
      ∧ m' ((c.tc : Thread Cert.PlainExpertsIdeal.nD Cert.PlainExpertsIdeal.τ).loc Cert.PlainExpertsIdeal.main_arg1) = m ((c.tc : Thread Cert.ExpertsIdeal.nD Cert.ExpertsIdeal.τ).loc Cert.ExpertsIdeal.main_arg1)
      ∧ m' ((c.tc : Thread Cert.PlainExpertsIdeal.nD Cert.PlainExpertsIdeal.τ).loc Cert.PlainExpertsIdeal.main_arg2) = m ((c.tc : Thread Cert.ExpertsIdeal.nD Cert.ExpertsIdeal.τ).loc Cert.ExpertsIdeal.main_arg2)
      ∧ m' ((c.tc : Thread Cert.PlainExpertsIdeal.nD Cert.PlainExpertsIdeal.τ).loc Cert.PlainExpertsIdeal.main_arg3) = m ((c.tc : Thread Cert.ExpertsIdeal.nD Cert.ExpertsIdeal.τ).loc Cert.ExpertsIdeal.main_arg3)
      ∧ m' ((c.tc : Thread Cert.PlainExpertsIdeal.nD Cert.PlainExpertsIdeal.τ).loc Cert.PlainExpertsIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.PlainExpertsIdeal.defs (F := Ideal)) (onTc (τ := Cert.PlainExpertsIdeal.τ) (Cert.PlainExpertsIdeal.main (F := Ideal))) ⟨m', fun _ => 0, g'⟩ (fun r => ∀ c : Dev Cert.PlainExpertsIdeal.nD,
          r.2.mem ((c.tc : Thread Cert.PlainExpertsIdeal.nD Cert.PlainExpertsIdeal.τ).loc Cert.PlainExpertsIdeal.main_v44) = v0 c
          ∧ r.2.mem ((c.tc : Thread Cert.PlainExpertsIdeal.nD Cert.PlainExpertsIdeal.τ).loc Cert.PlainExpertsIdeal.main_arg0) = m' ((c.tc : Thread Cert.PlainExpertsIdeal.nD Cert.PlainExpertsIdeal.τ).loc Cert.PlainExpertsIdeal.main_arg0)
          ∧ r.2.mem ((c.tc : Thread Cert.PlainExpertsIdeal.nD Cert.PlainExpertsIdeal.τ).loc Cert.PlainExpertsIdeal.main_arg1) = m' ((c.tc : Thread Cert.PlainExpertsIdeal.nD Cert.PlainExpertsIdeal.τ).loc Cert.PlainExpertsIdeal.main_arg1)
          ∧ r.2.mem ((c.tc : Thread Cert.PlainExpertsIdeal.nD Cert.PlainExpertsIdeal.τ).loc Cert.PlainExpertsIdeal.main_arg2) = m' ((c.tc : Thread Cert.PlainExpertsIdeal.nD Cert.PlainExpertsIdeal.τ).loc Cert.PlainExpertsIdeal.main_arg2)
          ∧ r.2.mem ((c.tc : Thread Cert.PlainExpertsIdeal.nD Cert.PlainExpertsIdeal.τ).loc Cert.PlainExpertsIdeal.main_arg3) = m' ((c.tc : Thread Cert.PlainExpertsIdeal.nD Cert.PlainExpertsIdeal.τ).loc Cert.PlainExpertsIdeal.main_arg3)
          ∧ r.2.mem ((c.tc : Thread Cert.PlainExpertsIdeal.nD Cert.PlainExpertsIdeal.τ).loc Cert.PlainExpertsIdeal.main_arg4) = m' ((c.tc : Thread Cert.PlainExpertsIdeal.nD Cert.PlainExpertsIdeal.τ).loc Cert.PlainExpertsIdeal.main_arg4))

def preserves_Final_FinalIdeal : Prop :=
  True

def algebraic_FinalIdeal_PlainFinalIdeal [hFinalIdeal : Cert.FinalIdeal.Facts] [hPlainFinalIdeal : Cert.PlainFinalIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.PlainFinalIdeal.nD Cert.PlainFinalIdeal.τ Cert.PlainFinalIdeal.sig) → Buf (Elt Ideal) ℓ) (g' : Dev Cert.PlainFinalIdeal.nD → PrngReg), Pre_FinalIdeal m →
    (∀ c : Dev Cert.FinalIdeal.nD,
      m' ((c.tc : Thread Cert.PlainFinalIdeal.nD Cert.PlainFinalIdeal.τ).loc Cert.PlainFinalIdeal.main_arg0) = m ((c.tc : Thread Cert.FinalIdeal.nD Cert.FinalIdeal.τ).loc Cert.FinalIdeal.main_arg0)
      ∧ m' ((c.tc : Thread Cert.PlainFinalIdeal.nD Cert.PlainFinalIdeal.τ).loc Cert.PlainFinalIdeal.main_arg1) = m ((c.tc : Thread Cert.FinalIdeal.nD Cert.FinalIdeal.τ).loc Cert.FinalIdeal.main_arg1)
      ∧ m' ((c.tc : Thread Cert.PlainFinalIdeal.nD Cert.PlainFinalIdeal.τ).loc Cert.PlainFinalIdeal.main_arg2) = m ((c.tc : Thread Cert.FinalIdeal.nD Cert.FinalIdeal.τ).loc Cert.FinalIdeal.main_arg2)
      ∧ m' ((c.tc : Thread Cert.PlainFinalIdeal.nD Cert.PlainFinalIdeal.τ).loc Cert.PlainFinalIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.PlainFinalIdeal.defs (F := Ideal)) (onTc (τ := Cert.PlainFinalIdeal.τ) (Cert.PlainFinalIdeal.main (F := Ideal))) ⟨m', fun _ => 0, g'⟩ (fun r => ∀ c : Dev Cert.PlainFinalIdeal.nD,
          r.2.mem ((c.tc : Thread Cert.PlainFinalIdeal.nD Cert.PlainFinalIdeal.τ).loc Cert.PlainFinalIdeal.main_v54) = v0 c
          ∧ r.2.mem ((c.tc : Thread Cert.PlainFinalIdeal.nD Cert.PlainFinalIdeal.τ).loc Cert.PlainFinalIdeal.main_arg0) = m' ((c.tc : Thread Cert.PlainFinalIdeal.nD Cert.PlainFinalIdeal.τ).loc Cert.PlainFinalIdeal.main_arg0)
          ∧ r.2.mem ((c.tc : Thread Cert.PlainFinalIdeal.nD Cert.PlainFinalIdeal.τ).loc Cert.PlainFinalIdeal.main_arg1) = m' ((c.tc : Thread Cert.PlainFinalIdeal.nD Cert.PlainFinalIdeal.τ).loc Cert.PlainFinalIdeal.main_arg1)
          ∧ r.2.mem ((c.tc : Thread Cert.PlainFinalIdeal.nD Cert.PlainFinalIdeal.τ).loc Cert.PlainFinalIdeal.main_arg2) = m' ((c.tc : Thread Cert.PlainFinalIdeal.nD Cert.PlainFinalIdeal.τ).loc Cert.PlainFinalIdeal.main_arg2)
          ∧ r.2.mem ((c.tc : Thread Cert.PlainFinalIdeal.nD Cert.PlainFinalIdeal.τ).loc Cert.PlainFinalIdeal.main_arg3) = m' ((c.tc : Thread Cert.PlainFinalIdeal.nD Cert.PlainFinalIdeal.τ).loc Cert.PlainFinalIdeal.main_arg3))

def preserves_Mixer_MixerIdeal : Prop :=
  True

def algebraic_MixerIdeal_PlainMixerIdeal [hMixerIdeal : Cert.MixerIdeal.Facts] [hPlainMixerIdeal : Cert.PlainMixerIdeal.Facts] : Prop :=
  ∀ (m : (ℓ : Loc Cert.MixerIdeal.nD Cert.MixerIdeal.τ Cert.MixerIdeal.sig) → Buf (Elt Ideal) ℓ) (g : Dev Cert.MixerIdeal.nD → PrngReg)
    (m' : (ℓ : Loc Cert.PlainMixerIdeal.nD Cert.PlainMixerIdeal.τ Cert.PlainMixerIdeal.sig) → Buf (Elt Ideal) ℓ) (g' : Dev Cert.PlainMixerIdeal.nD → PrngReg), Pre_MixerIdeal m →
    (∀ c : Dev Cert.MixerIdeal.nD,
      m' ((c.tc : Thread Cert.PlainMixerIdeal.nD Cert.PlainMixerIdeal.τ).loc Cert.PlainMixerIdeal.main_arg0) = m ((c.tc : Thread Cert.MixerIdeal.nD Cert.MixerIdeal.τ).loc Cert.MixerIdeal.main_arg0)
      ∧ m' ((c.tc : Thread Cert.PlainMixerIdeal.nD Cert.PlainMixerIdeal.τ).loc Cert.PlainMixerIdeal.main_arg1) = m ((c.tc : Thread Cert.MixerIdeal.nD Cert.MixerIdeal.τ).loc Cert.MixerIdeal.main_arg1)
      ∧ m' ((c.tc : Thread Cert.PlainMixerIdeal.nD Cert.PlainMixerIdeal.τ).loc Cert.PlainMixerIdeal.main_arg2) = m ((c.tc : Thread Cert.MixerIdeal.nD Cert.MixerIdeal.τ).loc Cert.MixerIdeal.main_arg2)
      ∧ m' ((c.tc : Thread Cert.PlainMixerIdeal.nD Cert.PlainMixerIdeal.τ).loc Cert.PlainMixerIdeal.main_arg3) = m ((c.tc : Thread Cert.MixerIdeal.nD Cert.MixerIdeal.τ).loc Cert.MixerIdeal.main_arg3)
      ∧ m' ((c.tc : Thread Cert.PlainMixerIdeal.nD Cert.PlainMixerIdeal.τ).loc Cert.PlainMixerIdeal.main_arg4) = m ((c.tc : Thread Cert.MixerIdeal.nD Cert.MixerIdeal.τ).loc Cert.MixerIdeal.main_arg4)
      ∧ m' ((c.tc : Thread Cert.PlainMixerIdeal.nD Cert.PlainMixerIdeal.τ).loc Cert.PlainMixerIdeal.main_arg5) = m ((c.tc : Thread Cert.MixerIdeal.nD Cert.MixerIdeal.τ).loc Cert.MixerIdeal.main_arg5)
      ∧ m' ((c.tc : Thread Cert.PlainMixerIdeal.nD Cert.PlainMixerIdeal.τ).loc Cert.PlainMixerIdeal.main_arg6) = m ((c.tc : Thread Cert.MixerIdeal.nD Cert.MixerIdeal.τ).loc Cert.MixerIdeal.main_arg6)
      ∧ m' ((c.tc : Thread Cert.PlainMixerIdeal.nD Cert.PlainMixerIdeal.τ).loc Cert.PlainMixerIdeal.main_arg7) = m ((c.tc : Thread Cert.MixerIdeal.nD Cert.MixerIdeal.τ).loc Cert.MixerIdeal.main_arg7)
      ∧ m' ((c.tc : Thread Cert.PlainMixerIdeal.nD Cert.PlainMixerIdeal.τ).loc Cert.PlainMixerIdeal.main_arg8) = m ((c.tc : Thread Cert.MixerIdeal.nD Cert.MixerIdeal.τ).loc Cert.MixerIdeal.main_arg8)
      ∧ m' ((c.tc : Thread Cert.PlainMixerIdeal.nD Cert.PlainMixerIdeal.τ).loc Cert.PlainMixerIdeal.main_arg9) = m ((c.tc : Thread Cert.MixerIdeal.nD Cert.MixerIdeal.τ).loc Cert.MixerIdeal.main_arg9)
      ∧ m' ((c.tc : Thread Cert.PlainMixerIdeal.nD Cert.PlainMixerIdeal.τ).loc Cert.PlainMixerIdeal.main_arg10) = m ((c.tc : Thread Cert.MixerIdeal.nD Cert.MixerIdeal.τ).loc Cert.MixerIdeal.main_arg10)
      ∧ m' ((c.tc : Thread Cert.PlainMixerIdeal.nD Cert.PlainMixerIdeal.τ).loc Cert.PlainMixerIdeal.main_arg11) = m ((c.tc : Thread Cert.MixerIdeal.nD Cert.MixerIdeal.τ).loc Cert.MixerIdeal.main_arg11)
      ∧ m' ((c.tc : Thread Cert.PlainMixerIdeal.nD Cert.PlainMixerIdeal.τ).loc Cert.PlainMixerIdeal.main_arg12) = m ((c.tc : Thread Cert.MixerIdeal.nD Cert.MixerIdeal.τ).loc Cert.MixerIdeal.main_arg12)) →
    ∃ (v0 : (c : Dev Cert.MixerIdeal.nD) → Buf (Elt Ideal) ((c.tc : Thread Cert.MixerIdeal.nD Cert.MixerIdeal.τ).loc Cert.MixerIdeal.main_v26_0)) (v1 : (c : Dev Cert.MixerIdeal.nD) → Buf (Elt Ideal) ((c.tc : Thread Cert.MixerIdeal.nD Cert.MixerIdeal.τ).loc Cert.MixerIdeal.main_v26_1)),
      θ_run (Cert.MixerIdeal.defs (F := Ideal)) (onTc (τ := Cert.MixerIdeal.τ) (Cert.MixerIdeal.main (F := Ideal))) ⟨m, fun _ => 0, g⟩ (fun r => ∀ c : Dev Cert.MixerIdeal.nD,
          r.2.mem ((c.tc : Thread Cert.MixerIdeal.nD Cert.MixerIdeal.τ).loc Cert.MixerIdeal.main_v26_0) = v0 c
          ∧ r.2.mem ((c.tc : Thread Cert.MixerIdeal.nD Cert.MixerIdeal.τ).loc Cert.MixerIdeal.main_v26_1) = v1 c
          ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
          ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
          ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
          ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
          ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
          ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
          ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
          ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
          ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
          ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
          ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
          ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
          ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12))
      ∧ θ_run (Cert.PlainMixerIdeal.defs (F := Ideal)) (onTc (τ := Cert.PlainMixerIdeal.τ) (Cert.PlainMixerIdeal.main (F := Ideal))) ⟨m', fun _ => 0, g'⟩ (fun r => ∀ c : Dev Cert.PlainMixerIdeal.nD,
          r.2.mem ((c.tc : Thread Cert.PlainMixerIdeal.nD Cert.PlainMixerIdeal.τ).loc Cert.PlainMixerIdeal.main_v95) = v0 c
          ∧ r.2.mem ((c.tc : Thread Cert.PlainMixerIdeal.nD Cert.PlainMixerIdeal.τ).loc Cert.PlainMixerIdeal.main_v111) = v1 c
          ∧ r.2.mem ((c.tc : Thread Cert.PlainMixerIdeal.nD Cert.PlainMixerIdeal.τ).loc Cert.PlainMixerIdeal.main_arg0) = m' ((c.tc : Thread Cert.PlainMixerIdeal.nD Cert.PlainMixerIdeal.τ).loc Cert.PlainMixerIdeal.main_arg0)
          ∧ r.2.mem ((c.tc : Thread Cert.PlainMixerIdeal.nD Cert.PlainMixerIdeal.τ).loc Cert.PlainMixerIdeal.main_arg1) = m' ((c.tc : Thread Cert.PlainMixerIdeal.nD Cert.PlainMixerIdeal.τ).loc Cert.PlainMixerIdeal.main_arg1)
          ∧ r.2.mem ((c.tc : Thread Cert.PlainMixerIdeal.nD Cert.PlainMixerIdeal.τ).loc Cert.PlainMixerIdeal.main_arg2) = m' ((c.tc : Thread Cert.PlainMixerIdeal.nD Cert.PlainMixerIdeal.τ).loc Cert.PlainMixerIdeal.main_arg2)
          ∧ r.2.mem ((c.tc : Thread Cert.PlainMixerIdeal.nD Cert.PlainMixerIdeal.τ).loc Cert.PlainMixerIdeal.main_arg3) = m' ((c.tc : Thread Cert.PlainMixerIdeal.nD Cert.PlainMixerIdeal.τ).loc Cert.PlainMixerIdeal.main_arg3)
          ∧ r.2.mem ((c.tc : Thread Cert.PlainMixerIdeal.nD Cert.PlainMixerIdeal.τ).loc Cert.PlainMixerIdeal.main_arg4) = m' ((c.tc : Thread Cert.PlainMixerIdeal.nD Cert.PlainMixerIdeal.τ).loc Cert.PlainMixerIdeal.main_arg4)
          ∧ r.2.mem ((c.tc : Thread Cert.PlainMixerIdeal.nD Cert.PlainMixerIdeal.τ).loc Cert.PlainMixerIdeal.main_arg5) = m' ((c.tc : Thread Cert.PlainMixerIdeal.nD Cert.PlainMixerIdeal.τ).loc Cert.PlainMixerIdeal.main_arg5)
          ∧ r.2.mem ((c.tc : Thread Cert.PlainMixerIdeal.nD Cert.PlainMixerIdeal.τ).loc Cert.PlainMixerIdeal.main_arg6) = m' ((c.tc : Thread Cert.PlainMixerIdeal.nD Cert.PlainMixerIdeal.τ).loc Cert.PlainMixerIdeal.main_arg6)
          ∧ r.2.mem ((c.tc : Thread Cert.PlainMixerIdeal.nD Cert.PlainMixerIdeal.τ).loc Cert.PlainMixerIdeal.main_arg7) = m' ((c.tc : Thread Cert.PlainMixerIdeal.nD Cert.PlainMixerIdeal.τ).loc Cert.PlainMixerIdeal.main_arg7)
          ∧ r.2.mem ((c.tc : Thread Cert.PlainMixerIdeal.nD Cert.PlainMixerIdeal.τ).loc Cert.PlainMixerIdeal.main_arg8) = m' ((c.tc : Thread Cert.PlainMixerIdeal.nD Cert.PlainMixerIdeal.τ).loc Cert.PlainMixerIdeal.main_arg8)
          ∧ r.2.mem ((c.tc : Thread Cert.PlainMixerIdeal.nD Cert.PlainMixerIdeal.τ).loc Cert.PlainMixerIdeal.main_arg9) = m' ((c.tc : Thread Cert.PlainMixerIdeal.nD Cert.PlainMixerIdeal.τ).loc Cert.PlainMixerIdeal.main_arg9)
          ∧ r.2.mem ((c.tc : Thread Cert.PlainMixerIdeal.nD Cert.PlainMixerIdeal.τ).loc Cert.PlainMixerIdeal.main_arg10) = m' ((c.tc : Thread Cert.PlainMixerIdeal.nD Cert.PlainMixerIdeal.τ).loc Cert.PlainMixerIdeal.main_arg10)
          ∧ r.2.mem ((c.tc : Thread Cert.PlainMixerIdeal.nD Cert.PlainMixerIdeal.τ).loc Cert.PlainMixerIdeal.main_arg11) = m' ((c.tc : Thread Cert.PlainMixerIdeal.nD Cert.PlainMixerIdeal.τ).loc Cert.PlainMixerIdeal.main_arg11)
          ∧ r.2.mem ((c.tc : Thread Cert.PlainMixerIdeal.nD Cert.PlainMixerIdeal.τ).loc Cert.PlainMixerIdeal.main_arg12) = m' ((c.tc : Thread Cert.PlainMixerIdeal.nD Cert.PlainMixerIdeal.τ).loc Cert.PlainMixerIdeal.main_arg12))

def preserves_Second_SecondIdeal : Prop :=
  True

def algebraic_SecondIdeal_PlainSecondIdeal [hSecondIdeal : Cert.SecondIdeal.Facts] [hPlainSecondIdeal : Cert.PlainSecondIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.PlainSecondIdeal.nD Cert.PlainSecondIdeal.τ Cert.PlainSecondIdeal.sig) → Buf (Elt Ideal) ℓ) (g' : Dev Cert.PlainSecondIdeal.nD → PrngReg), Pre_SecondIdeal m →
    (∀ c : Dev Cert.SecondIdeal.nD,
      m' ((c.tc : Thread Cert.PlainSecondIdeal.nD Cert.PlainSecondIdeal.τ).loc Cert.PlainSecondIdeal.main_arg0) = m ((c.tc : Thread Cert.SecondIdeal.nD Cert.SecondIdeal.τ).loc Cert.SecondIdeal.main_arg0)
      ∧ m' ((c.tc : Thread Cert.PlainSecondIdeal.nD Cert.PlainSecondIdeal.τ).loc Cert.PlainSecondIdeal.main_arg1) = m ((c.tc : Thread Cert.SecondIdeal.nD Cert.SecondIdeal.τ).loc Cert.SecondIdeal.main_arg1)
      ∧ m' ((c.tc : Thread Cert.PlainSecondIdeal.nD Cert.PlainSecondIdeal.τ).loc Cert.PlainSecondIdeal.main_arg2) = m ((c.tc : Thread Cert.SecondIdeal.nD Cert.SecondIdeal.τ).loc Cert.SecondIdeal.main_arg2)
      ∧ m' ((c.tc : Thread Cert.PlainSecondIdeal.nD Cert.PlainSecondIdeal.τ).loc Cert.PlainSecondIdeal.main_arg3) = m ((c.tc : Thread Cert.SecondIdeal.nD Cert.SecondIdeal.τ).loc Cert.SecondIdeal.main_arg3)
      ∧ m' ((c.tc : Thread Cert.PlainSecondIdeal.nD Cert.PlainSecondIdeal.τ).loc Cert.PlainSecondIdeal.main_arg4) = m ((c.tc : Thread Cert.SecondIdeal.nD Cert.SecondIdeal.τ).loc Cert.SecondIdeal.main_arg4)) →
    ∃ (v0 : (c : Dev Cert.SecondIdeal.nD) → Buf (Elt Ideal) ((c.tc : Thread Cert.SecondIdeal.nD Cert.SecondIdeal.τ).loc Cert.SecondIdeal.main_v1)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v1) = v0 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4))
      ∧ θ_run (Cert.PlainSecondIdeal.defs (F := Ideal)) (onTc (τ := Cert.PlainSecondIdeal.τ) (Cert.PlainSecondIdeal.main (F := Ideal))) ⟨m', fun _ => 0, g'⟩ (fun r => ∀ c : Dev Cert.PlainSecondIdeal.nD,
          r.2.mem ((c.tc : Thread Cert.PlainSecondIdeal.nD Cert.PlainSecondIdeal.τ).loc Cert.PlainSecondIdeal.main_v56) = v0 c
          ∧ r.2.mem ((c.tc : Thread Cert.PlainSecondIdeal.nD Cert.PlainSecondIdeal.τ).loc Cert.PlainSecondIdeal.main_arg0) = m' ((c.tc : Thread Cert.PlainSecondIdeal.nD Cert.PlainSecondIdeal.τ).loc Cert.PlainSecondIdeal.main_arg0)
          ∧ r.2.mem ((c.tc : Thread Cert.PlainSecondIdeal.nD Cert.PlainSecondIdeal.τ).loc Cert.PlainSecondIdeal.main_arg1) = m' ((c.tc : Thread Cert.PlainSecondIdeal.nD Cert.PlainSecondIdeal.τ).loc Cert.PlainSecondIdeal.main_arg1)
          ∧ r.2.mem ((c.tc : Thread Cert.PlainSecondIdeal.nD Cert.PlainSecondIdeal.τ).loc Cert.PlainSecondIdeal.main_arg2) = m' ((c.tc : Thread Cert.PlainSecondIdeal.nD Cert.PlainSecondIdeal.τ).loc Cert.PlainSecondIdeal.main_arg2)
          ∧ r.2.mem ((c.tc : Thread Cert.PlainSecondIdeal.nD Cert.PlainSecondIdeal.τ).loc Cert.PlainSecondIdeal.main_arg3) = m' ((c.tc : Thread Cert.PlainSecondIdeal.nD Cert.PlainSecondIdeal.τ).loc Cert.PlainSecondIdeal.main_arg3)
          ∧ r.2.mem ((c.tc : Thread Cert.PlainSecondIdeal.nD Cert.PlainSecondIdeal.τ).loc Cert.PlainSecondIdeal.main_arg4) = m' ((c.tc : Thread Cert.PlainSecondIdeal.nD Cert.PlainSecondIdeal.τ).loc Cert.PlainSecondIdeal.main_arg4))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hPlainExpertsIdeal : Cert.PlainExpertsIdeal.Facts) (hFinal : Cert.Final.Facts) (hFinalIdeal : Cert.FinalIdeal.Facts) (hPlainFinalIdeal : Cert.PlainFinalIdeal.Facts) (hMixer : Cert.Mixer.Facts) (hMixerIdeal : Cert.MixerIdeal.Facts) (hPlainMixerIdeal : Cert.PlainMixerIdeal.Facts) (hSecond : Cert.Second.Facts) (hSecondIdeal : Cert.SecondIdeal.Facts) (hPlainSecondIdeal : Cert.PlainSecondIdeal.Facts) (hPre_finite : Cert.Pre_finite.Facts) (hPre_expert_ids : Cert.Pre_expert_ids.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_expert_ids := hPre_expert_ids)
    ∧ quiescent_ExpertsIdeal (hExpertsIdeal := hExpertsIdeal) (hPre_expert_ids := hPre_expert_ids)
    ∧ quiescent_PlainExpertsIdeal (hPlainExpertsIdeal := hPlainExpertsIdeal)
    ∧ quiescent_PlainExpertsIdeal_pre_expert_ids (hPlainExpertsIdeal := hPlainExpertsIdeal) (hPre_expert_ids := hPre_expert_ids)
    ∧ quiescent_Final (hFinal := hFinal)
    ∧ quiescent_FinalIdeal (hFinalIdeal := hFinalIdeal)
    ∧ quiescent_PlainFinalIdeal (hPlainFinalIdeal := hPlainFinalIdeal)
    ∧ quiescent_Mixer (hMixer := hMixer)
    ∧ quiescent_MixerIdeal (hMixerIdeal := hMixerIdeal)
    ∧ quiescent_PlainMixerIdeal (hPlainMixerIdeal := hPlainMixerIdeal)
    ∧ quiescent_Second (hSecond := hSecond)
    ∧ quiescent_SecondIdeal (hSecondIdeal := hSecondIdeal)
    ∧ quiescent_PlainSecondIdeal (hPlainSecondIdeal := hPlainSecondIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_PlainExpertsIdeal (hExpertsIdeal := hExpertsIdeal) (hPlainExpertsIdeal := hPlainExpertsIdeal) (hPre_expert_ids := hPre_expert_ids)
    ∧ preserves_Final_FinalIdeal
    ∧ algebraic_FinalIdeal_PlainFinalIdeal (hFinalIdeal := hFinalIdeal) (hPlainFinalIdeal := hPlainFinalIdeal)
    ∧ preserves_Mixer_MixerIdeal
    ∧ algebraic_MixerIdeal_PlainMixerIdeal (hMixerIdeal := hMixerIdeal) (hPlainMixerIdeal := hPlainMixerIdeal)
    ∧ preserves_Second_SecondIdeal
    ∧ algebraic_SecondIdeal_PlainSecondIdeal (hSecondIdeal := hSecondIdeal) (hPlainSecondIdeal := hPlainSecondIdeal)
-- ==== Pre_expert_ids.lean ====
abbrev S2x81920x256 : Shape := ⟨3, ![2, 81920, 256]⟩
abbrev S160 : Shape := ⟨1, ![160]⟩
abbrev S1 : Shape := ⟨1, ![1]⟩
abbrev S32x1024x512 : Shape := ⟨3, ![32, 1024, 512]⟩
abbrev S32x256x1024 : Shape := ⟨3, ![32, 256, 1024]⟩
abbrev S_ : Shape := ⟨0, ![]⟩

class Facts : Prop where
  bcast_S_S160 : S_.BroadcastsInDim S160 (![] : Fin 0 → Fin S160.rank)
  reducesTo_S160_S_d0 : S160.ReducesTo [0] S_
  h_S_ : 0 < S_.numel

variable [Facts]

def fn {F : FTy → Type} [FloatOps F] (main_arg0 : IVec S2x81920x256 32) (main_arg1 : IVec S160 32) (main_arg2 : IVec S1 32) (main_arg3 : FVec F S32x1024x512 .bf16) (main_arg4 : FVec F S32x256x1024 .bf16) : IVec S_ 1 :=
  let main_c : IVec S_ 32 := constantI S_ 32 0#32
  let main_v0 : IVec S160 32 := broadcastInDim S160 ![] bcast_S_S160 main_c
  let main_v1 : IVec S160 1 := cmpi .sge main_arg1 main_v0
  let main_c_0 : IVec S_ 32 := constantI S_ 32 32#32
  let main_v2 : IVec S160 32 := broadcastInDim S160 ![] bcast_S_S160 main_c_0
  let main_v3 : IVec S160 1 := cmpi .slt main_arg1 main_v2
  let main_v4 : IVec S160 1 := andi main_v1 main_v3
  let main_c_1 : IVec S_ 1 := constantI S_ 1 1#1
  let main_v5 : IVec S_ 1 := (fun x v => Host.reduce IntOp.andi x v reducesTo_S160_S_d0 h_S_) main_v4 main_c_1
  main_v5
-- ==== Pre_finite.lean ====
abbrev S4x4x8192x64 : Shape := ⟨4, ![4, 4, 8192, 64]⟩
abbrev S_ : Shape := ⟨0, ![]⟩

class Facts : Prop where
  bcast_S_S4x4x8192x64 : S_.BroadcastsInDim S4x4x8192x64 (![] : Fin 0 → Fin S4x4x8192x64.rank)
  reducesTo_S4x4x8192x64_S_d0_1_2_3 : S4x4x8192x64.ReducesTo [0, 1, 2, 3] S_
  h_S_ : 0 < S_.numel

variable [Facts]

def fn {F : FTy → Type} [FloatOps F] (main_arg0 : FVec F S4x4x8192x64 .f32) (main_arg1 : FVec F S4x4x8192x64 .f32) (main_arg2 : FVec F S4x4x8192x64 .f32) : IVec S_ 1 :=
  let main_v0 : FVec F S4x4x8192x64 .f32 := Host.absf main_arg0
  let main_cst : FVec F S_ .f32 := constant S_ .f32 0x7F800000#32
  let main_v1 : FVec F S4x4x8192x64 .f32 := broadcastInDim S4x4x8192x64 ![] bcast_S_S4x4x8192x64 main_cst
  let main_v2 : IVec S4x4x8192x64 1 := cmpf .olt main_v0 main_v1
  let main_c : IVec S_ 1 := constantI S_ 1 1#1
  let main_v3 : IVec S_ 1 := (fun x v => Host.reduce IntOp.andi x v reducesTo_S4x4x8192x64_S_d0_1_2_3 h_S_) main_v2 main_c
  let main_v4 : FVec F S4x4x8192x64 .f32 := Host.absf main_arg1
  let main_cst_0 : FVec F S_ .f32 := constant S_ .f32 0x7F800000#32
  let main_v5 : FVec F S4x4x8192x64 .f32 := broadcastInDim S4x4x8192x64 ![] bcast_S_S4x4x8192x64 main_cst_0
  let main_v6 : IVec S4x4x8192x64 1 := cmpf .olt main_v4 main_v5
  let main_c_1 : IVec S_ 1 := constantI S_ 1 1#1
  let main_v7 : IVec S_ 1 := (fun x v => Host.reduce IntOp.andi x v reducesTo_S4x4x8192x64_S_d0_1_2_3 h_S_) main_v6 main_c_1
  let main_v8 : IVec S_ 1 := andi main_v3 main_v7
  let main_v9 : FVec F S4x4x8192x64 .f32 := Host.absf main_arg2
  let main_cst_2 : FVec F S_ .f32 := constant S_ .f32 0x7F800000#32
  let main_v10 : FVec F S4x4x8192x64 .f32 := broadcastInDim S4x4x8192x64 ![] bcast_S_S4x4x8192x64 main_cst_2
  let main_v11 : IVec S4x4x8192x64 1 := cmpf .olt main_v9 main_v10
  let main_c_3 : IVec S_ 1 := constantI S_ 1 1#1
  let main_v12 : IVec S_ 1 := (fun x v => Host.reduce IntOp.andi x v reducesTo_S4x4x8192x64_S_d0_1_2_3 h_S_) main_v11 main_c_3
  let main_v13 : IVec S_ 1 := andi main_v8 main_v12
  main_v13
-- ==== Kernel.lean ====
abbrev S4x4x8192x64 : Shape := ⟨4, ![4, 4, 8192, 64]⟩
abbrev S_ : Shape := ⟨0, ![]⟩
abbrev S4x8x8192x128 : Shape := ⟨4, ![4, 8, 8192, 128]⟩
abbrev S4x8x32x256x128 : Shape := ⟨5, ![4, 8, 32, 256, 128]⟩
abbrev S4x8x32x128x256 : Shape := ⟨5, ![4, 8, 32, 128, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x8192x256 : Shape := ⟨3, ![4, 8192, 256]⟩
abbrev S1x4x256x128 : Shape := ⟨4, ![1, 4, 256, 128]⟩
abbrev S1x4x32x128x256 : Shape := ⟨5, ![1, 4, 32, 128, 256]⟩
abbrev S1x4x8192x128 : Shape := ⟨4, ![1, 4, 8192, 128]⟩
abbrev S1x256x256 : Shape := ⟨3, ![1, 256, 256]⟩
abbrev S1x1x256x128 : Shape := ⟨4, ![1, 1, 256, 128]⟩
abbrev S256x128 : Shape := ⟨2, ![256, 128]⟩
abbrev S1x1x1x128x256 : Shape := ⟨5, ![1, 1, 1, 128, 256]⟩
abbrev S128x256 : Shape := ⟨2, ![128, 256]⟩

abbrev nBuf : Space → Nat
  | .hbm => 28
  | .vmem => 9
  | .smem => 0
  | _ => 0

abbrev bufTy : (tb : Table) → Fin (tcTables nBuf tb) → BufTy
  | .hbm, ⟨0, _⟩ => ⟨S4x4x8192x64, .f32⟩
  | .hbm, ⟨1, _⟩ => ⟨S4x4x8192x64, .f32⟩
  | .hbm, ⟨2, _⟩ => ⟨S4x4x8192x64, .f32⟩
  | .hbm, ⟨3, _⟩ => ⟨S_, .f32⟩
  | .hbm, ⟨4, _⟩ => ⟨S4x4x8192x64, .f32⟩
  | .hbm, ⟨5, _⟩ => ⟨S4x4x8192x64, .f32⟩
  | .hbm, ⟨6, _⟩ => ⟨S4x4x8192x64, .bf16⟩
  | .hbm, ⟨7, _⟩ => ⟨S_, .i32⟩
  | .hbm, ⟨8, _⟩ => ⟨S_, .bf16⟩
  | .hbm, ⟨9, _⟩ => ⟨S4x8x8192x128, .bf16⟩
  | .hbm, ⟨10, _⟩ => ⟨S4x4x8192x64, .bf16⟩
  | .hbm, ⟨11, _⟩ => ⟨S_, .i32⟩
  | .hbm, ⟨12, _⟩ => ⟨S_, .bf16⟩
  | .hbm, ⟨13, _⟩ => ⟨S4x8x8192x128, .bf16⟩
  | .hbm, ⟨14, _⟩ => ⟨S4x4x8192x64, .bf16⟩
  | .hbm, ⟨15, _⟩ => ⟨S_, .i32⟩
  | .hbm, ⟨16, _⟩ => ⟨S_, .bf16⟩
  | .hbm, ⟨17, _⟩ => ⟨S4x8x8192x128, .bf16⟩
  | .hbm, ⟨18, _⟩ => ⟨S4x8x32x256x128, .bf16⟩
  | .hbm, ⟨19, _⟩ => ⟨S4x8x32x128x256, .bf16⟩
  | .hbm, ⟨20, _⟩ => ⟨S256, .i32⟩
  | .hbm, ⟨21, _⟩ => ⟨S256x1, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .bf16⟩
  | .hbm, ⟨27, _⟩ => ⟨S4x8192x256, .bf16⟩
  | .local _ .vmem, ⟨0, _⟩ => ⟨S1x4x256x128, .bf16⟩
  | .local _ .vmem, ⟨1, _⟩ => ⟨S1x4x256x128, .bf16⟩
  | .local _ .vmem, ⟨2, _⟩ => ⟨S1x4x32x128x256, .bf16⟩
  | .local _ .vmem, ⟨3, _⟩ => ⟨S1x4x32x128x256, .bf16⟩
  | .local _ .vmem, ⟨4, _⟩ => ⟨S1x4x8192x128, .bf16⟩
  | .local _ .vmem, ⟨5, _⟩ => ⟨S1x4x8192x128, .bf16⟩
  | .local _ .vmem, ⟨6, _⟩ => ⟨S256x256, .bf16⟩
  | .local _ .vmem, ⟨7, _⟩ => ⟨S1x256x256, .bf16⟩
  | .local _ .vmem, ⟨8, _⟩ => ⟨S1x256x256, .bf16⟩
  | _, _ => ⟨S4x4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call2_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 1, 32], ![false, false, false]⟩

def k0_cond1 (i : grid0.Coords) : BitVec 1 :=
  let arg2 : BitVec 32 := BitVec.ofNat 32 (i 2).val
  let c4_i32_25 : BitVec 32 := 4#32
  let c0_i32_26 : BitVec 32 := 0#32
  let v38 : BitVec 1 := Scalar.cmpi .eq c4_i32_25 c0_i32_26
  let c1_i32_27 : BitVec 32 := 1#32
  let v39 : BitVec 32 := Scalar.select v38 c1_i32_27 c4_i32_25
  let v40 : BitVec 32 := Scalar.remsi arg2 v39
  let c0_i32_29 : BitVec 32 := 0#32
  let v42 : BitVec 1 := Scalar.cmpi .slt v40 c0_i32_29
  let c0_i32_30 : BitVec 32 := 0#32
  let v43 : BitVec 1 := Scalar.cmpi .slt v39 c0_i32_30
  let v44 : BitVec 1 := Scalar.xori v42 v43
  let c0_i32_28 : BitVec 32 := 0#32
  let v41 : BitVec 1 := Scalar.cmpi .ne v40 c0_i32_28
  let v45 : BitVec 1 := Scalar.andi v44 v41
  let v46 : BitVec 32 := Scalar.addi v40 v39
  let v47 : BitVec 32 := Scalar.select v45 v46 v40
  let c0_i32_31 : BitVec 32 := 0#32
  let v48 : BitVec 32 := Scalar.maxsi v47 c0_i32_31
  let c3_i32 : BitVec 32 := 3#32
  let v49 : BitVec 32 := Scalar.minsi v48 c3_i32
  let c0_i32_32 : BitVec 32 := 0#32
  let v50 : BitVec 1 := Scalar.cmpi .ne v49 c0_i32_32
  v50

def k0_cond2 (i : grid0.Coords) : BitVec 1 :=
  let arg2 : BitVec 32 := BitVec.ofNat 32 (i 2).val
  let c4_i32_25 : BitVec 32 := 4#32
  let c0_i32_26 : BitVec 32 := 0#32
  let v38 : BitVec 1 := Scalar.cmpi .eq c4_i32_25 c0_i32_26
  let c1_i32_27 : BitVec 32 := 1#32
  let v39 : BitVec 32 := Scalar.select v38 c1_i32_27 c4_i32_25
  let v40 : BitVec 32 := Scalar.remsi arg2 v39
  let c0_i32_29 : BitVec 32 := 0#32
  let v42 : BitVec 1 := Scalar.cmpi .slt v40 c0_i32_29
  let c0_i32_30 : BitVec 32 := 0#32
  let v43 : BitVec 1 := Scalar.cmpi .slt v39 c0_i32_30
  let v44 : BitVec 1 := Scalar.xori v42 v43
  let c0_i32_28 : BitVec 32 := 0#32
  let v41 : BitVec 1 := Scalar.cmpi .ne v40 c0_i32_28
  let v45 : BitVec 1 := Scalar.andi v44 v41
  let v46 : BitVec 32 := Scalar.addi v40 v39
  let v47 : BitVec 32 := Scalar.select v45 v46 v40
  let c0_i32_31 : BitVec 32 := 0#32
  let v48 : BitVec 32 := Scalar.maxsi v47 c0_i32_31
  let c3_i32 : BitVec 32 := 3#32
  let v49 : BitVec 32 := Scalar.minsi v48 c3_i32
  let c1_i32_152 : BitVec 32 := 1#32
  let v202 : BitVec 32 := Scalar.subi v49 c1_i32_152
  let c0_i32_153 : BitVec 32 := 0#32
  let v203 : BitVec 1 := Scalar.cmpi .ne v202 c0_i32_153
  v203

def k0_cond3 (i : grid0.Coords) : BitVec 1 :=
  let arg2 : BitVec 32 := BitVec.ofNat 32 (i 2).val
  let c4_i32_25 : BitVec 32 := 4#32
  let c0_i32_26 : BitVec 32 := 0#32
  let v38 : BitVec 1 := Scalar.cmpi .eq c4_i32_25 c0_i32_26
  let c1_i32_27 : BitVec 32 := 1#32
  let v39 : BitVec 32 := Scalar.select v38 c1_i32_27 c4_i32_25
  let v40 : BitVec 32 := Scalar.remsi arg2 v39
  let c0_i32_29 : BitVec 32 := 0#32
  let v42 : BitVec 1 := Scalar.cmpi .slt v40 c0_i32_29
  let c0_i32_30 : BitVec 32 := 0#32
  let v43 : BitVec 1 := Scalar.cmpi .slt v39 c0_i32_30
  let v44 : BitVec 1 := Scalar.xori v42 v43
  let c0_i32_28 : BitVec 32 := 0#32
  let v41 : BitVec 1 := Scalar.cmpi .ne v40 c0_i32_28
  let v45 : BitVec 1 := Scalar.andi v44 v41
  let v46 : BitVec 32 := Scalar.addi v40 v39
  let v47 : BitVec 32 := Scalar.select v45 v46 v40
  let c0_i32_31 : BitVec 32 := 0#32
  let v48 : BitVec 32 := Scalar.maxsi v47 c0_i32_31
  let c3_i32 : BitVec 32 := 3#32
  let v49 : BitVec 32 := Scalar.minsi v48 c3_i32
  let c1_i32_152 : BitVec 32 := 1#32
  let v202 : BitVec 32 := Scalar.subi v49 c1_i32_152
  let c1_i32_154 : BitVec 32 := 1#32
  let v205 : BitVec 32 := Scalar.subi v202 c1_i32_154
  let c0_i32_155 : BitVec 32 := 0#32
  let v206 : BitVec 1 := Scalar.cmpi .ne v205 c0_i32_155
  v206

def k0_off1 (i : grid0.Coords) (c3_i32_157 : BitVec 32) : Fin 5 → Nat :=
  let c0_158 : Index := 0#32
  let c0_159 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_156 : BitVec 32 := 4#32
  let v208 : BitVec 32 := Scalar.muli v29 c4_i32_156
  let v209 : BitVec 32 := Scalar.addi v208 c3_i32_157
  let v210 : Index := Scalar.indexCast v209
  let c0_160 : Index := 0#32
  let c0_161 : Index := 0#32
  ![0, 0, v210.toNat, 0, 0]
def k0_off2 (i : grid0.Coords) (c3_i32_203 : BitVec 32) : Fin 5 → Nat :=
  let c0_204 : Index := 0#32
  let c1_205 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_202 : BitVec 32 := 4#32
  let v312 : BitVec 32 := Scalar.muli v29 c4_i32_202
  let v313 : BitVec 32 := Scalar.addi v312 c3_i32_203
  let v314 : Index := Scalar.indexCast v313
  let c0_206 : Index := 0#32
  let c0_207 : Index := 0#32
  ![0, 1, v314.toNat, 0, 0]
def k0_off3 (i : grid0.Coords) (c3_i32_249 : BitVec 32) : Fin 5 → Nat :=
  let c0_250 : Index := 0#32
  let c2_251 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_248 : BitVec 32 := 4#32
  let v416 : BitVec 32 := Scalar.muli v29 c4_i32_248
  let v417 : BitVec 32 := Scalar.addi v416 c3_i32_249
  let v418 : Index := Scalar.indexCast v417
  let c0_252 : Index := 0#32
  let c0_253 : Index := 0#32
  ![0, 2, v418.toNat, 0, 0]
def k0_off4 (i : grid0.Coords) (c3_i32_295 : BitVec 32) : Fin 5 → Nat :=
  let c0_296 : Index := 0#32
  let c3_297 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_294 : BitVec 32 := 4#32
  let v520 : BitVec 32 := Scalar.muli v29 c4_i32_294
  let v521 : BitVec 32 := Scalar.addi v520 c3_i32_295
  let v522 : Index := Scalar.indexCast v521
  let c0_298 : Index := 0#32
  let c0_299 : Index := 0#32
  ![0, 3, v522.toNat, 0, 0]
def k0_off5 (i : grid0.Coords) (c2_i32_158 : BitVec 32) : Fin 5 → Nat :=
  let c0_159 : Index := 0#32
  let c0_160 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_157 : BitVec 32 := 4#32
  let v209 : BitVec 32 := Scalar.muli v29 c4_i32_157
  let v210 : BitVec 32 := Scalar.addi v209 c2_i32_158
  let v211 : Index := Scalar.indexCast v210
  let c0_161 : Index := 0#32
  let c0_162 : Index := 0#32
  ![0, 0, v211.toNat, 0, 0]
def k0_off6 (i : grid0.Coords) (c2_i32_194 : BitVec 32) : Fin 5 → Nat :=
  let c0_195 : Index := 0#32
  let c1_196 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_193 : BitVec 32 := 4#32
  let v289 : BitVec 32 := Scalar.muli v29 c4_i32_193
  let v290 : BitVec 32 := Scalar.addi v289 c2_i32_194
  let v291 : Index := Scalar.indexCast v290
  let c0_197 : Index := 0#32
  let c0_198 : Index := 0#32
  ![0, 1, v291.toNat, 0, 0]
def k0_off7 (i : grid0.Coords) (c2_i32_230 : BitVec 32) : Fin 5 → Nat :=
  let c0_231 : Index := 0#32
  let c2_232 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_229 : BitVec 32 := 4#32
  let v369 : BitVec 32 := Scalar.muli v29 c4_i32_229
  let v370 : BitVec 32 := Scalar.addi v369 c2_i32_230
  let v371 : Index := Scalar.indexCast v370
  let c0_233 : Index := 0#32
  let c0_234 : Index := 0#32
  ![0, 2, v371.toNat, 0, 0]
def k0_off8 (i : grid0.Coords) (c2_i32_266 : BitVec 32) : Fin 5 → Nat :=
  let c0_267 : Index := 0#32
  let c3_268 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_265 : BitVec 32 := 4#32
  let v449 : BitVec 32 := Scalar.muli v29 c4_i32_265
  let v450 : BitVec 32 := Scalar.addi v449 c2_i32_266
  let v451 : Index := Scalar.indexCast v450
  let c0_269 : Index := 0#32
  let c0_270 : Index := 0#32
  ![0, 3, v451.toNat, 0, 0]
def k0_off9 (i : grid0.Coords) (c1_i32_156 : BitVec 32) : Fin 5 → Nat :=
  let c0_157 : Index := 0#32
  let c0_158 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_155 : BitVec 32 := 4#32
  let v206 : BitVec 32 := Scalar.muli v29 c4_i32_155
  let v207 : BitVec 32 := Scalar.addi v206 c1_i32_156
  let v208 : Index := Scalar.indexCast v207
  let c0_159 : Index := 0#32
  let c0_160 : Index := 0#32
  ![0, 0, v208.toNat, 0, 0]
def k0_off10 (i : grid0.Coords) (c1_i32_181 : BitVec 32) : Fin 5 → Nat :=
  let c0_182 : Index := 0#32
  let c1_183 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_180 : BitVec 32 := 4#32
  let v261 : BitVec 32 := Scalar.muli v29 c4_i32_180
  let v262 : BitVec 32 := Scalar.addi v261 c1_i32_181
  let v263 : Index := Scalar.indexCast v262
  let c0_184 : Index := 0#32
  let c0_185 : Index := 0#32
  ![0, 1, v263.toNat, 0, 0]
def k0_off11 (i : grid0.Coords) (c1_i32_206 : BitVec 32) : Fin 5 → Nat :=
  let c0_207 : Index := 0#32
  let c2_208 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_205 : BitVec 32 := 4#32
  let v316 : BitVec 32 := Scalar.muli v29 c4_i32_205
  let v317 : BitVec 32 := Scalar.addi v316 c1_i32_206
  let v318 : Index := Scalar.indexCast v317
  let c0_209 : Index := 0#32
  let c0_210 : Index := 0#32
  ![0, 2, v318.toNat, 0, 0]
def k0_off12 (i : grid0.Coords) (c1_i32_231 : BitVec 32) : Fin 5 → Nat :=
  let c0_232 : Index := 0#32
  let c3_233 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_230 : BitVec 32 := 4#32
  let v371 : BitVec 32 := Scalar.muli v29 c4_i32_230
  let v372 : BitVec 32 := Scalar.addi v371 c1_i32_231
  let v373 : Index := Scalar.indexCast v372
  let c0_234 : Index := 0#32
  let c0_235 : Index := 0#32
  ![0, 3, v373.toNat, 0, 0]
def k0_off13 (i : grid0.Coords) : Fin 5 → Nat :=
  let c0_155 : Index := 0#32
  let c0_156 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_153 : BitVec 32 := 4#32
  let v203 : BitVec 32 := Scalar.muli v29 c4_i32_153
  let c0_i32_154 : BitVec 32 := 0#32
  let v204 : BitVec 32 := Scalar.addi v203 c0_i32_154
  let v205 : Index := Scalar.indexCast v204
  let c0_157 : Index := 0#32
  let c0_158 : Index := 0#32
  ![0, 0, v205.toNat, 0, 0]
def k0_off14 (i : grid0.Coords) : Fin 5 → Nat :=
  let c0_169 : Index := 0#32
  let c1_170 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_167 : BitVec 32 := 4#32
  let v233 : BitVec 32 := Scalar.muli v29 c4_i32_167
  let c0_i32_168 : BitVec 32 := 0#32
  let v234 : BitVec 32 := Scalar.addi v233 c0_i32_168
  let v235 : Index := Scalar.indexCast v234
  let c0_171 : Index := 0#32
  let c0_172 : Index := 0#32
  ![0, 1, v235.toNat, 0, 0]
def k0_off15 (i : grid0.Coords) : Fin 5 → Nat :=
  let c0_183 : Index := 0#32
  let c2_184 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_181 : BitVec 32 := 4#32
  let v263 : BitVec 32 := Scalar.muli v29 c4_i32_181
  let c0_i32_182 : BitVec 32 := 0#32
  let v264 : BitVec 32 := Scalar.addi v263 c0_i32_182
  let v265 : Index := Scalar.indexCast v264
  let c0_185 : Index := 0#32
  let c0_186 : Index := 0#32
  ![0, 2, v265.toNat, 0, 0]
def k0_off16 (i : grid0.Coords) : Fin 5 → Nat :=
  let c0_197 : Index := 0#32
  let c3_198 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c4_i32_195 : BitVec 32 := 4#32
  let v293 : BitVec 32 := Scalar.muli v29 c4_i32_195
  let c0_i32_196 : BitVec 32 := 0#32
  let v294 : BitVec 32 := Scalar.addi v293 c0_i32_196
  let v295 : Index := Scalar.indexCast v294
  let c0_199 : Index := 0#32
  let c0_200 : Index := 0#32
  ![0, 3, v295.toNat, 0, 0]
@[reducible] def k0_t1_loop (i : grid0.Coords) : Scf.Loop 32 :=
  let c0_i32_33 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_35 : BitVec 32 := 1#32
  ⟨c0_i32_33, v56, c1_i32_35⟩
def k0_mult1 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_154 : BitVec 32 := 4#32
  let v205 : BitVec 32 := Scalar.muli v204 c4_i32_154
  let c0_i32_155 : BitVec 32 := 0#32
  let v206 : BitVec 32 := Scalar.addi v205 c0_i32_155
  let c31_i32_156 : BitVec 32 := 31#32
  let v207 : BitVec 32 := Scalar.minsi v206 c31_i32_156
  let c256_i32_157 : BitVec 32 := 256#32
  let v208 : BitVec 32 := Scalar.muli v207 c256_i32_157
  v208
def k0_off17 (i : grid0.Coords) (k0_t1 : Fin (k0_t1_loop i).trips) (c0_i32_155 : BitVec 32) : Fin 4 → Nat :=
  let c0_158 : Index := 0#32
  let c0_159 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_154 : BitVec 32 := 4#32
  let v205 : BitVec 32 := Scalar.muli v204 c4_i32_154
  let v206 : BitVec 32 := Scalar.addi v205 c0_i32_155
  let c31_i32_156 : BitVec 32 := 31#32
  let v207 : BitVec 32 := Scalar.minsi v206 c31_i32_156
  let c256_i32_157 : BitVec 32 := 256#32
  let v208 : BitVec 32 := Scalar.muli v207 c256_i32_157
  let v209 : BitVec 32 := v208
  let v210 : Index := Scalar.indexCast v209
  let c0_160 : Index := 0#32
  ![0, 0, v210.toNat, 0]
def k0_mult2 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_162 : BitVec 32 := 4#32
  let v215 : BitVec 32 := Scalar.muli v204 c4_i32_162
  let c1_i32_163 : BitVec 32 := 1#32
  let v216 : BitVec 32 := Scalar.addi v215 c1_i32_163
  let c31_i32_164 : BitVec 32 := 31#32
  let v217 : BitVec 32 := Scalar.minsi v216 c31_i32_164
  let c256_i32_165 : BitVec 32 := 256#32
  let v218 : BitVec 32 := Scalar.muli v217 c256_i32_165
  v218
def k0_mult3 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_170 : BitVec 32 := 4#32
  let v225 : BitVec 32 := Scalar.muli v204 c4_i32_170
  let c2_i32_171 : BitVec 32 := 2#32
  let v226 : BitVec 32 := Scalar.addi v225 c2_i32_171
  let c31_i32_172 : BitVec 32 := 31#32
  let v227 : BitVec 32 := Scalar.minsi v226 c31_i32_172
  let c256_i32_173 : BitVec 32 := 256#32
  let v228 : BitVec 32 := Scalar.muli v227 c256_i32_173
  v228
def k0_mult4 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_178 : BitVec 32 := 4#32
  let v235 : BitVec 32 := Scalar.muli v204 c4_i32_178
  let c3_i32_179 : BitVec 32 := 3#32
  let v236 : BitVec 32 := Scalar.addi v235 c3_i32_179
  let c31_i32_180 : BitVec 32 := 31#32
  let v237 : BitVec 32 := Scalar.minsi v236 c31_i32_180
  let c256_i32_181 : BitVec 32 := 256#32
  let v238 : BitVec 32 := Scalar.muli v237 c256_i32_181
  v238
def k0_mult5 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_186 : BitVec 32 := 4#32
  let v245 : BitVec 32 := Scalar.muli v204 c4_i32_186
  let c0_i32_187 : BitVec 32 := 0#32
  let v246 : BitVec 32 := Scalar.addi v245 c0_i32_187
  let c31_i32_188 : BitVec 32 := 31#32
  let v247 : BitVec 32 := Scalar.minsi v246 c31_i32_188
  let c256_i32_189 : BitVec 32 := 256#32
  let v248 : BitVec 32 := Scalar.muli v247 c256_i32_189
  v248
def k0_off18 (i : grid0.Coords) (k0_t1 : Fin (k0_t1_loop i).trips) (c0_i32_187 : BitVec 32) : Fin 4 → Nat :=
  let c0_190 : Index := 0#32
  let c1_191 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_186 : BitVec 32 := 4#32
  let v245 : BitVec 32 := Scalar.muli v204 c4_i32_186
  let v246 : BitVec 32 := Scalar.addi v245 c0_i32_187
  let c31_i32_188 : BitVec 32 := 31#32
  let v247 : BitVec 32 := Scalar.minsi v246 c31_i32_188
  let c256_i32_189 : BitVec 32 := 256#32
  let v248 : BitVec 32 := Scalar.muli v247 c256_i32_189
  let v249 : BitVec 32 := v248
  let v250 : Index := Scalar.indexCast v249
  let c0_192 : Index := 0#32
  ![0, 1, v250.toNat, 0]
def k0_mult6 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_194 : BitVec 32 := 4#32
  let v255 : BitVec 32 := Scalar.muli v204 c4_i32_194
  let c1_i32_195 : BitVec 32 := 1#32
  let v256 : BitVec 32 := Scalar.addi v255 c1_i32_195
  let c31_i32_196 : BitVec 32 := 31#32
  let v257 : BitVec 32 := Scalar.minsi v256 c31_i32_196
  let c256_i32_197 : BitVec 32 := 256#32
  let v258 : BitVec 32 := Scalar.muli v257 c256_i32_197
  v258
def k0_mult7 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_202 : BitVec 32 := 4#32
  let v265 : BitVec 32 := Scalar.muli v204 c4_i32_202
  let c2_i32_203 : BitVec 32 := 2#32
  let v266 : BitVec 32 := Scalar.addi v265 c2_i32_203
  let c31_i32_204 : BitVec 32 := 31#32
  let v267 : BitVec 32 := Scalar.minsi v266 c31_i32_204
  let c256_i32_205 : BitVec 32 := 256#32
  let v268 : BitVec 32 := Scalar.muli v267 c256_i32_205
  v268
def k0_mult8 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_210 : BitVec 32 := 4#32
  let v275 : BitVec 32 := Scalar.muli v204 c4_i32_210
  let c3_i32_211 : BitVec 32 := 3#32
  let v276 : BitVec 32 := Scalar.addi v275 c3_i32_211
  let c31_i32_212 : BitVec 32 := 31#32
  let v277 : BitVec 32 := Scalar.minsi v276 c31_i32_212
  let c256_i32_213 : BitVec 32 := 256#32
  let v278 : BitVec 32 := Scalar.muli v277 c256_i32_213
  v278
def k0_mult9 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_218 : BitVec 32 := 4#32
  let v285 : BitVec 32 := Scalar.muli v204 c4_i32_218
  let c0_i32_219 : BitVec 32 := 0#32
  let v286 : BitVec 32 := Scalar.addi v285 c0_i32_219
  let c31_i32_220 : BitVec 32 := 31#32
  let v287 : BitVec 32 := Scalar.minsi v286 c31_i32_220
  let c256_i32_221 : BitVec 32 := 256#32
  let v288 : BitVec 32 := Scalar.muli v287 c256_i32_221
  v288
def k0_off19 (i : grid0.Coords) (k0_t1 : Fin (k0_t1_loop i).trips) (c0_i32_219 : BitVec 32) : Fin 4 → Nat :=
  let c0_222 : Index := 0#32
  let c2_223 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_218 : BitVec 32 := 4#32
  let v285 : BitVec 32 := Scalar.muli v204 c4_i32_218
  let v286 : BitVec 32 := Scalar.addi v285 c0_i32_219
  let c31_i32_220 : BitVec 32 := 31#32
  let v287 : BitVec 32 := Scalar.minsi v286 c31_i32_220
  let c256_i32_221 : BitVec 32 := 256#32
  let v288 : BitVec 32 := Scalar.muli v287 c256_i32_221
  let v289 : BitVec 32 := v288
  let v290 : Index := Scalar.indexCast v289
  let c0_224 : Index := 0#32
  ![0, 2, v290.toNat, 0]
def k0_mult10 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_226 : BitVec 32 := 4#32
  let v295 : BitVec 32 := Scalar.muli v204 c4_i32_226
  let c1_i32_227 : BitVec 32 := 1#32
  let v296 : BitVec 32 := Scalar.addi v295 c1_i32_227
  let c31_i32_228 : BitVec 32 := 31#32
  let v297 : BitVec 32 := Scalar.minsi v296 c31_i32_228
  let c256_i32_229 : BitVec 32 := 256#32
  let v298 : BitVec 32 := Scalar.muli v297 c256_i32_229
  v298
def k0_mult11 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_234 : BitVec 32 := 4#32
  let v305 : BitVec 32 := Scalar.muli v204 c4_i32_234
  let c2_i32_235 : BitVec 32 := 2#32
  let v306 : BitVec 32 := Scalar.addi v305 c2_i32_235
  let c31_i32_236 : BitVec 32 := 31#32
  let v307 : BitVec 32 := Scalar.minsi v306 c31_i32_236
  let c256_i32_237 : BitVec 32 := 256#32
  let v308 : BitVec 32 := Scalar.muli v307 c256_i32_237
  v308
def k0_mult12 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_242 : BitVec 32 := 4#32
  let v315 : BitVec 32 := Scalar.muli v204 c4_i32_242
  let c3_i32_243 : BitVec 32 := 3#32
  let v316 : BitVec 32 := Scalar.addi v315 c3_i32_243
  let c31_i32_244 : BitVec 32 := 31#32
  let v317 : BitVec 32 := Scalar.minsi v316 c31_i32_244
  let c256_i32_245 : BitVec 32 := 256#32
  let v318 : BitVec 32 := Scalar.muli v317 c256_i32_245
  v318
def k0_mult13 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_250 : BitVec 32 := 4#32
  let v325 : BitVec 32 := Scalar.muli v204 c4_i32_250
  let c0_i32_251 : BitVec 32 := 0#32
  let v326 : BitVec 32 := Scalar.addi v325 c0_i32_251
  let c31_i32_252 : BitVec 32 := 31#32
  let v327 : BitVec 32 := Scalar.minsi v326 c31_i32_252
  let c256_i32_253 : BitVec 32 := 256#32
  let v328 : BitVec 32 := Scalar.muli v327 c256_i32_253
  v328
def k0_off20 (i : grid0.Coords) (k0_t1 : Fin (k0_t1_loop i).trips) (c0_i32_251 : BitVec 32) : Fin 4 → Nat :=
  let c0_254 : Index := 0#32
  let c3_255 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_250 : BitVec 32 := 4#32
  let v325 : BitVec 32 := Scalar.muli v204 c4_i32_250
  let v326 : BitVec 32 := Scalar.addi v325 c0_i32_251
  let c31_i32_252 : BitVec 32 := 31#32
  let v327 : BitVec 32 := Scalar.minsi v326 c31_i32_252
  let c256_i32_253 : BitVec 32 := 256#32
  let v328 : BitVec 32 := Scalar.muli v327 c256_i32_253
  let v329 : BitVec 32 := v328
  let v330 : Index := Scalar.indexCast v329
  let c0_256 : Index := 0#32
  ![0, 3, v330.toNat, 0]
def k0_mult14 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_258 : BitVec 32 := 4#32
  let v335 : BitVec 32 := Scalar.muli v204 c4_i32_258
  let c1_i32_259 : BitVec 32 := 1#32
  let v336 : BitVec 32 := Scalar.addi v335 c1_i32_259
  let c31_i32_260 : BitVec 32 := 31#32
  let v337 : BitVec 32 := Scalar.minsi v336 c31_i32_260
  let c256_i32_261 : BitVec 32 := 256#32
  let v338 : BitVec 32 := Scalar.muli v337 c256_i32_261
  v338
def k0_mult15 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_266 : BitVec 32 := 4#32
  let v345 : BitVec 32 := Scalar.muli v204 c4_i32_266
  let c2_i32_267 : BitVec 32 := 2#32
  let v346 : BitVec 32 := Scalar.addi v345 c2_i32_267
  let c31_i32_268 : BitVec 32 := 31#32
  let v347 : BitVec 32 := Scalar.minsi v346 c31_i32_268
  let c256_i32_269 : BitVec 32 := 256#32
  let v348 : BitVec 32 := Scalar.muli v347 c256_i32_269
  v348
def k0_mult16 (i : grid0.Coords) (k0_t1 : Fin (k0_t1_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c1_i32_153 : BitVec 32 := 1#32
  let v204 : BitVec 32 := Scalar.addi v203 c1_i32_153
  let c4_i32_274 : BitVec 32 := 4#32
  let v355 : BitVec 32 := Scalar.muli v204 c4_i32_274
  let c3_i32_275 : BitVec 32 := 3#32
  let v356 : BitVec 32 := Scalar.addi v355 c3_i32_275
  let c31_i32_276 : BitVec 32 := 31#32
  let v357 : BitVec 32 := Scalar.minsi v356 c31_i32_276
  let c256_i32_277 : BitVec 32 := 256#32
  let v358 : BitVec 32 := Scalar.muli v357 c256_i32_277
  v358
def k0_off21 (i : grid0.Coords) (k0_t1 : Fin (k0_t1_loop i).trips) (c3_i32_284 : BitVec 32) : Fin 5 → Nat :=
  let c0_285 : Index := 0#32
  let c0_286 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c4_i32_283 : BitVec 32 := 4#32
  let v366 : BitVec 32 := Scalar.muli v203 c4_i32_283
  let v367 : BitVec 32 := Scalar.addi v366 c3_i32_284
  let v368 : Index := Scalar.indexCast v367
  let c0_287 : Index := 0#32
  let c0_288 : Index := 0#32
  ![0, 0, v368.toNat, 0, 0]
def k0_off22 (i : grid0.Coords) (k0_t1 : Fin (k0_t1_loop i).trips) (c3_i32_329 : BitVec 32) : Fin 5 → Nat :=
  let c0_330 : Index := 0#32
  let c1_331 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c4_i32_328 : BitVec 32 := 4#32
  let v467 : BitVec 32 := Scalar.muli v203 c4_i32_328
  let v468 : BitVec 32 := Scalar.addi v467 c3_i32_329
  let v469 : Index := Scalar.indexCast v468
  let c0_332 : Index := 0#32
  let c0_333 : Index := 0#32
  ![0, 1, v469.toNat, 0, 0]
def k0_off23 (i : grid0.Coords) (k0_t1 : Fin (k0_t1_loop i).trips) (c3_i32_374 : BitVec 32) : Fin 5 → Nat :=
  let c0_375 : Index := 0#32
  let c2_376 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c4_i32_373 : BitVec 32 := 4#32
  let v568 : BitVec 32 := Scalar.muli v203 c4_i32_373
  let v569 : BitVec 32 := Scalar.addi v568 c3_i32_374
  let v570 : Index := Scalar.indexCast v569
  let c0_377 : Index := 0#32
  let c0_378 : Index := 0#32
  ![0, 2, v570.toNat, 0, 0]
def k0_off24 (i : grid0.Coords) (k0_t1 : Fin (k0_t1_loop i).trips) (c3_i32_419 : BitVec 32) : Fin 5 → Nat :=
  let c0_420 : Index := 0#32
  let c3_421 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let c1_i32_35 : BitVec 32 := 1#32
  let arg8 : BitVec 32 := Scf.iv c0_i32_33 c1_i32_35 k0_t1
  let v203 : BitVec 32 := Scalar.subi v202 arg8
  let c4_i32_418 : BitVec 32 := 4#32
  let v669 : BitVec 32 := Scalar.muli v203 c4_i32_418
  let v670 : BitVec 32 := Scalar.addi v669 c3_i32_419
  let v671 : Index := Scalar.indexCast v670
  let c0_422 : Index := 0#32
  let c0_423 : Index := 0#32
  ![0, 3, v671.toNat, 0, 0]
@[reducible] def k0_t2_loop (i : grid0.Coords) : Scf.Loop 32 :=
  let c0_i32_33 : BitVec 32 := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let v53 : BitVec 32 := Scalar.addi c0_i32_33 v52
  let c1_i32_36 : BitVec 32 := 1#32
  ⟨v56, v53, c1_i32_36⟩
def k0_mult17 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_154 : BitVec 32 := 4#32
  let v205 : BitVec 32 := Scalar.muli v204 c4_i32_154
  let c0_i32_155 : BitVec 32 := 0#32
  let v206 : BitVec 32 := Scalar.addi v205 c0_i32_155
  let c31_i32_156 : BitVec 32 := 31#32
  let v207 : BitVec 32 := Scalar.minsi v206 c31_i32_156
  let c256_i32_157 : BitVec 32 := 256#32
  let v208 : BitVec 32 := Scalar.muli v207 c256_i32_157
  v208
def k0_off25 (i : grid0.Coords) (k0_t2 : Fin (k0_t2_loop i).trips) (c0_i32_155 : BitVec 32) : Fin 4 → Nat :=
  let c0_158 : Index := 0#32
  let c0_159 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_154 : BitVec 32 := 4#32
  let v205 : BitVec 32 := Scalar.muli v204 c4_i32_154
  let v206 : BitVec 32 := Scalar.addi v205 c0_i32_155
  let c31_i32_156 : BitVec 32 := 31#32
  let v207 : BitVec 32 := Scalar.minsi v206 c31_i32_156
  let c256_i32_157 : BitVec 32 := 256#32
  let v208 : BitVec 32 := Scalar.muli v207 c256_i32_157
  let v209 : BitVec 32 := v208
  let v210 : Index := Scalar.indexCast v209
  let c0_160 : Index := 0#32
  ![0, 0, v210.toNat, 0]
def k0_mult18 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_162 : BitVec 32 := 4#32
  let v215 : BitVec 32 := Scalar.muli v204 c4_i32_162
  let c1_i32_163 : BitVec 32 := 1#32
  let v216 : BitVec 32 := Scalar.addi v215 c1_i32_163
  let c31_i32_164 : BitVec 32 := 31#32
  let v217 : BitVec 32 := Scalar.minsi v216 c31_i32_164
  let c256_i32_165 : BitVec 32 := 256#32
  let v218 : BitVec 32 := Scalar.muli v217 c256_i32_165
  v218
def k0_mult19 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_170 : BitVec 32 := 4#32
  let v225 : BitVec 32 := Scalar.muli v204 c4_i32_170
  let c2_i32_171 : BitVec 32 := 2#32
  let v226 : BitVec 32 := Scalar.addi v225 c2_i32_171
  let c31_i32_172 : BitVec 32 := 31#32
  let v227 : BitVec 32 := Scalar.minsi v226 c31_i32_172
  let c256_i32_173 : BitVec 32 := 256#32
  let v228 : BitVec 32 := Scalar.muli v227 c256_i32_173
  v228
def k0_mult20 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_178 : BitVec 32 := 4#32
  let v235 : BitVec 32 := Scalar.muli v204 c4_i32_178
  let c3_i32_179 : BitVec 32 := 3#32
  let v236 : BitVec 32 := Scalar.addi v235 c3_i32_179
  let c31_i32_180 : BitVec 32 := 31#32
  let v237 : BitVec 32 := Scalar.minsi v236 c31_i32_180
  let c256_i32_181 : BitVec 32 := 256#32
  let v238 : BitVec 32 := Scalar.muli v237 c256_i32_181
  v238
def k0_mult21 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_186 : BitVec 32 := 4#32
  let v245 : BitVec 32 := Scalar.muli v204 c4_i32_186
  let c0_i32_187 : BitVec 32 := 0#32
  let v246 : BitVec 32 := Scalar.addi v245 c0_i32_187
  let c31_i32_188 : BitVec 32 := 31#32
  let v247 : BitVec 32 := Scalar.minsi v246 c31_i32_188
  let c256_i32_189 : BitVec 32 := 256#32
  let v248 : BitVec 32 := Scalar.muli v247 c256_i32_189
  v248
def k0_off26 (i : grid0.Coords) (k0_t2 : Fin (k0_t2_loop i).trips) (c0_i32_187 : BitVec 32) : Fin 4 → Nat :=
  let c0_190 : Index := 0#32
  let c1_191 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_186 : BitVec 32 := 4#32
  let v245 : BitVec 32 := Scalar.muli v204 c4_i32_186
  let v246 : BitVec 32 := Scalar.addi v245 c0_i32_187
  let c31_i32_188 : BitVec 32 := 31#32
  let v247 : BitVec 32 := Scalar.minsi v246 c31_i32_188
  let c256_i32_189 : BitVec 32 := 256#32
  let v248 : BitVec 32 := Scalar.muli v247 c256_i32_189
  let v249 : BitVec 32 := v248
  let v250 : Index := Scalar.indexCast v249
  let c0_192 : Index := 0#32
  ![0, 1, v250.toNat, 0]
def k0_mult22 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_194 : BitVec 32 := 4#32
  let v255 : BitVec 32 := Scalar.muli v204 c4_i32_194
  let c1_i32_195 : BitVec 32 := 1#32
  let v256 : BitVec 32 := Scalar.addi v255 c1_i32_195
  let c31_i32_196 : BitVec 32 := 31#32
  let v257 : BitVec 32 := Scalar.minsi v256 c31_i32_196
  let c256_i32_197 : BitVec 32 := 256#32
  let v258 : BitVec 32 := Scalar.muli v257 c256_i32_197
  v258
def k0_mult23 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_202 : BitVec 32 := 4#32
  let v265 : BitVec 32 := Scalar.muli v204 c4_i32_202
  let c2_i32_203 : BitVec 32 := 2#32
  let v266 : BitVec 32 := Scalar.addi v265 c2_i32_203
  let c31_i32_204 : BitVec 32 := 31#32
  let v267 : BitVec 32 := Scalar.minsi v266 c31_i32_204
  let c256_i32_205 : BitVec 32 := 256#32
  let v268 : BitVec 32 := Scalar.muli v267 c256_i32_205
  v268
def k0_mult24 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_210 : BitVec 32 := 4#32
  let v275 : BitVec 32 := Scalar.muli v204 c4_i32_210
  let c3_i32_211 : BitVec 32 := 3#32
  let v276 : BitVec 32 := Scalar.addi v275 c3_i32_211
  let c31_i32_212 : BitVec 32 := 31#32
  let v277 : BitVec 32 := Scalar.minsi v276 c31_i32_212
  let c256_i32_213 : BitVec 32 := 256#32
  let v278 : BitVec 32 := Scalar.muli v277 c256_i32_213
  v278
def k0_mult25 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_218 : BitVec 32 := 4#32
  let v285 : BitVec 32 := Scalar.muli v204 c4_i32_218
  let c0_i32_219 : BitVec 32 := 0#32
  let v286 : BitVec 32 := Scalar.addi v285 c0_i32_219
  let c31_i32_220 : BitVec 32 := 31#32
  let v287 : BitVec 32 := Scalar.minsi v286 c31_i32_220
  let c256_i32_221 : BitVec 32 := 256#32
  let v288 : BitVec 32 := Scalar.muli v287 c256_i32_221
  v288
def k0_off27 (i : grid0.Coords) (k0_t2 : Fin (k0_t2_loop i).trips) (c0_i32_219 : BitVec 32) : Fin 4 → Nat :=
  let c0_222 : Index := 0#32
  let c2_223 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_218 : BitVec 32 := 4#32
  let v285 : BitVec 32 := Scalar.muli v204 c4_i32_218
  let v286 : BitVec 32 := Scalar.addi v285 c0_i32_219
  let c31_i32_220 : BitVec 32 := 31#32
  let v287 : BitVec 32 := Scalar.minsi v286 c31_i32_220
  let c256_i32_221 : BitVec 32 := 256#32
  let v288 : BitVec 32 := Scalar.muli v287 c256_i32_221
  let v289 : BitVec 32 := v288
  let v290 : Index := Scalar.indexCast v289
  let c0_224 : Index := 0#32
  ![0, 2, v290.toNat, 0]
def k0_mult26 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_226 : BitVec 32 := 4#32
  let v295 : BitVec 32 := Scalar.muli v204 c4_i32_226
  let c1_i32_227 : BitVec 32 := 1#32
  let v296 : BitVec 32 := Scalar.addi v295 c1_i32_227
  let c31_i32_228 : BitVec 32 := 31#32
  let v297 : BitVec 32 := Scalar.minsi v296 c31_i32_228
  let c256_i32_229 : BitVec 32 := 256#32
  let v298 : BitVec 32 := Scalar.muli v297 c256_i32_229
  v298
def k0_mult27 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_234 : BitVec 32 := 4#32
  let v305 : BitVec 32 := Scalar.muli v204 c4_i32_234
  let c2_i32_235 : BitVec 32 := 2#32
  let v306 : BitVec 32 := Scalar.addi v305 c2_i32_235
  let c31_i32_236 : BitVec 32 := 31#32
  let v307 : BitVec 32 := Scalar.minsi v306 c31_i32_236
  let c256_i32_237 : BitVec 32 := 256#32
  let v308 : BitVec 32 := Scalar.muli v307 c256_i32_237
  v308
def k0_mult28 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_242 : BitVec 32 := 4#32
  let v315 : BitVec 32 := Scalar.muli v204 c4_i32_242
  let c3_i32_243 : BitVec 32 := 3#32
  let v316 : BitVec 32 := Scalar.addi v315 c3_i32_243
  let c31_i32_244 : BitVec 32 := 31#32
  let v317 : BitVec 32 := Scalar.minsi v316 c31_i32_244
  let c256_i32_245 : BitVec 32 := 256#32
  let v318 : BitVec 32 := Scalar.muli v317 c256_i32_245
  v318
def k0_mult29 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_250 : BitVec 32 := 4#32
  let v325 : BitVec 32 := Scalar.muli v204 c4_i32_250
  let c0_i32_251 : BitVec 32 := 0#32
  let v326 : BitVec 32 := Scalar.addi v325 c0_i32_251
  let c31_i32_252 : BitVec 32 := 31#32
  let v327 : BitVec 32 := Scalar.minsi v326 c31_i32_252
  let c256_i32_253 : BitVec 32 := 256#32
  let v328 : BitVec 32 := Scalar.muli v327 c256_i32_253
  v328
def k0_off28 (i : grid0.Coords) (k0_t2 : Fin (k0_t2_loop i).trips) (c0_i32_251 : BitVec 32) : Fin 4 → Nat :=
  let c0_254 : Index := 0#32
  let c3_255 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_250 : BitVec 32 := 4#32
  let v325 : BitVec 32 := Scalar.muli v204 c4_i32_250
  let v326 : BitVec 32 := Scalar.addi v325 c0_i32_251
  let c31_i32_252 : BitVec 32 := 31#32
  let v327 : BitVec 32 := Scalar.minsi v326 c31_i32_252
  let c256_i32_253 : BitVec 32 := 256#32
  let v328 : BitVec 32 := Scalar.muli v327 c256_i32_253
  let v329 : BitVec 32 := v328
  let v330 : Index := Scalar.indexCast v329
  let c0_256 : Index := 0#32
  ![0, 3, v330.toNat, 0]
def k0_mult30 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_258 : BitVec 32 := 4#32
  let v335 : BitVec 32 := Scalar.muli v204 c4_i32_258
  let c1_i32_259 : BitVec 32 := 1#32
  let v336 : BitVec 32 := Scalar.addi v335 c1_i32_259
  let c31_i32_260 : BitVec 32 := 31#32
  let v337 : BitVec 32 := Scalar.minsi v336 c31_i32_260
  let c256_i32_261 : BitVec 32 := 256#32
  let v338 : BitVec 32 := Scalar.muli v337 c256_i32_261
  v338
def k0_mult31 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_266 : BitVec 32 := 4#32
  let v345 : BitVec 32 := Scalar.muli v204 c4_i32_266
  let c2_i32_267 : BitVec 32 := 2#32
  let v346 : BitVec 32 := Scalar.addi v345 c2_i32_267
  let c31_i32_268 : BitVec 32 := 31#32
  let v347 : BitVec 32 := Scalar.minsi v346 c31_i32_268
  let c256_i32_269 : BitVec 32 := 256#32
  let v348 : BitVec 32 := Scalar.muli v347 c256_i32_269
  v348
def k0_mult32 (i : grid0.Coords) (k0_t2 : Fin (k0_t2_loop i).trips) : BitVec 32 :=
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c1_i32_153 : BitVec 32 := 1#32
  let v204 : BitVec 32 := Scalar.addi v203 c1_i32_153
  let c4_i32_274 : BitVec 32 := 4#32
  let v355 : BitVec 32 := Scalar.muli v204 c4_i32_274
  let c3_i32_275 : BitVec 32 := 3#32
  let v356 : BitVec 32 := Scalar.addi v355 c3_i32_275
  let c31_i32_276 : BitVec 32 := 31#32
  let v357 : BitVec 32 := Scalar.minsi v356 c31_i32_276
  let c256_i32_277 : BitVec 32 := 256#32
  let v358 : BitVec 32 := Scalar.muli v357 c256_i32_277
  v358
def k0_off29 (i : grid0.Coords) (k0_t2 : Fin (k0_t2_loop i).trips) (c3_i32_284 : BitVec 32) : Fin 5 → Nat :=
  let c0_285 : Index := 0#32
  let c0_286 : Index := 0#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c4_i32_283 : BitVec 32 := 4#32
  let v366 : BitVec 32 := Scalar.muli v203 c4_i32_283
  let v367 : BitVec 32 := Scalar.addi v366 c3_i32_284
  let v368 : Index := Scalar.indexCast v367
  let c0_287 : Index := 0#32
  let c0_288 : Index := 0#32
  ![0, 0, v368.toNat, 0, 0]
def k0_off30 (i : grid0.Coords) (k0_t2 : Fin (k0_t2_loop i).trips) (c3_i32_329 : BitVec 32) : Fin 5 → Nat :=
  let c0_330 : Index := 0#32
  let c1_331 : Index := 1#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c4_i32_328 : BitVec 32 := 4#32
  let v467 : BitVec 32 := Scalar.muli v203 c4_i32_328
  let v468 : BitVec 32 := Scalar.addi v467 c3_i32_329
  let v469 : Index := Scalar.indexCast v468
  let c0_332 : Index := 0#32
  let c0_333 : Index := 0#32
  ![0, 1, v469.toNat, 0, 0]
def k0_off31 (i : grid0.Coords) (k0_t2 : Fin (k0_t2_loop i).trips) (c3_i32_374 : BitVec 32) : Fin 5 → Nat :=
  let c0_375 : Index := 0#32
  let c2_376 : Index := 2#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c4_i32_373 : BitVec 32 := 4#32
  let v568 : BitVec 32 := Scalar.muli v203 c4_i32_373
  let v569 : BitVec 32 := Scalar.addi v568 c3_i32_374
  let v570 : Index := Scalar.indexCast v569
  let c0_377 : Index := 0#32
  let c0_378 : Index := 0#32
  ![0, 2, v570.toNat, 0, 0]
def k0_off32 (i : grid0.Coords) (k0_t2 : Fin (k0_t2_loop i).trips) (c3_i32_419 : BitVec 32) : Fin 5 → Nat :=
  let c0_420 : Index := 0#32
  let c3_421 : Index := 3#32
  let arg2 : BitVec 32 := BitVec.ofNat 32 (i 2).val
  let c0_i32 : BitVec 32 := 0#32
  let v14 : BitVec 1 := Scalar.cmpi .sgt arg2 c0_i32
  let v15 : BitVec 32 := Scalar.extui v14
  let c0_i32_14 : BitVec 32 := 0#32
  let v16 : BitVec 1 := Scalar.cmpi .slt arg2 c0_i32_14
  let v17 : BitVec 32 := Scalar.extui v16
  let v18 : BitVec 32 := Scalar.subi v15 v17
  let c4_i32 : BitVec 32 := 4#32
  let c0_i32_15 : BitVec 32 := 0#32
  let v19 : BitVec 1 := Scalar.cmpi .sgt c4_i32 c0_i32_15
  let v20 : BitVec 32 := Scalar.extui v19
  let c0_i32_16 : BitVec 32 := 0#32
  let v21 : BitVec 1 := Scalar.cmpi .slt c4_i32 c0_i32_16
  let v22 : BitVec 32 := Scalar.extui v21
  let v23 : BitVec 32 := Scalar.subi v20 v22
  let v24 : BitVec 1 := Scalar.cmpi .ne v18 v23
  let v25 : BitVec 32 := Scalar.remsi arg2 c4_i32
  let c0_i32_17 : BitVec 32 := 0#32
  let v26 : BitVec 1 := Scalar.cmpi .ne v25 c0_i32_17
  let v27 : BitVec 1 := Scalar.andi v24 v26
  let v13 : BitVec 32 := Scalar.divsi arg2 c4_i32
  let c1_i32 : BitVec 32 := 1#32
  let v28 : BitVec 32 := Scalar.subi v13 c1_i32
  let v29 : BitVec 32 := Scalar.select v27 v28 v13
  let c1_i32_152 : BitVec 32 := 1#32
  let v202 : BitVec 32 := Scalar.subi v29 c1_i32_152
  let c0_i32_33 : BitVec 32 := 0#32
  let v52 : BitVec 32 := Scalar.subi v29 c0_i32_33
  let c1_i32_34 : BitVec 32 := 1#32
  let v54 : BitVec 32 := Scalar.divsi v52 c1_i32_34
  let v55 : BitVec 32 := Scalar.muli v54 c1_i32_34
  let v56 : BitVec 32 := Scalar.addi c0_i32_33 v55
  let c1_i32_36 : BitVec 32 := 1#32
  let arg8 : BitVec 32 := Scf.iv v56 c1_i32_36 k0_t2
  let v203 : BitVec 32 := Scalar.subi v202 arg8
  let c4_i32_418 : BitVec 32 := 4#32
  let v669 : BitVec 32 := Scalar.muli v203 c4_i32_418
  let v670 : BitVec 32 := Scalar.addi v669 c3_i32_419
  let v671 : Index := Scalar.indexCast v670
  let c0_422 : Index := 0#32
  let c0_423 : Index := 0#32
  ![0, 3, v671.toNat, 0, 0]
def k0_mult33 : BitVec 32 :=
  let c0_i32_37 : BitVec 32 := 0#32
  let c31_i32 : BitVec 32 := 31#32
  let v59 : BitVec 32 := Scalar.minsi c0_i32_37 c31_i32
  let c256_i32 : BitVec 32 := 256#32
  let v60 : BitVec 32 := Scalar.muli v59 c256_i32
  v60
def k0_off33 (c0_i32_37 : BitVec 32) : Fin 4 → Nat :=
  let c0_38 : Index := 0#32
  let c0_39 : Index := 0#32
  let c31_i32 : BitVec 32 := 31#32
  let v59 : BitVec 32 := Scalar.minsi c0_i32_37 c31_i32
  let c256_i32 : BitVec 32 := 256#32
  let v60 : BitVec 32 := Scalar.muli v59 c256_i32
  let v61 : BitVec 32 := v60
  let v62 : Index := Scalar.indexCast v61
  let c0_40 : Index := 0#32
  ![0, 0, v62.toNat, 0]
def k0_mult34 : BitVec 32 :=
  let c1_i32_42 : BitVec 32 := 1#32
  let c31_i32_43 : BitVec 32 := 31#32
  let v67 : BitVec 32 := Scalar.minsi c1_i32_42 c31_i32_43
  let c256_i32_44 : BitVec 32 := 256#32
  let v68 : BitVec 32 := Scalar.muli v67 c256_i32_44
  v68
def k0_mult35 : BitVec 32 :=
  let c2_i32 : BitVec 32 := 2#32
  let c31_i32_49 : BitVec 32 := 31#32
  let v75 : BitVec 32 := Scalar.minsi c2_i32 c31_i32_49
  let c256_i32_50 : BitVec 32 := 256#32
  let v76 : BitVec 32 := Scalar.muli v75 c256_i32_50
  v76
def k0_mult36 : BitVec 32 :=
  let c3_i32_55 : BitVec 32 := 3#32
  let c31_i32_56 : BitVec 32 := 31#32
  let v83 : BitVec 32 := Scalar.minsi c3_i32_55 c31_i32_56
  let c256_i32_57 : BitVec 32 := 256#32
  let v84 : BitVec 32 := Scalar.muli v83 c256_i32_57
  v84
def k0_mult37 : BitVec 32 :=
  let c0_i32_62 : BitVec 32 := 0#32
  let c31_i32_63 : BitVec 32 := 31#32
  let v91 : BitVec 32 := Scalar.minsi c0_i32_62 c31_i32_63
  let c256_i32_64 : BitVec 32 := 256#32
  let v92 : BitVec 32 := Scalar.muli v91 c256_i32_64
  v92
def k0_off34 (c0_i32_62 : BitVec 32) : Fin 4 → Nat :=
  let c0_65 : Index := 0#32
  let c1_66 : Index := 1#32
  let c31_i32_63 : BitVec 32 := 31#32
  let v91 : BitVec 32 := Scalar.minsi c0_i32_62 c31_i32_63
  let c256_i32_64 : BitVec 32 := 256#32
  let v92 : BitVec 32 := Scalar.muli v91 c256_i32_64
  let v93 : BitVec 32 := v92
  let v94 : Index := Scalar.indexCast v93
  let c0_67 : Index := 0#32
  ![0, 1, v94.toNat, 0]
def k0_mult38 : BitVec 32 :=
  let c1_i32_69 : BitVec 32 := 1#32
  let c31_i32_70 : BitVec 32 := 31#32
  let v99 : BitVec 32 := Scalar.minsi c1_i32_69 c31_i32_70
  let c256_i32_71 : BitVec 32 := 256#32
  let v100 : BitVec 32 := Scalar.muli v99 c256_i32_71
  v100
def k0_mult39 : BitVec 32 :=
  let c2_i32_76 : BitVec 32 := 2#32
  let c31_i32_77 : BitVec 32 := 31#32
  let v107 : BitVec 32 := Scalar.minsi c2_i32_76 c31_i32_77
  let c256_i32_78 : BitVec 32 := 256#32
  let v108 : BitVec 32 := Scalar.muli v107 c256_i32_78
  v108
def k0_mult40 : BitVec 32 :=
  let c3_i32_83 : BitVec 32 := 3#32
  let c31_i32_84 : BitVec 32 := 31#32
  let v115 : BitVec 32 := Scalar.minsi c3_i32_83 c31_i32_84
  let c256_i32_85 : BitVec 32 := 256#32
  let v116 : BitVec 32 := Scalar.muli v115 c256_i32_85
  v116
def k0_mult41 : BitVec 32 :=
  let c0_i32_90 : BitVec 32 := 0#32
  let c31_i32_91 : BitVec 32 := 31#32
  let v123 : BitVec 32 := Scalar.minsi c0_i32_90 c31_i32_91
  let c256_i32_92 : BitVec 32 := 256#32
  let v124 : BitVec 32 := Scalar.muli v123 c256_i32_92
  v124
def k0_off35 (c0_i32_90 : BitVec 32) : Fin 4 → Nat :=
  let c0_93 : Index := 0#32
  let c2_94 : Index := 2#32
  let c31_i32_91 : BitVec 32 := 31#32
  let v123 : BitVec 32 := Scalar.minsi c0_i32_90 c31_i32_91
  let c256_i32_92 : BitVec 32 := 256#32
  let v124 : BitVec 32 := Scalar.muli v123 c256_i32_92
  let v125 : BitVec 32 := v124
  let v126 : Index := Scalar.indexCast v125
  let c0_95 : Index := 0#32
  ![0, 2, v126.toNat, 0]
def k0_mult42 : BitVec 32 :=
  let c1_i32_97 : BitVec 32 := 1#32
  let c31_i32_98 : BitVec 32 := 31#32
  let v131 : BitVec 32 := Scalar.minsi c1_i32_97 c31_i32_98
  let c256_i32_99 : BitVec 32 := 256#32
  let v132 : BitVec 32 := Scalar.muli v131 c256_i32_99
  v132
def k0_mult43 : BitVec 32 :=
  let c2_i32_104 : BitVec 32 := 2#32
  let c31_i32_105 : BitVec 32 := 31#32
  let v139 : BitVec 32 := Scalar.minsi c2_i32_104 c31_i32_105
  let c256_i32_106 : BitVec 32 := 256#32
  let v140 : BitVec 32 := Scalar.muli v139 c256_i32_106
  v140
def k0_mult44 : BitVec 32 :=
  let c3_i32_111 : BitVec 32 := 3#32
  let c31_i32_112 : BitVec 32 := 31#32
  let v147 : BitVec 32 := Scalar.minsi c3_i32_111 c31_i32_112
  let c256_i32_113 : BitVec 32 := 256#32
  let v148 : BitVec 32 := Scalar.muli v147 c256_i32_113
  v148
def k0_mult45 : BitVec 32 :=
  let c0_i32_118 : BitVec 32 := 0#32
  let c31_i32_119 : BitVec 32 := 31#32
  let v155 : BitVec 32 := Scalar.minsi c0_i32_118 c31_i32_119
  let c256_i32_120 : BitVec 32 := 256#32
  let v156 : BitVec 32 := Scalar.muli v155 c256_i32_120
  v156
def k0_off36 (c0_i32_118 : BitVec 32) : Fin 4 → Nat :=
  let c0_121 : Index := 0#32
  let c3_122 : Index := 3#32
  let c31_i32_119 : BitVec 32 := 31#32
  let v155 : BitVec 32 := Scalar.minsi c0_i32_118 c31_i32_119
  let c256_i32_120 : BitVec 32 := 256#32
  let v156 : BitVec 32 := Scalar.muli v155 c256_i32_120
  let v157 : BitVec 32 := v156
  let v158 : Index := Scalar.indexCast v157
  let c0_123 : Index := 0#32
  ![0, 3, v158.toNat, 0]
def k0_mult46 : BitVec 32 :=
  let c1_i32_125 : BitVec 32 := 1#32
  let c31_i32_126 : BitVec 32 := 31#32
  let v163 : BitVec 32 := Scalar.minsi c1_i32_125 c31_i32_126
  let c256_i32_127 : BitVec 32 := 256#32
  let v164 : BitVec 32 := Scalar.muli v163 c256_i32_127
  v164
def k0_mult47 : BitVec 32 :=
  let c2_i32_132 : BitVec 32 := 2#32
  let c31_i32_133 : BitVec 32 := 31#32
  let v171 : BitVec 32 := Scalar.minsi c2_i32_132 c31_i32_133
  let c256_i32_134 : BitVec 32 := 256#32
  let v172 : BitVec 32 := Scalar.muli v171 c256_i32_134
  v172
def k0_mult48 : BitVec 32 :=
  let c3_i32_139 : BitVec 32 := 3#32
  let c31_i32_140 : BitVec 32 := 31#32
  let v179 : BitVec 32 := Scalar.minsi c3_i32_139 c31_i32_140
  let c256_i32_141 : BitVec 32 := 256#32
  let v180 : BitVec 32 := Scalar.muli v179 c256_i32_141
  v180
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![arg0.toNat, v0.toNat, arg2.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  let c0_i32_3 : BitVec 32 := 0#32
  ![arg0.toNat, v0.toNat, c0_i32_0.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![arg0.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4x32x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "log2e" => some ((-((Real.log 2)⁻¹) : ℝ) : EReal)
  | _ => none
-- ==== ReferenceIdeal.lean ====
abbrev S4x4x8192x64 : Shape := ⟨4, ![4, 4, 8192, 64]⟩
abbrev S8192 : Shape := ⟨1, ![8192]⟩
abbrev S4x4x8192x8192 : Shape := ⟨4, ![4, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x8192x4x64 : Shape := ⟨4, ![4, 8192, 4, 64]⟩
abbrev S4x8192x256 : Shape := ⟨3, ![4, 8192, 256]⟩

abbrev nBuf : Space → Nat
  | .hbm => 66
  | .vmem => 0
  | .smem => 0
  | _ => 0

abbrev bufTy : (tb : Table) → Fin (tcTables nBuf tb) → BufTy
  | .hbm, ⟨0, _⟩ => ⟨S4x4x8192x64, .f32⟩
  | .hbm, ⟨1, _⟩ => ⟨S4x4x8192x64, .f32⟩
  | .hbm, ⟨2, _⟩ => ⟨S4x4x8192x64, .f32⟩
  | .hbm, ⟨3, _⟩ => ⟨S8192, .i32⟩
  | .hbm, ⟨4, _⟩ => ⟨S4x4x8192x8192, .f32⟩
  | .hbm, ⟨5, _⟩ => ⟨S_, .f32⟩
  | .hbm, ⟨6, _⟩ => ⟨S4x4x8192x8192, .f32⟩
  | .hbm, ⟨7, _⟩ => ⟨S4x4x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S4x4x8192x8192, .f32⟩
  | .hbm, ⟨14, _⟩ => ⟨S4x4x8192x8192, .f32⟩
  | .hbm, ⟨15, _⟩ => ⟨S_, .f32⟩
  | .hbm, ⟨16, _⟩ => ⟨S4x4x8192x8192, .f32⟩
  | .hbm, ⟨17, _⟩ => ⟨S4x4x8192x8192, .f32⟩
  | .hbm, ⟨18, _⟩ => ⟨S4x4x8192x8192, .f32⟩
  | .hbm, ⟨19, _⟩ => ⟨S4x4x8192x8192, .f32⟩
  | .hbm, ⟨20, _⟩ => ⟨S4x4x8192x8192, .i1⟩
  | .hbm, ⟨21, _⟩ => ⟨S4x4x8192x8192, .f32⟩
  | .hbm, ⟨22, _⟩ => ⟨S4x4x8192x8192, .f32⟩
  | .hbm, ⟨23, _⟩ => ⟨S4x4x8192x8192, .f32⟩
  | .hbm, ⟨24, _⟩ => ⟨S4x4x8192x8192, .f32⟩
  | .hbm, ⟨25, _⟩ => ⟨S4x4x8192x8192, .f32⟩
  | .hbm, ⟨26, _⟩ => ⟨S4x4x8192x8192, .f32⟩
  | .hbm, ⟨27, _⟩ => ⟨S4x4x8192x8192, .f32⟩
  | .hbm, ⟨28, _⟩ => ⟨S4x4x8192x8192, .f32⟩
  | .hbm, ⟨29, _⟩ => ⟨S4x4x8192x8192, .f32⟩
  | .hbm, ⟨30, _⟩ => ⟨S_, .f32⟩
  | .hbm, ⟨31, _⟩ => ⟨S_, .f32⟩
  | .hbm, ⟨32, _⟩ => ⟨S4x4x8192x8192, .i1⟩
  | .hbm, ⟨33, _⟩ => ⟨S4x4x8192x8192, .f32⟩
  | .hbm, ⟨34, _⟩ => ⟨S4x4x8192x8192, .f32⟩
  | .hbm, ⟨35, _⟩ => ⟨S_, .f32⟩
  | .hbm, ⟨36, _⟩ => ⟨S_, .f32⟩
  | .hbm, ⟨37, _⟩ => ⟨S4x4x8192x8192, .f32⟩
  | .hbm, ⟨38, _⟩ => ⟨S4x4x8192x8192, .f32⟩
  | .hbm, ⟨39, _⟩ => ⟨S4x4x8192x8192, .f32⟩
  | .hbm, ⟨40, _⟩ => ⟨S_, .f32⟩
  | .hbm, ⟨41, _⟩ => ⟨S4x4x8192x8192, .f32⟩
  | .hbm, ⟨42, _⟩ => ⟨S4x4x8192x8192, .f32⟩
  | .hbm, ⟨43, _⟩ => ⟨S4x4x8192x8192, .f32⟩
  | .hbm, ⟨44, _⟩ => ⟨S4x4x8192x8192, .f32⟩
  | .hbm, ⟨45, _⟩ => ⟨S4x4x8192x8192, .i1⟩
  | .hbm, ⟨46, _⟩ => ⟨S4x4x8192x8192, .f32⟩
  | .hbm, ⟨47, _⟩ => ⟨S4x4x8192x8192, .f32⟩
  | .hbm, ⟨48, _⟩ => ⟨S4x4x8192x8192, .f32⟩
  | .hbm, ⟨49, _⟩ => ⟨S4x4x8192x8192, .f32⟩
  | .hbm, ⟨50, _⟩ => ⟨S4x4x8192x8192, .f32⟩
  | .hbm, ⟨51, _⟩ => ⟨S4x4x8192x8192, .f32⟩
  | .hbm, ⟨52, _⟩ => ⟨S4x4x8192x8192, .f32⟩
  | .hbm, ⟨53, _⟩ => ⟨S4x4x8192x8192, .f32⟩
  | .hbm, ⟨54, _⟩ => ⟨S4x4x8192x8192, .f32⟩
  | .hbm, ⟨55, _⟩ => ⟨S4x4x8192x8192, .f32⟩
  | .hbm, ⟨56, _⟩ => ⟨S4x4x8192x8192, .f32⟩
  | .hbm, ⟨57, _⟩ => ⟨S_, .f32⟩
  | .hbm, ⟨58, _⟩ => ⟨S_, .f32⟩
  | .hbm, ⟨59, _⟩ => ⟨S4x4x8192x8192, .i1⟩
  | .hbm, ⟨60, _⟩ => ⟨S4x4x8192x8192, .f32⟩
  | .hbm, ⟨61, _⟩ => ⟨S4x4x8192x8192, .f32⟩
  | .hbm, ⟨62, _⟩ => ⟨S4x4x8192x64, .f32⟩
  | .hbm, ⟨63, _⟩ => ⟨S4x8192x4x64, .f32⟩
  | .hbm, ⟨64, _⟩ => ⟨S4x8192x256, .f32⟩
  | .hbm, ⟨65, _⟩ => ⟨S4x8192x256, .bf16⟩
  | _, _ => ⟨S4x4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v11 : Ref sig .tc := ⟨.hbm, 34, rfl⟩
abbrev main_call2_cst : Ref sig .tc := ⟨.hbm, 35, rfl⟩
abbrev main_call2_v0 : Ref sig .tc := ⟨.hbm, 36, rfl⟩
abbrev main_v12 : Ref sig .tc := ⟨.hbm, 37, rfl⟩
abbrev main_v13 : Ref sig .tc := ⟨.hbm, 38, rfl⟩
abbrev main_call3_v0 : Ref sig .tc := ⟨.hbm, 39, rfl⟩
abbrev main_call3_call0_cst : Ref sig .tc := ⟨.hbm, 40, rfl⟩
abbrev main_call3_call0_v0 : Ref sig .tc := ⟨.hbm, 41, rfl⟩
abbrev main_call3_call0_v1 : Ref sig .tc := ⟨.hbm, 42, rfl⟩
abbrev main_call3_call0_v2 : Ref sig .tc := ⟨.hbm, 43, rfl⟩
abbrev main_call3_call0_v3 : Ref sig .tc := ⟨.hbm, 44, rfl⟩
abbrev main_call3_call0_v4 : Ref sig .tc := ⟨.hbm, 45, rfl⟩
abbrev main_call3_call0_v5 : Ref sig .tc := ⟨.hbm, 46, rfl⟩
abbrev main_call3_call0_v6 : Ref sig .tc := ⟨.hbm, 47, rfl⟩
abbrev main_call3_call0_v7 : Ref sig .tc := ⟨.hbm, 48, rfl⟩
abbrev main_call3_call0_v8 : Ref sig .tc := ⟨.hbm, 49, rfl⟩
abbrev main_call3_call0_v9 : Ref sig .tc := ⟨.hbm, 50, rfl⟩
abbrev main_call3_call0_v10 : Ref sig .tc := ⟨.hbm, 51, rfl⟩
abbrev main_call3_call0_v11 : Ref sig .tc := ⟨.hbm, 52, rfl⟩
abbrev main_call3_v1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_cst_1 : Ref sig .tc := ⟨.hbm, 57, rfl⟩
abbrev main_call4_v0 : Ref sig .tc := ⟨.hbm, 58, rfl⟩
abbrev main_call4_v1 : Ref sig .tc := ⟨.hbm, 59, rfl⟩
abbrev main_call4_v2 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩

abbrev nD : Nat := 1
abbrev τ : Topo := Topo.v7x

variable {F : FTy → Type} [FloatOps F]
-- ==== Experts.lean ====
abbrev S2x81920x256 : Shape := ⟨3, ![2, 81920, 256]⟩
abbrev S160 : Shape := ⟨1, ![160]⟩
abbrev S1 : Shape := ⟨1, ![1]⟩
abbrev S32x1024x512 : Shape := ⟨3, ![32, 1024, 512]⟩
abbrev S32x256x1024 : Shape := ⟨3, ![32, 256, 1024]⟩
abbrev S2x2x81920x256 : Shape := ⟨4, ![2, 2, 81920, 256]⟩
abbrev S2x512x256 : Shape := ⟨3, ![2, 512, 256]⟩
abbrev S1x1024x512 : Shape := ⟨3, ![1, 1024, 512]⟩
abbrev S1x256x1024 : Shape := ⟨3, ![1, 256, 1024]⟩
abbrev S2x2x512x256 : Shape := ⟨4, ![2, 2, 512, 256]⟩
abbrev S1x512x256 : Shape := ⟨3, ![1, 512, 256]⟩
abbrev S512x256 : Shape := ⟨2, ![512, 256]⟩
abbrev S1x256x512 : Shape := ⟨3, ![1, 256, 512]⟩
abbrev S256x512 : Shape := ⟨2, ![256, 512]⟩
abbrev S512x512 : Shape := ⟨2, ![512, 512]⟩
abbrev S256x1024 : Shape := ⟨2, ![256, 1024]⟩
abbrev S512x1024 : Shape := ⟨2, ![512, 1024]⟩
abbrev S1x1x512x256 : Shape := ⟨4, ![1, 1, 512, 256]⟩

abbrev nBuf : Space → Nat
  | .hbm => 4
  | .vmem => 8
  | .smem => 2
  | _ => 0

abbrev bufTy : (tb : Table) → Fin (tcTables nBuf tb) → BufTy
  | .hbm, ⟨0, _⟩ => ⟨S2x81920x256, .i32⟩
  | .hbm, ⟨1, _⟩ => ⟨S32x1024x512, .bf16⟩
  | .hbm, ⟨2, _⟩ => ⟨S32x256x1024, .bf16⟩
  | .hbm, ⟨3, _⟩ => ⟨S2x2x81920x256, .bf16⟩
  | .local _ .vmem, ⟨0, _⟩ => ⟨S2x512x256, .i32⟩
  | .local _ .vmem, ⟨1, _⟩ => ⟨S2x512x256, .i32⟩
  | .local _ .vmem, ⟨2, _⟩ => ⟨S1x1024x512, .bf16⟩
  | .local _ .vmem, ⟨3, _⟩ => ⟨S1x1024x512, .bf16⟩
  | .local _ .vmem, ⟨4, _⟩ => ⟨S1x256x1024, .bf16⟩
  | .local _ .vmem, ⟨5, _⟩ => ⟨S1x256x1024, .bf16⟩
  | .local _ .vmem, ⟨6, _⟩ => ⟨S2x2x512x256, .bf16⟩
  | .local _ .vmem, ⟨7, _⟩ => ⟨S2x2x512x256, .bf16⟩
  | .local _ .smem, ⟨0, _⟩ => ⟨S160, .i32⟩
  | .local _ .smem, ⟨1, _⟩ => ⟨S1, .i32⟩
  | _, _ => ⟨S2x81920x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S2x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x2x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PlainExpertsIdeal.lean ====
abbrev S2x81920x256 : Shape := ⟨3, ![2, 81920, 256]⟩
abbrev S160 : Shape := ⟨1, ![160]⟩
abbrev S1 : Shape := ⟨1, ![1]⟩
abbrev S32x1024x512 : Shape := ⟨3, ![32, 1024, 512]⟩
abbrev S32x256x1024 : Shape := ⟨3, ![32, 256, 1024]⟩
abbrev S_ : Shape := ⟨0, ![]⟩
abbrev S1x81920x256 : Shape := ⟨3, ![1, 81920, 256]⟩
abbrev S81920x256 : Shape := ⟨2, ![81920, 256]⟩
abbrev S81920x1024 : Shape := ⟨2, ![81920, 1024]⟩
abbrev S160x512x1024 : Shape := ⟨3, ![160, 512, 1024]⟩
abbrev S160x1 : Shape := ⟨2, ![160, 1]⟩
abbrev S32 : Shape := ⟨1, ![32]⟩
abbrev S1x32 : Shape := ⟨2, ![1, 32]⟩
abbrev S160x32 : Shape := ⟨2, ![160, 32]⟩
abbrev S32x1024x256 : Shape := ⟨3, ![32, 1024, 256]⟩
abbrev S160x512x32x256 : Shape := ⟨4, ![160, 512, 32, 256]⟩
abbrev S32x1024x160x512 : Shape := ⟨4, ![32, 1024, 160, 512]⟩
abbrev S160x512x32x1024 : Shape := ⟨4, ![160, 512, 32, 1024]⟩
abbrev S81920x2x2x256 : Shape := ⟨4, ![81920, 2, 2, 256]⟩
abbrev S2x2x81920x256 : Shape := ⟨4, ![2, 2, 81920, 256]⟩

abbrev nBuf : Space → Nat
  | .hbm => 64
  | .vmem => 0
  | .smem => 0
  | _ => 0

abbrev bufTy : (tb : Table) → Fin (tcTables nBuf tb) → BufTy
  | .hbm, ⟨0, _⟩ => ⟨S2x81920x256, .i32⟩
  | .hbm, ⟨1, _⟩ => ⟨S160, .i32⟩
  | .hbm, ⟨2, _⟩ => ⟨S1, .i32⟩
  | .hbm, ⟨3, _⟩ => ⟨S32x1024x512, .bf16⟩
  | .hbm, ⟨4, _⟩ => ⟨S32x256x1024, .bf16⟩
  | .hbm, ⟨5, _⟩ => ⟨S_, .i32⟩
  | .hbm, ⟨6, _⟩ => ⟨S2x81920x256, .i32⟩
  | .hbm, ⟨7, _⟩ => ⟨S2x81920x256, .i32⟩
  | .hbm, ⟨8, _⟩ => ⟨S2x81920x256, .f32⟩
  | .hbm, ⟨9, _⟩ => ⟨S_, .i32⟩
  | .hbm, ⟨10, _⟩ => ⟨S2x81920x256, .i32⟩
  | .hbm, ⟨11, _⟩ => ⟨S2x81920x256, .i32⟩
  | .hbm, ⟨12, _⟩ => ⟨S2x81920x256, .f32⟩
  | .hbm, ⟨13, _⟩ => ⟨S1x81920x256, .f32⟩
  | .hbm, ⟨14, _⟩ => ⟨S81920x256, .f32⟩
  | .hbm, ⟨15, _⟩ => ⟨S1x81920x256, .f32⟩
  | .hbm, ⟨16, _⟩ => ⟨S81920x256, .f32⟩
  | .hbm, ⟨17, _⟩ => ⟨S1x81920x256, .f32⟩
  | .hbm, ⟨18, _⟩ => ⟨S81920x256, .f32⟩
  | .hbm, ⟨19, _⟩ => ⟨S1x81920x256, .f32⟩
  | .hbm, ⟨20, _⟩ => ⟨S81920x256, .f32⟩
  | .hbm, ⟨21, _⟩ => ⟨S81920x1024, .f32⟩
  | .hbm, ⟨22, _⟩ => ⟨S160x512x1024, .f32⟩
  | .hbm, ⟨23, _⟩ => ⟨S160x1, .i32⟩
  | .hbm, ⟨24, _⟩ => ⟨S32, .i32⟩
  | .hbm, ⟨25, _⟩ => ⟨S1x32, .i32⟩
  | .hbm, ⟨26, _⟩ => ⟨S160x32, .i32⟩
  | .hbm, ⟨27, _⟩ => ⟨S160x32, .i32⟩
  | .hbm, ⟨28, _⟩ => ⟨S160x32, .i1⟩
  | .hbm, ⟨29, _⟩ => ⟨S160, .i32⟩
  | .hbm, ⟨30, _⟩ => ⟨S160x1, .i32⟩
  | .hbm, ⟨31, _⟩ => ⟨S_, .i32⟩
  | .hbm, ⟨32, _⟩ => ⟨S160x1, .i32⟩
  | .hbm, ⟨33, _⟩ => ⟨S160x1, .i1⟩
  | .hbm, ⟨34, _⟩ => ⟨S160x32, .i1⟩
  | .hbm, ⟨35, _⟩ => ⟨S160x32, .i1⟩
  | .hbm, ⟨36, _⟩ => ⟨S_, .f32⟩
  | .hbm, ⟨37, _⟩ => ⟨S_, .f32⟩
  | .hbm, ⟨38, _⟩ => ⟨S160x32, .f32⟩
  | .hbm, ⟨39, _⟩ => ⟨S160x32, .f32⟩
  | .hbm, ⟨40, _⟩ => ⟨S160x32, .f32⟩
  | .hbm, ⟨41, _⟩ => ⟨S32x1024x512, .f32⟩
  | .hbm, ⟨42, _⟩ => ⟨S32x1024x256, .f32⟩
  | .hbm, ⟨43, _⟩ => ⟨S32x1024x512, .f32⟩
  | .hbm, ⟨44, _⟩ => ⟨S32x1024x256, .f32⟩
  | .hbm, ⟨45, _⟩ => ⟨S160x512x32x256, .f32⟩
  | .hbm, ⟨46, _⟩ => ⟨S160x512x32x256, .f32⟩
  | .hbm, ⟨47, _⟩ => ⟨S160x512x32x256, .f32⟩
  | .hbm, ⟨48, _⟩ => ⟨S_, .f32⟩
  | .hbm, ⟨49, _⟩ => ⟨S160x512x32x256, .f32⟩
  | .hbm, ⟨50, _⟩ => ⟨S160x512x32x256, .f32⟩
  | .hbm, ⟨51, _⟩ => ⟨S_, .f32⟩
  | .hbm, ⟨52, _⟩ => ⟨S160x512x32x256, .f32⟩
  | .hbm, ⟨53, _⟩ => ⟨S160x512x32x256, .f32⟩
  | .hbm, ⟨54, _⟩ => ⟨S160x512x32x256, .f32⟩
  | .hbm, ⟨55, _⟩ => ⟨S160x512x32x256, .f32⟩
  | .hbm, ⟨56, _⟩ => ⟨S160x512x32x256, .f32⟩
  | .hbm, ⟨57, _⟩ => ⟨S32x256x1024, .f32⟩
  | .hbm, ⟨58, _⟩ => ⟨S32x1024x160x512, .f32⟩
  | .hbm, ⟨59, _⟩ => ⟨S160x512x32x1024, .f32⟩
  | .hbm, ⟨60, _⟩ => ⟨S160x512x1024, .f32⟩
  | .hbm, ⟨61, _⟩ => ⟨S81920x2x2x256, .f32⟩
  | .hbm, ⟨62, _⟩ => ⟨S2x2x81920x256, .f32⟩
  | .hbm, ⟨63, _⟩ => ⟨S2x2x81920x256, .bf16⟩
  | _, _ => ⟨S2x81920x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_cst_1 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Final.lean ====
abbrev S32768x1024 : Shape := ⟨2, ![32768, 1024]⟩
abbrev S2x2x32768x256 : Shape := ⟨4, ![2, 2, 32768, 256]⟩
abbrev S32768x128 : Shape := ⟨2, ![32768, 128]⟩
abbrev S1024 : Shape := ⟨1, ![1024]⟩
abbrev S1x1024 : Shape := ⟨2, ![1, 1024]⟩
abbrev S512x1024 : Shape := ⟨2, ![512, 1024]⟩
abbrev S2x1x512x256 : Shape := ⟨4, ![2, 1, 512, 256]⟩
abbrev S512x128 : Shape := ⟨2, ![512, 128]⟩
abbrev S512x1 : Shape := ⟨2, ![512, 1]⟩
abbrev S1x1x512x256 : Shape := ⟨4, ![1, 1, 512, 256]⟩
abbrev S512x256 : Shape := ⟨2, ![512, 256]⟩
abbrev S512 : Shape := ⟨1, ![512]⟩

abbrev nBuf : Space → Nat
  | .hbm => 6
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S2x2x32768x256, .i32⟩
  | .hbm, ⟨2, _⟩ => ⟨S32768x128, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S2x1x512x256, .i32⟩
  | .local _ .vmem, ⟨3, _⟩ => ⟨S2x1x512x256, .i32⟩
  | .local _ .vmem, ⟨4, _⟩ => ⟨S2x1x512x256, .i32⟩
  | .local _ .vmem, ⟨5, _⟩ => ⟨S2x1x512x256, .i32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlainFinalIdeal.lean ====
abbrev S32768x1024 : Shape := ⟨2, ![32768, 1024]⟩
abbrev S2x2x32768x256 : Shape := ⟨4, ![2, 2, 32768, 256]⟩
abbrev S32768x128 : Shape := ⟨2, ![32768, 128]⟩
abbrev S1024 : Shape := ⟨1, ![1024]⟩
abbrev S32768x1 : Shape := ⟨2, ![32768, 1]⟩
abbrev S2x1x32768x256 : Shape := ⟨4, ![2, 1, 32768, 256]⟩
abbrev S2x32768x256 : Shape := ⟨3, ![2, 32768, 256]⟩
abbrev S_ : Shape := ⟨0, ![]⟩
abbrev S1x32768x256 : Shape := ⟨3, ![1, 32768, 256]⟩
abbrev S32768x256 : Shape := ⟨2, ![32768, 256]⟩
abbrev S32768 : Shape := ⟨1, ![32768]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x2x32768x256, .i32⟩
  | .hbm, ⟨2, _⟩ => ⟨S32768x128, .f32⟩
  | .hbm, ⟨3, _⟩ => ⟨S1024, .f32⟩
  | .hbm, ⟨4, _⟩ => ⟨S32768x1, .f32⟩
  | .hbm, ⟨5, _⟩ => ⟨S2x1x32768x256, .i32⟩
  | .hbm, ⟨6, _⟩ => ⟨S2x32768x256, .i32⟩
  | .hbm, ⟨7, _⟩ => ⟨S_, .i32⟩
  | .hbm, ⟨8, _⟩ => ⟨S2x32768x256, .i32⟩
  | .hbm, ⟨9, _⟩ => ⟨S2x32768x256, .i32⟩
  | .hbm, ⟨10, _⟩ => ⟨S2x32768x256, .f32⟩
  | .hbm, ⟨11, _⟩ => ⟨S_, .i32⟩
  | .hbm, ⟨12, _⟩ => ⟨S2x32768x256, .i32⟩
  | .hbm, ⟨13, _⟩ => ⟨S2x32768x256, .i32⟩
  | .hbm, ⟨14, _⟩ => ⟨S2x32768x256, .f32⟩
  | .hbm, ⟨15, _⟩ => ⟨S1x32768x256, .f32⟩
  | .hbm, ⟨16, _⟩ => ⟨S32768x256, .f32⟩
  | .hbm, ⟨17, _⟩ => ⟨S1x32768x256, .f32⟩
  | .hbm, ⟨18, _⟩ => ⟨S32768x256, .f32⟩
  | .hbm, ⟨19, _⟩ => ⟨S1x32768x256, .f32⟩
  | .hbm, ⟨20, _⟩ => ⟨S32768x256, .f32⟩
  | .hbm, ⟨21, _⟩ => ⟨S1x32768x256, .f32⟩
  | .hbm, ⟨22, _⟩ => ⟨S32768x256, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1, .f32⟩
  | .hbm, ⟨27, _⟩ => ⟨S2x1x32768x256, .i32⟩
  | .hbm, ⟨28, _⟩ => ⟨S2x32768x256, .i32⟩
  | .hbm, ⟨29, _⟩ => ⟨S_, .i32⟩
  | .hbm, ⟨30, _⟩ => ⟨S2x32768x256, .i32⟩
  | .hbm, ⟨31, _⟩ => ⟨S2x32768x256, .i32⟩
  | .hbm, ⟨32, _⟩ => ⟨S2x32768x256, .f32⟩
  | .hbm, ⟨33, _⟩ => ⟨S_, .i32⟩
  | .hbm, ⟨34, _⟩ => ⟨S2x32768x256, .i32⟩
  | .hbm, ⟨35, _⟩ => ⟨S2x32768x256, .i32⟩
  | .hbm, ⟨36, _⟩ => ⟨S2x32768x256, .f32⟩
  | .hbm, ⟨37, _⟩ => ⟨S1x32768x256, .f32⟩
  | .hbm, ⟨38, _⟩ => ⟨S32768x256, .f32⟩
  | .hbm, ⟨39, _⟩ => ⟨S1x32768x256, .f32⟩
  | .hbm, ⟨40, _⟩ => ⟨S32768x256, .f32⟩
  | .hbm, ⟨41, _⟩ => ⟨S1x32768x256, .f32⟩
  | .hbm, ⟨42, _⟩ => ⟨S32768x256, .f32⟩
  | .hbm, ⟨43, _⟩ => ⟨S1x32768x256, .f32⟩
  | .hbm, ⟨44, _⟩ => ⟨S32768x256, .f32⟩
  | .hbm, ⟨45, _⟩ => ⟨S32768x1024, .f32⟩
  | .hbm, ⟨46, _⟩ => ⟨S32768x1024, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst : Ref sig .tc := ⟨.hbm, 51, rfl⟩
abbrev main_v43 : Ref sig .tc := ⟨.hbm, 52, rfl⟩
abbrev main_v44 : Ref sig .tc := ⟨.hbm, 53, rfl⟩
abbrev main_cst_3 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Mixer.lean ====
abbrev S32768x1024 : Shape := ⟨2, ![32768, 1024]⟩
abbrev S32768x256 : Shape := ⟨2, ![32768, 256]⟩
abbrev S1024 : Shape := ⟨1, ![1024]⟩
abbrev S4x1024x1024 : Shape := ⟨3, ![4, 1024, 1024]⟩
abbrev S4x1024 : Shape := ⟨2, ![4, 1024]⟩
abbrev S4x256x1024 : Shape := ⟨3, ![4, 256, 1024]⟩
abbrev S1024x1024 : Shape := ⟨2, ![1024, 1024]⟩
abbrev S1024x4 : Shape := ⟨2, ![1024, 4]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x1024 : Shape := ⟨2, ![1, 1024]⟩
abbrev S4x1x1024 : Shape := ⟨3, ![4, 1, 1024]⟩
abbrev S128x1024 : Shape := ⟨2, ![128, 1024]⟩
abbrev S1x128x1024 : Shape := ⟨3, ![1, 128, 1024]⟩
abbrev S2x128x1024 : Shape := ⟨3, ![2, 128, 1024]⟩
abbrev S2x2x32768x256 : Shape := ⟨4, ![2, 2, 32768, 256]⟩
abbrev S32768x128 : Shape := ⟨2, ![32768, 128]⟩
abbrev S8x32768 : Shape := ⟨2, ![8, 32768]⟩
abbrev S48x128 : Shape := ⟨2, ![48, 128]⟩
abbrev S512x1024 : Shape := ⟨2, ![512, 1024]⟩
abbrev S512x256 : Shape := ⟨2, ![512, 256]⟩
abbrev S2x2x512x256 : Shape := ⟨4, ![2, 2, 512, 256]⟩
abbrev S512x128 : Shape := ⟨2, ![512, 128]⟩
abbrev S8x512 : Shape := ⟨2, ![8, 512]⟩
abbrev S1x1024x1024 : Shape := ⟨3, ![1, 1024, 1024]⟩
abbrev S1x1x1024 : Shape := ⟨3, ![1, 1, 1024]⟩
abbrev S1x256x1024 : Shape := ⟨3, ![1, 256, 1024]⟩
abbrev S256x1024 : Shape := ⟨2, ![256, 1024]⟩
abbrev S1x1x512x256 : Shape := ⟨4, ![1, 1, 512, 256]⟩
abbrev S128x512 : Shape := ⟨2, ![128, 512]⟩
abbrev S48x512 : Shape := ⟨2, ![48, 512]⟩
abbrev S48x1 : Shape := ⟨2, ![48, 1]⟩
abbrev S48 : Shape := ⟨1, ![48]⟩
abbrev S120x512 : Shape := ⟨2, ![120, 512]⟩

abbrev nBuf : Space → Nat
  | .hbm => 46
  | .vmem => 28
  | .smem => 0
  | _ => 0

abbrev bufTy : (tb : Table) → Fin (tcTables nBuf tb) → BufTy
  | .hbm, ⟨0, _⟩ => ⟨S32768x1024, .f32⟩
  | .hbm, ⟨1, _⟩ => ⟨S32768x256, .bf16⟩
  | .hbm, ⟨2, _⟩ => ⟨S32768x256, .bf16⟩
  | .hbm, ⟨3, _⟩ => ⟨S32768x256, .bf16⟩
  | .hbm, ⟨4, _⟩ => ⟨S32768x256, .bf16⟩
  | .hbm, ⟨5, _⟩ => ⟨S1024, .f32⟩
  | .hbm, ⟨6, _⟩ => ⟨S4x1024x1024, .f32⟩
  | .hbm, ⟨7, _⟩ => ⟨S4x1024, .f32⟩
  | .hbm, ⟨8, _⟩ => ⟨S4x256x1024, .f32⟩
  | .hbm, ⟨9, _⟩ => ⟨S1024x1024, .f32⟩
  | .hbm, ⟨10, _⟩ => ⟨S1024, .f32⟩
  | .hbm, ⟨11, _⟩ => ⟨S1024x4, .f32⟩
  | .hbm, ⟨12, _⟩ => ⟨S1024x4x8, .f32⟩
  | .hbm, ⟨13, _⟩ => ⟨S1024x32, .f32⟩
  | .hbm, ⟨14, _⟩ => ⟨S1024x36, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S512, .i32⟩
  | .hbm, ⟨19, _⟩ => ⟨S512x1, .i32⟩
  | .hbm, ⟨20, _⟩ => ⟨S1x512, .i32⟩
  | .hbm, ⟨21, _⟩ => ⟨S512x512, .i32⟩
  | .hbm, ⟨22, _⟩ => ⟨S512x512, .i32⟩
  | .hbm, ⟨23, _⟩ => ⟨S512x512, .i1⟩
  | .hbm, ⟨24, _⟩ => ⟨S512x512, .bf16⟩
  | .hbm, ⟨25, _⟩ => ⟨S1x1024, .f32⟩
  | .hbm, ⟨26, _⟩ => ⟨S4x1024x1024, .bf16⟩
  | .hbm, ⟨27, _⟩ => ⟨S4x1x1024, .f32⟩
  | .hbm, ⟨28, _⟩ => ⟨S4x256x1024, .bf16⟩
  | .hbm, ⟨29, _⟩ => ⟨S1024x1024, .bf16⟩
  | .hbm, ⟨30, _⟩ => ⟨S1x1024, .f32⟩
  | .hbm, ⟨31, _⟩ => ⟨S128x1024, .f32⟩
  | .hbm, ⟨32, _⟩ => ⟨S128x1024, .bf16⟩
  | .hbm, ⟨33, _⟩ => ⟨S1024x128, .bf16⟩
  | .hbm, ⟨34, _⟩ => ⟨S1024x128, .f32⟩
  | .hbm, ⟨35, _⟩ => ⟨S1024x128, .f32⟩
  | .hbm, ⟨36, _⟩ => ⟨S128x1024, .f32⟩
  | .hbm, ⟨37, _⟩ => ⟨S128x1024, .bf16⟩
  | .hbm, ⟨38, _⟩ => ⟨S1x128x1024, .bf16⟩
  | .hbm, ⟨39, _⟩ => ⟨S1x128x1024, .bf16⟩
  | .hbm, ⟨40, _⟩ => ⟨S2x128x1024, .bf16⟩
  | .hbm, ⟨41, _⟩ => ⟨S32768x1024, .f32⟩
  | .hbm, ⟨42, _⟩ => ⟨S2x2x32768x256, .bf16⟩
  | .hbm, ⟨43, _⟩ => ⟨S32768x128, .f32⟩
  | .hbm, ⟨44, _⟩ => ⟨S8x32768, .f32⟩
  | .hbm, ⟨45, _⟩ => ⟨S48x128, .f32⟩
  | .local _ .vmem, ⟨0, _⟩ => ⟨S512x1024, .f32⟩
  | .local _ .vmem, ⟨1, _⟩ => ⟨S512x1024, .f32⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S1x1024, .f32⟩
  | .local _ .vmem, ⟨11, _⟩ => ⟨S4x1024x1024, .bf16⟩
  | .local _ .vmem, ⟨12, _⟩ => ⟨S4x1x1024, .f32⟩
  | .local _ .vmem, ⟨13, _⟩ => ⟨S4x256x1024, .bf16⟩
  | .local _ .vmem, ⟨14, _⟩ => ⟨S1024x1024, .bf16⟩
  | .local _ .vmem, ⟨15, _⟩ => ⟨S1x1024, .f32⟩
  | .local _ .vmem, ⟨16, _⟩ => ⟨S2x128x1024, .bf16⟩
  | .local _ .vmem, ⟨17, _⟩ => ⟨S512x512, .bf16⟩
  | .local _ .vmem, ⟨18, _⟩ => ⟨S512x1024, .f32⟩
  | .local _ .vmem, ⟨19, _⟩ => ⟨S512x1024, .f32⟩
  | .local _ .vmem, ⟨20, _⟩ => ⟨S2x2x512x256, .bf16⟩
  | .local _ .vmem, ⟨21, _⟩ => ⟨S2x2x512x256, .bf16⟩
  | .local _ .vmem, ⟨22, _⟩ => ⟨S512x128, .f32⟩
  | .local _ .vmem, ⟨23, _⟩ => ⟨S512x128, .f32⟩
  | .local _ .vmem, ⟨24, _⟩ => ⟨S8x512, .f32⟩
  | .local _ .vmem, ⟨25, _⟩ => ⟨S8x512, .f32⟩
  | .local _ .vmem, ⟨26, _⟩ => ⟨S48x128, .f32⟩
  | .local _ .vmem, ⟨27, _⟩ => ⟨S48x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x2x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S48x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== PlainMixerIdeal.lean ====
abbrev S32768x1024 : Shape := ⟨2, ![32768, 1024]⟩
abbrev S32768x256 : Shape := ⟨2, ![32768, 256]⟩
abbrev S1024 : Shape := ⟨1, ![1024]⟩
abbrev S4x1024x1024 : Shape := ⟨3, ![4, 1024, 1024]⟩
abbrev S4x1024 : Shape := ⟨2, ![4, 1024]⟩
abbrev S4x256x1024 : Shape := ⟨3, ![4, 256, 1024]⟩
abbrev S1024x1024 : Shape := ⟨2, ![1024, 1024]⟩
abbrev S1024x4 : Shape := ⟨2, ![1024, 4]⟩
abbrev S1024x4x8 : Shape := ⟨3, ![1024, 4, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x1024 : Shape := ⟨3, ![1, 1024, 1024]⟩
abbrev S1x256x1024 : Shape := ⟨3, ![1, 256, 1024]⟩
abbrev S256x1024 : Shape := ⟨2, ![256, 1024]⟩
abbrev S32768x2x2x256 : Shape := ⟨4, ![32768, 2, 2, 256]⟩
abbrev S2x2x32768x256 : Shape := ⟨4, ![2, 2, 32768, 256]⟩

abbrev nBuf : Space → Nat
  | .hbm => 140
  | .vmem => 0
  | .smem => 0
  | _ => 0

abbrev hbmTy0_0 (i : Nat) : BufTy := match i % 128 with
  | 0 => ⟨S32768x1024, .f32⟩
  | 1 => ⟨S32768x256, .bf16⟩
  | 2 => ⟨S32768x256, .bf16⟩
  | 3 => ⟨S32768x256, .bf16⟩
  | 4 => ⟨S32768x256, .bf16⟩
  | 5 => ⟨S1024, .f32⟩
  | 6 => ⟨S4x1024x1024, .f32⟩
  | 7 => ⟨S4x1024, .f32⟩
  | 8 => ⟨S4x256x1024, .f32⟩
  | 9 => ⟨S1024x1024, .f32⟩
  | 10 => ⟨S1024, .f32⟩
  | 11 => ⟨S1024x4, .f32⟩
  | 12 => ⟨S1024x4x8, .f32⟩
  | 13 => ⟨S32768x1024, .f32⟩
  | 14 => ⟨S_, .f32⟩
  | 15 => ⟨S32768, .f32⟩
  | 16 => ⟨S32768x1, .f32⟩
  | 17 => ⟨S_, .f32⟩
  | 18 => ⟨S32768x1, .f32⟩
  | 19 => ⟨S32768x1, .f32⟩
  | 20 => ⟨S_, .f32⟩
  | 21 => ⟨S32768x1, .f32⟩
  | 22 => ⟨S32768x1, .f32⟩
  | 23 => ⟨S32768x1, .f32⟩
  | 24 => ⟨S32768x1024, .f32⟩
  | 25 => ⟨S32768x1024, .f32⟩
  | 26 => ⟨S1x1024, .f32⟩
  | 27 => ⟨S32768x1024, .f32⟩
  | 28 => ⟨S32768x1024, .f32⟩
  | 29 => ⟨S_, .f32⟩
  | 30 => ⟨S32768x1024, .f32⟩
  | 31 => ⟨S1x1024x1024, .f32⟩
  | 32 => ⟨S1024x1024, .f32⟩
  | 33 => ⟨S32768x1024, .f32⟩
  | 34 => ⟨S1x1024, .f32⟩
  | 35 => ⟨S1024, .f32⟩
  | 36 => ⟨S1x1024, .f32⟩
  | 37 => ⟨S32768x1024, .f32⟩
  | 38 => ⟨S32768x1024, .f32⟩
  | 39 => ⟨S32768x1024, .f32⟩
  | 40 => ⟨S32768x1024, .f32⟩
  | 41 => ⟨S_, .f32⟩
  | 42 => ⟨S32768x1024, .f32⟩
  | 43 => ⟨S32768x1024, .f32⟩
  | 44 => ⟨S_, .f32⟩
  | 45 => ⟨S32768x1024, .f32⟩
  | 46 => ⟨S32768x1024, .f32⟩
  | 47 => ⟨S32768x256, .f32⟩
  | 48 => ⟨S1x256x1024, .f32⟩
  | 49 => ⟨S256x1024, .f32⟩
  | 50 => ⟨S32768x1024, .f32⟩
  | 51 => ⟨S32768x1024, .f32⟩
  | 52 => ⟨S32768x1024, .f32⟩
  | 53 => ⟨S1x1024x1024, .f32⟩
  | 54 => ⟨S1024x1024, .f32⟩
  | 55 => ⟨S32768x1024, .f32⟩
  | 56 => ⟨S1x1024, .f32⟩
  | 57 => ⟨S1024, .f32⟩
  | 58 => ⟨S1x1024, .f32⟩
  | 59 => ⟨S32768x1024, .f32⟩
  | 60 => ⟨S32768x1024, .f32⟩
  | 61 => ⟨S32768x1024, .f32⟩
  | 62 => ⟨S32768x1024, .f32⟩
  | 63 => ⟨S_, .f32⟩
  | 64 => ⟨S32768x1024, .f32⟩
  | 65 => ⟨S32768x1024, .f32⟩
  | 66 => ⟨S_, .f32⟩
  | 67 => ⟨S32768x1024, .f32⟩
  | 68 => ⟨S32768x1024, .f32⟩
  | 69 => ⟨S32768x256, .f32⟩
  | 70 => ⟨S1x256x1024, .f32⟩
  | 71 => ⟨S256x1024, .f32⟩
  | 72 => ⟨S32768x1024, .f32⟩
  | 73 => ⟨S32768x1024, .f32⟩
  | 74 => ⟨S32768x1024, .f32⟩
  | 75 => ⟨S1x1024x1024, .f32⟩
  | 76 => ⟨S1024x1024, .f32⟩
  | 77 => ⟨S32768x1024, .f32⟩
  | 78 => ⟨S1x1024, .f32⟩
  | 79 => ⟨S1024, .f32⟩
  | 80 => ⟨S1x1024, .f32⟩
  | 81 => ⟨S32768x1024, .f32⟩
  | 82 => ⟨S32768x1024, .f32⟩
  | 83 => ⟨S32768x1024, .f32⟩
  | 84 => ⟨S32768x1024, .f32⟩
  | 85 => ⟨S_, .f32⟩
  | 86 => ⟨S32768x1024, .f32⟩
  | 87 => ⟨S32768x1024, .f32⟩
  | 88 => ⟨S_, .f32⟩
  | 89 => ⟨S32768x1024, .f32⟩
  | 90 => ⟨S32768x1024, .f32⟩
  | 91 => ⟨S32768x256, .f32⟩
  | 92 => ⟨S1x256x1024, .f32⟩
  | 93 => ⟨S256x1024, .f32⟩
  | 94 => ⟨S32768x1024, .f32⟩
  | 95 => ⟨S32768x1024, .f32⟩
  | 96 => ⟨S32768x1024, .f32⟩
  | 97 => ⟨S1x1024x1024, .f32⟩
  | 98 => ⟨S1024x1024, .f32⟩
  | 99 => ⟨S32768x1024, .f32⟩
  | 100 => ⟨S1x1024, .f32⟩
  | 101 => ⟨S1024, .f32⟩
  | 102 => ⟨S1x1024, .f32⟩
  | 103 => ⟨S32768x1024, .f32⟩
  | 104 => ⟨S32768x1024, .f32⟩
  | 105 => ⟨S32768x1024, .f32⟩
  | 106 => ⟨S32768x1024, .f32⟩
  | 107 => ⟨S_, .f32⟩
  | 108 => ⟨S32768x1024, .f32⟩
  | 109 => ⟨S32768x1024, .f32⟩
  | 110 => ⟨S_, .f32⟩
  | 111 => ⟨S32768x1024, .f32⟩
  | 112 => ⟨S32768x1024, .f32⟩
  | 113 => ⟨S32768x256, .f32⟩
  | 114 => ⟨S1x256x1024, .f32⟩
  | 115 => ⟨S256x1024, .f32⟩
  | 116 => ⟨S32768x1024, .f32⟩
  | 117 => ⟨S32768x1024, .f32⟩
  | 118 => ⟨S32768x1024, .f32⟩
  | 119 => ⟨S32768x1024, .f32⟩
  | 120 => ⟨S32768x1024, .f32⟩
  | 121 => ⟨S32768x1024, .f32⟩
  | 122 => ⟨S_, .f32⟩
  | 123 => ⟨S32768, .f32⟩
  | 124 => ⟨S32768x1, .f32⟩
  | 125 => ⟨S_, .f32⟩
  | 126 => ⟨S32768x1, .f32⟩
  | 127 => ⟨S32768x1, .f32⟩
  | _ => ⟨S32768x1024, .f32⟩

abbrev hbmTy0_1 (i : Nat) : BufTy := match i % 128 with
  | 0 => ⟨S_, .f32⟩
  | 1 => ⟨S32768x1, .f32⟩
  | 2 => ⟨S32768x1, .f32⟩
  | 3 => ⟨S32768x1, .f32⟩
  | 4 => ⟨S32768x1024, .f32⟩
  | 5 => ⟨S32768x1024, .f32⟩
  | 6 => ⟨S1x1024, .f32⟩
  | 7 => ⟨S32768x1024, .f32⟩
  | 8 => ⟨S32768x1024, .f32⟩
  | 9 => ⟨S32768x2x2x256, .f32⟩
  | 10 => ⟨S2x2x32768x256, .f32⟩
  | 11 => ⟨S2x2x32768x256, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_5 : Ref sig .tc := ⟨.hbm, 63, rfl⟩
abbrev main_v44 : Ref sig .tc := ⟨.hbm, 64, rfl⟩
abbrev main_v45 : Ref sig .tc := ⟨.hbm, 65, rfl⟩
abbrev main_cst_6 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_7 : Ref sig .tc := ⟨.hbm, 85, rfl⟩
abbrev main_v64 : Ref sig .tc := ⟨.hbm, 86, rfl⟩
abbrev main_v65 : Ref sig .tc := ⟨.hbm, 87, rfl⟩
abbrev main_cst_8 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_9 : Ref sig .tc := ⟨.hbm, 107, rfl⟩
abbrev main_v84 : Ref sig .tc := ⟨.hbm, 108, rfl⟩
abbrev main_v85 : Ref sig .tc := ⟨.hbm, 109, rfl⟩
abbrev main_cst_10 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_cst_12 : Ref sig .tc := ⟨.hbm, 125, rfl⟩
abbrev main_v99 : Ref sig .tc := ⟨.hbm, 126, rfl⟩
abbrev main_v100 : Ref sig .tc := ⟨.hbm, 127, rfl⟩
abbrev main_cst_13 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩

abbrev nD : Nat := 1
abbrev τ : Topo := Topo.v7x

variable {F : FTy → Type} [FloatOps F]
-- ==== Second.lean ====
abbrev S32768x1024 : Shape := ⟨2, ![32768, 1024]⟩
abbrev S2x2x32768x256 : Shape := ⟨4, ![2, 2, 32768, 256]⟩
abbrev S32768x128 : Shape := ⟨2, ![32768, 128]⟩
abbrev S1024 : Shape := ⟨1, ![1024]⟩
abbrev S65536x1024 : Shape := ⟨2, ![65536, 1024]⟩
abbrev S1x1024 : Shape := ⟨2, ![1, 1024]⟩
abbrev S512x1024 : Shape := ⟨2, ![512, 1024]⟩
abbrev S2x1x512x256 : Shape := ⟨4, ![2, 1, 512, 256]⟩
abbrev S512x128 : Shape := ⟨2, ![512, 128]⟩
abbrev S512x1 : Shape := ⟨2, ![512, 1]⟩
abbrev S1x1x512x256 : Shape := ⟨4, ![1, 1, 512, 256]⟩
abbrev S512x256 : Shape := ⟨2, ![512, 256]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S2x2x32768x256, .i32⟩
  | .hbm, ⟨2, _⟩ => ⟨S32768x128, .f32⟩
  | .hbm, ⟨3, _⟩ => ⟨S1024, .f32⟩
  | .hbm, ⟨4, _⟩ => ⟨S65536x1024, .f32⟩
  | .hbm, ⟨5, _⟩ => ⟨S1x1024, .f32⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S2x1x512x256, .i32⟩
  | .local _ .vmem, ⟨3, _⟩ => ⟨S2x1x512x256, .i32⟩
  | .local _ .vmem, ⟨4, _⟩ => ⟨S2x1x512x256, .i32⟩
  | .local _ .vmem, ⟨5, _⟩ => ⟨S2x1x512x256, .i32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x512x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x512x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PlainSecondIdeal.lean ====
abbrev S32768x1024 : Shape := ⟨2, ![32768, 1024]⟩
abbrev S2x2x32768x256 : Shape := ⟨4, ![2, 2, 32768, 256]⟩
abbrev S32768x128 : Shape := ⟨2, ![32768, 128]⟩
abbrev S1024 : Shape := ⟨1, ![1024]⟩
abbrev S65536x1024 : Shape := ⟨2, ![65536, 1024]⟩
abbrev S32768x1 : Shape := ⟨2, ![32768, 1]⟩
abbrev S2x1x32768x256 : Shape := ⟨4, ![2, 1, 32768, 256]⟩
abbrev S2x32768x256 : Shape := ⟨3, ![2, 32768, 256]⟩
abbrev S_ : Shape := ⟨0, ![]⟩
abbrev S1x32768x256 : Shape := ⟨3, ![1, 32768, 256]⟩
abbrev S32768x256 : Shape := ⟨2, ![32768, 256]⟩
abbrev S32768 : Shape := ⟨1, ![32768]⟩
abbrev S1x1024 : Shape := ⟨2, ![1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x2x32768x256, .i32⟩
  | .hbm, ⟨2, _⟩ => ⟨S32768x128, .f32⟩
  | .hbm, ⟨3, _⟩ => ⟨S1024, .f32⟩
  | .hbm, ⟨4, _⟩ => ⟨S65536x1024, .f32⟩
  | .hbm, ⟨5, _⟩ => ⟨S32768x1024, .f32⟩
  | .hbm, ⟨6, _⟩ => ⟨S32768x1, .f32⟩
  | .hbm, ⟨7, _⟩ => ⟨S2x1x32768x256, .i32⟩
  | .hbm, ⟨8, _⟩ => ⟨S2x32768x256, .i32⟩
  | .hbm, ⟨9, _⟩ => ⟨S_, .i32⟩
  | .hbm, ⟨10, _⟩ => ⟨S2x32768x256, .i32⟩
  | .hbm, ⟨11, _⟩ => ⟨S2x32768x256, .i32⟩
  | .hbm, ⟨12, _⟩ => ⟨S2x32768x256, .f32⟩
  | .hbm, ⟨13, _⟩ => ⟨S_, .i32⟩
  | .hbm, ⟨14, _⟩ => ⟨S2x32768x256, .i32⟩
  | .hbm, ⟨15, _⟩ => ⟨S2x32768x256, .i32⟩
  | .hbm, ⟨16, _⟩ => ⟨S2x32768x256, .f32⟩
  | .hbm, ⟨17, _⟩ => ⟨S1x32768x256, .f32⟩
  | .hbm, ⟨18, _⟩ => ⟨S32768x256, .f32⟩
  | .hbm, ⟨19, _⟩ => ⟨S1x32768x256, .f32⟩
  | .hbm, ⟨20, _⟩ => ⟨S32768x256, .f32⟩
  | .hbm, ⟨21, _⟩ => ⟨S1x32768x256, .f32⟩
  | .hbm, ⟨22, _⟩ => ⟨S32768x256, .f32⟩
  | .hbm, ⟨23, _⟩ => ⟨S1x32768x256, .f32⟩
  | .hbm, ⟨24, _⟩ => ⟨S32768x256, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1, .f32⟩
  | .hbm, ⟨29, _⟩ => ⟨S2x1x32768x256, .i32⟩
  | .hbm, ⟨30, _⟩ => ⟨S2x32768x256, .i32⟩
  | .hbm, ⟨31, _⟩ => ⟨S_, .i32⟩
  | .hbm, ⟨32, _⟩ => ⟨S2x32768x256, .i32⟩
  | .hbm, ⟨33, _⟩ => ⟨S2x32768x256, .i32⟩
  | .hbm, ⟨34, _⟩ => ⟨S2x32768x256, .f32⟩
  | .hbm, ⟨35, _⟩ => ⟨S_, .i32⟩
  | .hbm, ⟨36, _⟩ => ⟨S2x32768x256, .i32⟩
  | .hbm, ⟨37, _⟩ => ⟨S2x32768x256, .i32⟩
  | .hbm, ⟨38, _⟩ => ⟨S2x32768x256, .f32⟩
  | .hbm, ⟨39, _⟩ => ⟨S1x32768x256, .f32⟩
  | .hbm, ⟨40, _⟩ => ⟨S32768x256, .f32⟩
  | .hbm, ⟨41, _⟩ => ⟨S1x32768x256, .f32⟩
  | .hbm, ⟨42, _⟩ => ⟨S32768x256, .f32⟩
  | .hbm, ⟨43, _⟩ => ⟨S1x32768x256, .f32⟩
  | .hbm, ⟨44, _⟩ => ⟨S32768x256, .f32⟩
  | .hbm, ⟨45, _⟩ => ⟨S1x32768x256, .f32⟩
  | .hbm, ⟨46, _⟩ => ⟨S32768x256, .f32⟩
  | .hbm, ⟨47, _⟩ => ⟨S32768x1024, .f32⟩
  | .hbm, ⟨48, _⟩ => ⟨S32768x1024, .f32⟩
  | .hbm, ⟨49, _⟩ => ⟨S32768x1024, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S_, .f32⟩
  | .hbm, ⟨54, _⟩ => ⟨S32768, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S32768x1, .f32⟩
  | .hbm, ⟨63, _⟩ => ⟨S32768x1024, .f32⟩
  | .hbm, ⟨64, _⟩ => ⟨S32768x1024, .f32⟩
  | .hbm, ⟨65, _⟩ => ⟨S1x1024, .f32⟩
  | .hbm, ⟨66, _⟩ => ⟨S32768x1024, .f32⟩
  | .hbm, ⟨67, _⟩ => ⟨S32768x1024, .f32⟩
  | .hbm, ⟨68, _⟩ => ⟨S65536x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst : Ref sig .tc := ⟨.hbm, 53, rfl⟩
abbrev main_v44 : Ref sig .tc := ⟨.hbm, 54, rfl⟩
abbrev main_v45 : Ref sig .tc := ⟨.hbm, 55, rfl⟩
abbrev main_cst_3 : Ref sig .tc := ⟨.hbm, 56, rfl⟩
abbrev main_v46 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩

abbrev nD : Nat := 1
abbrev τ : Topo := Topo.v7x

variable {F : FTy → Type} [FloatOps F]
-- ==== Proof.KI.Run.lean ====
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

abbrev 𝒱₀ : Variants := Variants.none

variable (m : (ℓ : Loc nD τ sig) → Buf (Elt F) ℓ) (ρ : Dev nD → PrngReg)

set_option maxHeartbeats 4000000 in
/-- The body at a point whose last group holds one key block: on whole staging buffers — the queries
    `x0`, the keys `x1`, the values `x2`, the triangle `x3`, the result at anything — it runs to its end with the
    inputs as they were and the result at a value the run finds. -/
noncomputable def bodyRun1 (c : Dev nD) (i : grid0.Coords) (h1 : ¬(k0_cond1 i = 1#1))
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    { Y : Vec F S1x256x256 .bf16 //
      ∀ (E : Set ℕ) (K : PUnit → sProp 𝕄),
        iprop(owns (c : Thread nD τ) M0 fullShare x0 ∗ owns (c : Thread nD τ) M1 fullShare x1 ∗ owns (c : Thread nD τ) M2 fullShare x2
            ∗ owns (c : Thread nD τ) M3 fullShare x3 ∗ (∃ d, owns (c : Thread nD τ) M4 fullShare d)
            ∗ (iprop(owns (c : Thread nD τ) M0 fullShare x0 ∗ owns (c : Thread nD τ) M1 fullShare x1 ∗ owns (c : Thread nD τ) M2 fullShare x2
                ∗ owns (c : Thread nD τ) M3 fullShare x3 ∗ owns (c : Thread nD τ) M4 fullShare Y) -∗ K ⟨⟩))
          ⊢ wp frame (wpE (defs₀ (F := F)) 𝒱₀ c none) E (cc0_sb_attn i M0 w0 M1 w1 M2 w2 M3 w3 M4 w4) K } := by
  refine ⟨?_, fun E K => ?run⟩
  case run =>
    unfold owns
    iintro ⟨⟨%f0, %e0, H0⟩, ⟨%f1, %e1, H1⟩, ⟨%f2, %e2, H2⟩, ⟨%f3, %e3, H3⟩, ⟨%d4, %f4, -, H4⟩, Hk⟩
    obtain rfl := w0.eq_unread e0; obtain rfl := w1.eq_unread e1
    obtain rfl := w2.eq_unread e2; obtain rfl := w3.eq_unread e3
    sl_unfold [cc0_sb_attn]
    sl_exec!
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    iexists _; isplitr; swap; · iexact H4
    ipureintro; rfl

set_option maxHeartbeats 4000000 in
/-- The body at a point whose last group holds two key blocks: on whole staging buffers — the queries
    `x0`, the keys `x1`, the values `x2`, the triangle `x3`, the result at anything — it runs to its end with the
    inputs as they were and the result at a value the run finds. -/
noncomputable def bodyRun2 (c : Dev nD) (i : grid0.Coords) (h1 : k0_cond1 i = 1#1) (h2 : ¬(k0_cond2 i = 1#1))
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    { Y : Vec F S1x256x256 .bf16 //
      ∀ (E : Set ℕ) (K : PUnit → sProp 𝕄),
        iprop(owns (c : Thread nD τ) M0 fullShare x0 ∗ owns (c : Thread nD τ) M1 fullShare x1 ∗ owns (c : Thread nD τ) M2 fullShare x2
            ∗ owns (c : Thread nD τ) M3 fullShare x3 ∗ (∃ d, owns (c : Thread nD τ) M4 fullShare d)
            ∗ (iprop(owns (c : Thread nD τ) M0 fullShare x0 ∗ owns (c : Thread nD τ) M1 fullShare x1 ∗ owns (c : Thread nD τ) M2 fullShare x2
                ∗ owns (c : Thread nD τ) M3 fullShare x3 ∗ owns (c : Thread nD τ) M4 fullShare Y) -∗ K ⟨⟩))
          ⊢ wp frame (wpE (defs₀ (F := F)) 𝒱₀ c none) E (cc0_sb_attn i M0 w0 M1 w1 M2 w2 M3 w3 M4 w4) K } := by
  refine ⟨?_, fun E K => ?run⟩
  case run =>
    unfold owns
    iintro ⟨⟨%f0, %e0, H0⟩, ⟨%f1, %e1, H1⟩, ⟨%f2, %e2, H2⟩, ⟨%f3, %e3, H3⟩, ⟨%d4, %f4, -, H4⟩, Hk⟩
    obtain rfl := w0.eq_unread e0; obtain rfl := w1.eq_unread e1
    obtain rfl := w2.eq_unread e2; obtain rfl := w3.eq_unread e3
    sl_unfold [cc0_sb_attn]
    sl_exec!
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    iexists _; isplitr; swap; · iexact H4
    ipureintro; rfl

set_option maxHeartbeats 4000000 in
/-- The body at a point whose last group holds three key blocks: on whole staging buffers — the queries
    `x0`, the keys `x1`, the values `x2`, the triangle `x3`, the result at anything — it runs to its end with the
    inputs as they were and the result at a value the run finds. -/
noncomputable def bodyRun3 (c : Dev nD) (i : grid0.Coords) (h1 : k0_cond1 i = 1#1) (h2 : k0_cond2 i = 1#1) (h3 : ¬(k0_cond3 i = 1#1))
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    { Y : Vec F S1x256x256 .bf16 //
      ∀ (E : Set ℕ) (K : PUnit → sProp 𝕄),
        iprop(owns (c : Thread nD τ) M0 fullShare x0 ∗ owns (c : Thread nD τ) M1 fullShare x1 ∗ owns (c : Thread nD τ) M2 fullShare x2
            ∗ owns (c : Thread nD τ) M3 fullShare x3 ∗ (∃ d, owns (c : Thread nD τ) M4 fullShare d)
            ∗ (iprop(owns (c : Thread nD τ) M0 fullShare x0 ∗ owns (c : Thread nD τ) M1 fullShare x1 ∗ owns (c : Thread nD τ) M2 fullShare x2
                ∗ owns (c : Thread nD τ) M3 fullShare x3 ∗ owns (c : Thread nD τ) M4 fullShare Y) -∗ K ⟨⟩))
          ⊢ wp frame (wpE (defs₀ (F := F)) 𝒱₀ c none) E (cc0_sb_attn i M0 w0 M1 w1 M2 w2 M3 w3 M4 w4) K } := by
  refine ⟨?_, fun E K => ?run⟩
  case run =>
    unfold owns
    iintro ⟨⟨%f0, %e0, H0⟩, ⟨%f1, %e1, H1⟩, ⟨%f2, %e2, H2⟩, ⟨%f3, %e3, H3⟩, ⟨%d4, %f4, -, H4⟩, Hk⟩
    obtain rfl := w0.eq_unread e0; obtain rfl := w1.eq_unread e1
    obtain rfl := w2.eq_unread e2; obtain rfl := w3.eq_unread e3
    sl_unfold [cc0_sb_attn]
    sl_exec!
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    iexists _; isplitr; swap; · iexact H4
    ipureintro; rfl

set_option maxHeartbeats 4000000 in
/-- The body at a point whose last group holds four key blocks: on whole staging buffers — the queries
    `x0`, the keys `x1`, the values `x2`, the triangle `x3`, the result at anything — it runs to its end with the
    inputs as they were and the result at a value the run finds. -/
noncomputable def bodyRun4 (c : Dev nD) (i : grid0.Coords) (h1 : k0_cond1 i = 1#1) (h2 : k0_cond2 i = 1#1) (h3 : k0_cond3 i = 1#1)
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    { Y : Vec F S1x256x256 .bf16 //
      ∀ (E : Set ℕ) (K : PUnit → sProp 𝕄),
        iprop(owns (c : Thread nD τ) M0 fullShare x0 ∗ owns (c : Thread nD τ) M1 fullShare x1 ∗ owns (c : Thread nD τ) M2 fullShare x2
            ∗ owns (c : Thread nD τ) M3 fullShare x3 ∗ (∃ d, owns (c : Thread nD τ) M4 fullShare d)
            ∗ (iprop(owns (c : Thread nD τ) M0 fullShare x0 ∗ owns (c : Thread nD τ) M1 fullShare x1 ∗ owns (c : Thread nD τ) M2 fullShare x2
                ∗ owns (c : Thread nD τ) M3 fullShare x3 ∗ owns (c : Thread nD τ) M4 fullShare Y) -∗ K ⟨⟩))
          ⊢ wp frame (wpE (defs₀ (F := F)) 𝒱₀ c none) E (cc0_sb_attn i M0 w0 M1 w1 M2 w2 M3 w3 M4 w4) K } := by
  refine ⟨?_, fun E K => ?run⟩
  case run =>
    unfold owns
    iintro ⟨⟨%f0, %e0, H0⟩, ⟨%f1, %e1, H1⟩, ⟨%f2, %e2, H2⟩, ⟨%f3, %e3, H3⟩, ⟨%d4, %f4, -, H4⟩, Hk⟩
    obtain rfl := w0.eq_unread e0; obtain rfl := w1.eq_unread e1
    obtain rfl := w2.eq_unread e2; obtain rfl := w3.eq_unread e3
    sl_unfold [cc0_sb_attn]
    sl_exec!
    sl_step
    iapply Hk
    isplitl [H0]
    · iexists _; isplitr; · ipureintro; exact w0.read_unread _
      iexact H0
    isplitl [H1]
    · iexists _; isplitr; · ipureintro; exact w1.read_unread _
      iexact H1
    isplitl [H2]
    · iexists _; isplitr; · ipureintro; exact w2.read_unread _
      iexact H2
    isplitl [H3]
    · iexists _; isplitr; · ipureintro; exact w3.read_unread _
      iexact H3
    iexists _; isplitr; swap; · iexact H4
    ipureintro; rfl

end Cert.Proof.KI

end
-- ==== Proof.KI.Spec.lean ====
/- What one grid point of the kernel computes, in terms of a few named steps on tiles: the scores of a key block, the
   cost of its keys, the costs of the later keys within the block, the weights, the running total of the costs, and the
   weighted sum of a value block. The run's terms are these steps by unfolding. -/
module

public import proofs.«01_k».proof.Proof.KI.Run

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F] [Named F]

/-- The scores of a query block against a key block. -/
def score (q : FVec F S256x128 .bf16) (k : Vec F S1x1x1x128x256 .bf16) : FVec F S256x256 .f32 :=
  matmul dot_S256x128_S128x256_S256x256_1_0_0_1_n_n none q (shapeCast S128x256 k shapeCasts_S1x1x1x128x256_S128x256)
    (constant S256x256 .f32 0x00000000#32)

/-- The cost of passing each key by. -/
def softp (z : FVec F S256x256 .f32) : FVec F S256x256 .f32 :=
  addf (maximumf z (broadcast S256x256 (Scalar.ofBits .f32 0x00000000#32)))
    (log (addf (broadcast S256x256 (Scalar.ofBits .f32 0x3F800000#32))
      (exp2 (mulf (absf z) (broadcast S256x256 (Named.named κ "log2e" 0xBFB8AA3B#32))))))

/-- The costs of a block's keys from each key on. -/
def later (u : FVec F S256x256 .bf16) (s : FVec F S256x256 .f32) : FVec F S256x256 .f32 :=
  matmul dot_S256x256_S256x256_S256x256_1_0_0_1_n_n none (truncf .bf16 s bitsLt_bf16_f32) u (constant S256x256 .f32 0x00000000#32)

/-- The weights of a block, from its scores, the costs within it and the costs after it. -/
def weigh (z l : FVec F S256x256 .f32) (tail : FVec F S256x1 .f32) : FVec F S256x256 .bf16 :=
  exp (truncf .bf16 (subf (subf z l) (broadcastTo S256x256 tail broadcasts_S256x1_S256x256)) bitsLt_bf16_f32)

/-- The costs after the next block: this block's are added. -/
def tailOf (tail : FVec F S256x1 .f32) (l : FVec F S256x256 .f32) : FVec F S256x1 .f32 :=
  addf tail (extractStridedSlice S256x1 ![0, 0] l slices_S256x256_o0_0_S256x1)

/-- A block of values weighted and added. -/
def app (acc : FVec F S256x128 .f32) (w : FVec F S256x256 .bf16) (v : Vec F S1x1x256x128 .bf16) : FVec F S256x128 .f32 :=
  addf acc (matmul dot_S256x256_S256x128_S256x128_1_0_0_1_n_n none w (shapeCast S256x128 v shapeCasts_S1x1x256x128_S256x128)
    (constant S256x128 .f32 0x00000000#32))

/-- The costs within a block wholly before the rows. -/
def laterU (u : FVec F S256x256 .bf16) (q : FVec F S256x128 .bf16) (k : Vec F S1x1x1x128x256 .bf16) : FVec F S256x256 .f32 :=
  later u (softp (score q k))

/-- The weights of a block wholly before the rows. -/
def weighU (u : FVec F S256x256 .bf16) (q : FVec F S256x128 .bf16) (k : Vec F S1x1x1x128x256 .bf16) (tail : FVec F S256x1 .f32) :
    FVec F S256x256 .bf16 := weigh (score q k) (laterU u q k) tail

/-- The costs from a block wholly before the rows on. -/
def tailU (u : FVec F S256x256 .bf16) (q : FVec F S256x128 .bf16) (k : Vec F S1x1x1x128x256 .bf16) (tail : FVec F S256x1 .f32) :
    FVec F S256x1 .f32 := tailOf tail (laterU u q k)

/-- The costs within the diagonal block. -/
def laterD (u : FVec F S256x256 .bf16) (q : FVec F S256x128 .bf16) (k : Vec F S1x1x1x128x256 .bf16) : FVec F S256x256 .f32 :=
  later u (select (k0_pay327) (softp (score q k)) (broadcast S256x256 (Scalar.ofBits .f32 0x00000000#32)))

/-- The zero costs after the last block. -/
def tail0 : FVec F S256x1 .f32 := broadcast S256x1 (Scalar.ofBits .f32 0x00000000#32)

/-- The weights of the diagonal block. -/
def weighD (u : FVec F S256x256 .bf16) (q : FVec F S256x128 .bf16) (k : Vec F S1x1x1x128x256 .bf16) : FVec F S256x256 .bf16 :=
  select (k0_pay327) (weigh (score q k) (laterD u q k) tail0) (broadcast S256x256 (Scalar.ofBits .bf16 0x0000#16))

/-- The costs from the diagonal block on. -/
def tailD (u : FVec F S256x256 .bf16) (q : FVec F S256x128 .bf16) (k : Vec F S1x1x1x128x256 .bf16) : FVec F S256x1 .f32 :=
  tailOf tail0 (laterD u q k)

/-- No weight on a block. -/
def weight0 : FVec F S256x256 .bf16 := broadcast S256x256 (Scalar.ofBits .bf16 0x0000#16)

/-- A head's state between two groups of four key blocks: the weighted sum so far, the costs so far, and the weights of the
    group whose values are not yet added. -/
structure Head (F : FTy → Type) [FloatOps F] where
  acc : FVec F S256x128 .f32
  tail : FVec F S256x1 .f32
  w0 : FVec F S256x256 .bf16
  w1 : FVec F S256x256 .bf16
  w2 : FVec F S256x256 .bf16
  w3 : FVec F S256x256 .bf16

/-- The four value blocks of a group added. -/
def Head.sum (s : Head F) (v0 v1 v2 v3 : Vec F S1x1x256x128 .bf16) : FVec F S256x128 .f32 :=
  app (app (app (app s.acc s.w0 v0) s.w1 v1) s.w2 v2) s.w3 v3

/-- One trip for one head: the held group's values added, then the weights of the group before it. -/
def Head.step (u : FVec F S256x256 .bf16) (q : FVec F S256x128 .bf16) (k0 k1 k2 k3 : Vec F S1x1x1x128x256 .bf16)
    (v0 v1 v2 v3 : Vec F S1x1x256x128 .bf16) (s : Head F) : Head F where
  acc := s.sum v0 v1 v2 v3
  tail := tailU u q k0 (tailU u q k1 (tailU u q k2 (tailU u q k3 s.tail)))
  w3 := weighU u q k3 s.tail
  w2 := weighU u q k2 (tailU u q k3 s.tail)
  w1 := weighU u q k1 (tailU u q k2 (tailU u q k3 s.tail))
  w0 := weighU u q k0 (tailU u q k1 (tailU u q k2 (tailU u q k3 s.tail)))

/-- The zero sum. -/
def acc0 : FVec F S256x128 .f32 := broadcast S256x128 (Scalar.ofBits .f32 0x00000000#32)

/-- A head's state after the last group, of one key block. -/
def Head.init1 (u : FVec F S256x256 .bf16) (q : FVec F S256x128 .bf16) (k0 : Vec F S1x1x1x128x256 .bf16) : Head F where
  acc := acc0
  tail := tailD u q k0
  w0 := weighD u q k0
  w1 := weight0
  w2 := weight0
  w3 := weight0

/-- A head's state after the last group, of two key blocks. -/
def Head.init2 (u : FVec F S256x256 .bf16) (q : FVec F S256x128 .bf16) (k0 k1 : Vec F S1x1x1x128x256 .bf16) : Head F where
  acc := acc0
  tail := tailU u q k0 (tailD u q k1)
  w0 := weighU u q k0 (tailD u q k1)
  w1 := weighD u q k1
  w2 := weight0
  w3 := weight0

/-- A head's state after the last group, of three key blocks. -/
def Head.init3 (u : FVec F S256x256 .bf16) (q : FVec F S256x128 .bf16) (k0 k1 k2 : Vec F S1x1x1x128x256 .bf16) : Head F where
  acc := acc0
  tail := tailU u q k0 (tailU u q k1 (tailD u q k2))
  w0 := weighU u q k0 (tailU u q k1 (tailD u q k2))
  w1 := weighU u q k1 (tailD u q k2)
  w2 := weighD u q k2
  w3 := weight0

/-- A head's state after the last group, of four key blocks. -/
def Head.init4 (u : FVec F S256x256 .bf16) (q : FVec F S256x128 .bf16) (k0 k1 k2 k3 : Vec F S1x1x1x128x256 .bf16) : Head F where
  acc := acc0
  tail := tailU u q k0 (tailU u q k1 (tailU u q k2 (tailD u q k3)))
  w0 := weighU u q k0 (tailU u q k1 (tailU u q k2 (tailD u q k3)))
  w1 := weighU u q k1 (tailU u q k2 (tailD u q k3))
  w2 := weighU u q k2 (tailD u q k3)
  w3 := weighD u q k3

/-- The four heads' states in the order the loop carries them. -/
abbrev pack (a b c d : Head F) :=
  (a.acc, b.acc, c.acc, d.acc, a.tail, b.tail, c.tail, d.tail, a.w0, a.w1, a.w2, a.w3, b.w0, b.w1, b.w2, b.w3,
    c.w0, c.w1, c.w2, c.w3, d.w0, d.w1, d.w2, d.w3)

end Cert.Proof.KI

end
-- ==== Proof.KI.Trip.lean ====
/- What one trip of the kernel's loop yields: each head's state stepped. -/
module

public import proofs.«01_k».proof.Proof.KI.Spec

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F] [Named F]

/-- A key block read at an offset. -/
abbrev rdK (M : Memref sig .tc .vmem S1x4x32x128x256 .bf16) (X : BufTy.Contents (Elt F) M.view.ty) (off : Fin 5 → ℕ)
    (inb : ∀ a, off a + S1x1x1x128x256.size a ≤ S1x4x32x128x256.size a) : Vec F S1x1x1x128x256 .bf16 :=
  View.readAt (Elt F) M.view (Rect.unit (s := S1x4x32x128x256) off S1x1x1x128x256.size inb).toLoadRect X

/-- A value block read at an offset. -/
abbrev rdV (M : Memref sig .tc .vmem S1x4x8192x128 .bf16) (X : BufTy.Contents (Elt F) M.view.ty) (off : Fin 4 → ℕ)
    (inb : ∀ a, off a + S1x1x256x128.size a ≤ S1x4x8192x128.size a) : Vec F S1x1x256x128 .bf16 :=
  View.readAt (Elt F) M.view (Rect.unit (s := S1x4x8192x128) off S1x1x256x128.size inb).toLoadRect X

set_option maxHeartbeats 4000000 in
/-- One trip of the loop steps the four heads. -/
theorem trip_eq (𝒱 : Variants) (c : Dev nD) (bd : Option 𝒱.V) (i : grid0.Coords) (arg3 : Memref sig .tc .vmem S1x4x256x128 .bf16) (harg3 : arg3.IsWhole)
    (arg4 : Memref sig .tc .vmem S1x4x32x128x256 .bf16) (harg4 : arg4.IsWhole) (arg5 : Memref sig .tc .vmem S1x4x8192x128 .bf16) (harg5 : arg5.IsWhole)
    (arg6 : Memref sig .tc .vmem S256x256 .bf16) (harg6 : arg6.IsWhole) (arg7 : Memref sig .tc .vmem S1x256x256 .bf16) (harg7 : arg7.IsWhole)
    (arg2 : BitVec 32) (v1 : FVec F S256x256 .bf16) (v3 v5 v7 v9 : FVec F S256x128 .bf16) (v12 : IVec S256x256 1) (v29 : BitVec 32)
    (v30 : FVec F S256x1 .f32) (X4 : BufTy.Contents (Elt F) arg4.view.ty) (X5 : BufTy.Contents (Elt F) arg5.view.ty)
    (k : Fin (k0_t1_loop i).trips) (a b d e : Head F) :
    tripR_k0_t1 (F := F) 𝒱 c bd i arg3 harg3 arg4 harg4 arg5 harg5 arg6 harg6 arg7 harg7 arg2 v1 v3 v5 v7 v9 v12 v29 v30 X4 X5 k (pack a b d e)
      = pack
          (a.step v1 v3 (rdK arg4 X4 _ (k0_off21_inb i k 0)) (rdK arg4 X4 _ (k0_off21_inb i k 1)) (rdK arg4 X4 _ (k0_off21_inb i k 2)) (rdK arg4 X4 _ (k0_off21_inb i k 3))
            (rdV arg5 X5 _ (k0_off17_inb i k 0)) (rdV arg5 X5 _ (k0_off17_inb i k 1)) (rdV arg5 X5 _ (k0_off17_inb i k 2)) (rdV arg5 X5 _ (k0_off17_inb i k 3)))
          (b.step v1 v5 (rdK arg4 X4 _ (k0_off22_inb i k 0)) (rdK arg4 X4 _ (k0_off22_inb i k 1)) (rdK arg4 X4 _ (k0_off22_inb i k 2)) (rdK arg4 X4 _ (k0_off22_inb i k 3))
            (rdV arg5 X5 _ (k0_off18_inb i k 0)) (rdV arg5 X5 _ (k0_off18_inb i k 1)) (rdV arg5 X5 _ (k0_off18_inb i k 2)) (rdV arg5 X5 _ (k0_off18_inb i k 3)))
          (d.step v1 v7 (rdK arg4 X4 _ (k0_off23_inb i k 0)) (rdK arg4 X4 _ (k0_off23_inb i k 1)) (rdK arg4 X4 _ (k0_off23_inb i k 2)) (rdK arg4 X4 _ (k0_off23_inb i k 3))
            (rdV arg5 X5 _ (k0_off19_inb i k 0)) (rdV arg5 X5 _ (k0_off19_inb i k 1)) (rdV arg5 X5 _ (k0_off19_inb i k 2)) (rdV arg5 X5 _ (k0_off19_inb i k 3)))
          (e.step v1 v9 (rdK arg4 X4 _ (k0_off24_inb i k 0)) (rdK arg4 X4 _ (k0_off24_inb i k 1)) (rdK arg4 X4 _ (k0_off24_inb i k 2)) (rdK arg4 X4 _ (k0_off24_inb i k 3))
            (rdV arg5 X5 _ (k0_off20_inb i k 0)) (rdV arg5 X5 _ (k0_off20_inb i k 1)) (rdV arg5 X5 _ (k0_off20_inb i k 2)) (rdV arg5 X5 _ (k0_off20_inb i k 3))) := by
  unfold tripR_k0_t1 trip_k0_t1
  rfl

end Cert.Proof.KI

end
-- ==== Proof.KI.Out.lean ====
/- What the body leaves in the result, for each of the four cases of the `switch`: the loop from the last group's state,
   the first group's values added, and the four heads laid side by side. -/
module

public import proofs.«01_k».proof.Proof.KI.Trip
public import Idealize.ShloMosaic.Lib.Pipeline.Value
public import Idealize.ShloMosaic.Lib.Tactic

@[expose] public section

set_option maxRecDepth 16384

noncomputable section

namespace Cert.Proof.KI

open Cert.KernelIdeal Cert.KernelIdeal.Gen
open Idealize.ShloMosaic Idealize.ShloMosaic.TcCoe Idealize.ShloMosaic.Tactic

variable {F : FTy → Type} [FloatOps F] [Named F]

/-- What the loop carries. -/
abbrev Carry (F : FTy → Type) [FloatOps F] :=
  FVec F S256x128 .f32 × FVec F S256x128 .f32 × FVec F S256x128 .f32 × FVec F S256x128 .f32
    × FVec F S256x1 .f32 × FVec F S256x1 .f32 × FVec F S256x1 .f32 × FVec F S256x1 .f32
    × FVec F S256x256 .bf16 × FVec F S256x256 .bf16 × FVec F S256x256 .bf16 × FVec F S256x256 .bf16
    × FVec F S256x256 .bf16 × FVec F S256x256 .bf16 × FVec F S256x256 .bf16 × FVec F S256x256 .bf16
    × FVec F S256x256 .bf16 × FVec F S256x256 .bf16 × FVec F S256x256 .bf16 × FVec F S256x256 .bf16
    × FVec F S256x256 .bf16 × FVec F S256x256 .bf16 × FVec F S256x256 .bf16 × FVec F S256x256 .bf16

/-- The triangle the kernel loads. -/
abbrev triOf (M : Memref sig .tc .vmem S256x256 .bf16) (X : BufTy.Contents (Elt F) M.view.ty) : FVec F S256x256 .bf16 :=
  shapeCast S256x256 (View.readAt (Elt F) M.view (Rect.unit (s := S256x256) ![0, 0] S256x256.size inb_S256x256_S256x256_0_0).toLoadRect X)
    shapeCasts_S256x256_S256x256

/-- A head's queries as the kernel loads them. -/
abbrev rdQ (M : Memref sig .tc .vmem S1x4x256x128 .bf16) (X : BufTy.Contents (Elt F) M.view.ty) (off : Fin 4 → ℕ)
    (inb : ∀ a, off a + S1x1x256x128.size a ≤ S1x4x256x128.size a) : FVec F S256x128 .bf16 :=
  shapeCast S256x128 (View.readAt (Elt F) M.view (Rect.unit (s := S1x4x256x128) off S1x1x256x128.size inb).toLoadRect X)
    shapeCasts_S1x1x256x128_S256x128

/-- Head 0's queries. -/
abbrev rdQ0 (M : Memref sig .tc .vmem S1x4x256x128 .bf16) (X : BufTy.Contents (Elt F) M.view.ty) : FVec F S256x128 .bf16 :=
  rdQ M X _ inb_S1x4x256x128_S1x1x256x128_0_0_0_0

/-- Head 1's queries. -/
abbrev rdQ1 (M : Memref sig .tc .vmem S1x4x256x128 .bf16) (X : BufTy.Contents (Elt F) M.view.ty) : FVec F S256x128 .bf16 :=
  rdQ M X _ inb_S1x4x256x128_S1x1x256x128_0_1_0_0

/-- Head 2's queries. -/
abbrev rdQ2 (M : Memref sig .tc .vmem S1x4x256x128 .bf16) (X : BufTy.Contents (Elt F) M.view.ty) : FVec F S256x128 .bf16 :=
  rdQ M X _ inb_S1x4x256x128_S1x1x256x128_0_2_0_0

/-- Head 3's queries. -/
abbrev rdQ3 (M : Memref sig .tc .vmem S1x4x256x128 .bf16) (X : BufTy.Contents (Elt F) M.view.ty) : FVec F S256x128 .bf16 :=
  rdQ M X _ inb_S1x4x256x128_S1x1x256x128_0_3_0_0

/-- The heads' sums laid side by side, 64 lanes of each. -/
def outTile (a b d e : FVec F S256x128 .f32) : Vec F S1x256x256 .bf16 :=
  k0_pay1 d e (k0_pay372 a b) (k0_pay373) 64#32

/-- The state after both loops, from the state `S` before the first. -/
def loopEnd (c : Dev nD) (i : grid0.Coords)
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) (v29 v56 : BitVec 32)
    (S : Carry F) : Carry F :=
  st_k0_t2 𝒱₀ c none i M0 w0 M1 w1 M2 w2 M3 w3 M4 w4 (BitVec.ofNat 32 (i 2).val)
    (triOf M3 (w3.unread x3)) (rdQ0 M0 (w0.unread x0)) (rdQ1 M0 (w0.unread x0)) (rdQ2 M0 (w0.unread x0)) (rdQ3 M0 (w0.unread x0))
    (k0_pay327) v29 (k0_pay328) v56 (w1.unread x1) (w2.unread x2)
    (st_k0_t1 𝒱₀ c none i M0 w0 M1 w1 M2 w2 M3 w3 M4 w4 (BitVec.ofNat 32 (i 2).val)
      (triOf M3 (w3.unread x3)) (rdQ0 M0 (w0.unread x0)) (rdQ1 M0 (w0.unread x0)) (rdQ2 M0 (w0.unread x0)) (rdQ3 M0 (w0.unread x0))
      (k0_pay327) v29 (k0_pay328) (w1.unread x1) (w2.unread x2) S
      (k0_t1_loop i).trips)
    (k0_t2_loop i).trips

/-- The result's tile from the state after the loops: the first group's values added, the heads laid side by side. -/
def endTile (M2 : Memref sig .tc .vmem S1x4x8192x128 .bf16) (X : BufTy.Contents (Elt F) M2.view.ty) (S : Carry F) : Vec F S1x256x256 .bf16 :=
  outTile
    (app (app (app (app S.1 S.2.2.2.2.2.2.2.2.1 (rdV M2 X _ (k0_off33_inb 0))) S.2.2.2.2.2.2.2.2.2.1 (rdV M2 X _ (k0_off33_inb 1)))
      S.2.2.2.2.2.2.2.2.2.2.1 (rdV M2 X _ (k0_off33_inb 2))) S.2.2.2.2.2.2.2.2.2.2.2.1 (rdV M2 X _ (k0_off33_inb 3)))
    (app (app (app (app S.2.1 S.2.2.2.2.2.2.2.2.2.2.2.2.1 (rdV M2 X _ (k0_off34_inb 0))) S.2.2.2.2.2.2.2.2.2.2.2.2.2.1 (rdV M2 X _ (k0_off34_inb 1))) S.2.2.2.2.2.2.2.2.2.2.2.2.2.2.1 (rdV M2 X _ (k0_off34_inb 2))) S.2.2.2.2.2.2.2.2.2.2.2.2.2.2.2.1 (rdV M2 X _ (k0_off34_inb 3)))
    (app (app (app (app S.2.2.1 S.2.2.2.2.2.2.2.2.2.2.2.2.2.2.2.2.1 (rdV M2 X _ (k0_off35_inb 0))) S.2.2.2.2.2.2.2.2.2.2.2.2.2.2.2.2.2.1 (rdV M2 X _ (k0_off35_inb 1))) S.2.2.2.2.2.2.2.2.2.2.2.2.2.2.2.2.2.2.1 (rdV M2 X _ (k0_off35_inb 2))) S.2.2.2.2.2.2.2.2.2.2.2.2.2.2.2.2.2.2.2.1 (rdV M2 X _ (k0_off35_inb 3)))
    (app (app (app (app S.2.2.2.1 S.2.2.2.2.2.2.2.2.2.2.2.2.2.2.2.2.2.2.2.2.1 (rdV M2 X _ (k0_off36_inb 0))) S.2.2.2.2.2.2.2.2.2.2.2.2.2.2.2.2.2.2.2.2.2.1 (rdV M2 X _ (k0_off36_inb 1))) S.2.2.2.2.2.2.2.2.2.2.2.2.2.2.2.2.2.2.2.2.2.2.1 (rdV M2 X _ (k0_off36_inb 2))) S.2.2.2.2.2.2.2.2.2.2.2.2.2.2.2.2.2.2.2.2.2.2.2 (rdV M2 X _ (k0_off36_inb 3)))

set_option maxHeartbeats 4000000 in
/-- The body's result where the last group holds one key block. -/
theorem bodyRun1_eq (c : Dev nD) (i : grid0.Coords) (h1 : ¬(k0_cond1 i = 1#1))
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    ∃ v29 v56, (bodyRun1 c i h1 M0 w0 M1 w1 M2 w2 M3 w3 M4 w4 x0 x1 x2 x3).1
      = endTile M2 (w2.unread x2) (loopEnd c i M0 w0 M1 w1 M2 w2 M3 w3 M4 w4 x0 x1 x2 x3 v29 v56
          (pack
          (Head.init1 (triOf M3 (w3.unread x3)) (rdQ0 M0 (w0.unread x0)) (rdK M1 (w1.unread x1) _ (k0_off13_inb i h1)))
          (Head.init1 (triOf M3 (w3.unread x3)) (rdQ1 M0 (w0.unread x0)) (rdK M1 (w1.unread x1) _ (k0_off14_inb i h1)))
          (Head.init1 (triOf M3 (w3.unread x3)) (rdQ2 M0 (w0.unread x0)) (rdK M1 (w1.unread x1) _ (k0_off15_inb i h1)))
          (Head.init1 (triOf M3 (w3.unread x3)) (rdQ3 M0 (w0.unread x0)) (rdK M1 (w1.unread x1) _ (k0_off16_inb i h1))))) := by
  refine ⟨bodyRun1.sl.v29 i, ?_, ?_⟩
  rotate_left
  · unfold bodyRun1; dsimp only
    rw [View.read_writes_junk_eq_canon]
    unfold bodyRun1.sl.H4_1
    rw [View.canon_unit_zero (show (![0, 0, 0] : Fin 3 → ℕ) = fun _ => 0 by decide)]
    rfl

set_option maxHeartbeats 4000000 in
/-- The body's result where the last group holds two key blocks. -/
theorem bodyRun2_eq (c : Dev nD) (i : grid0.Coords) (h1 : k0_cond1 i = 1#1) (h2 : ¬(k0_cond2 i = 1#1))
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    ∃ v29 v56, (bodyRun2 c i h1 h2 M0 w0 M1 w1 M2 w2 M3 w3 M4 w4 x0 x1 x2 x3).1
      = endTile M2 (w2.unread x2) (loopEnd c i M0 w0 M1 w1 M2 w2 M3 w3 M4 w4 x0 x1 x2 x3 v29 v56
          (pack
          (Head.init2 (triOf M3 (w3.unread x3)) (rdQ0 M0 (w0.unread x0)) (rdK M1 (w1.unread x1) _ (k0_off9_inb i h1 h2 0)) (rdK M1 (w1.unread x1) _ (k0_off9_inb i h1 h2 1)))
          (Head.init2 (triOf M3 (w3.unread x3)) (rdQ1 M0 (w0.unread x0)) (rdK M1 (w1.unread x1) _ (k0_off10_inb i h1 h2 0)) (rdK M1 (w1.unread x1) _ (k0_off10_inb i h1 h2 1)))
          (Head.init2 (triOf M3 (w3.unread x3)) (rdQ2 M0 (w0.unread x0)) (rdK M1 (w1.unread x1) _ (k0_off11_inb i h1 h2 0)) (rdK M1 (w1.unread x1) _ (k0_off11_inb i h1 h2 1)))
          (Head.init2 (triOf M3 (w3.unread x3)) (rdQ3 M0 (w0.unread x0)) (rdK M1 (w1.unread x1) _ (k0_off12_inb i h1 h2 0)) (rdK M1 (w1.unread x1) _ (k0_off12_inb i h1 h2 1))))) := by
  refine ⟨bodyRun2.sl.v29 i, ?_, ?_⟩
  rotate_left
  · unfold bodyRun2; dsimp only
    rw [View.read_writes_junk_eq_canon]
    unfold bodyRun2.sl.H4_1
    rw [View.canon_unit_zero (show (![0, 0, 0] : Fin 3 → ℕ) = fun _ => 0 by decide)]
    rfl

set_option maxHeartbeats 4000000 in
/-- The body's result where the last group holds three key blocks. -/
theorem bodyRun3_eq (c : Dev nD) (i : grid0.Coords) (h1 : k0_cond1 i = 1#1) (h2 : k0_cond2 i = 1#1) (h3 : ¬(k0_cond3 i = 1#1))
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    ∃ v29 v56, (bodyRun3 c i h1 h2 h3 M0 w0 M1 w1 M2 w2 M3 w3 M4 w4 x0 x1 x2 x3).1
      = endTile M2 (w2.unread x2) (loopEnd c i M0 w0 M1 w1 M2 w2 M3 w3 M4 w4 x0 x1 x2 x3 v29 v56
          (pack
          (Head.init3 (triOf M3 (w3.unread x3)) (rdQ0 M0 (w0.unread x0)) (rdK M1 (w1.unread x1) _ (k0_off5_inb i h1 h2 h3 0)) (rdK M1 (w1.unread x1) _ (k0_off5_inb i h1 h2 h3 1)) (rdK M1 (w1.unread x1) _ (k0_off5_inb i h1 h2 h3 2)))
          (Head.init3 (triOf M3 (w3.unread x3)) (rdQ1 M0 (w0.unread x0)) (rdK M1 (w1.unread x1) _ (k0_off6_inb i h1 h2 h3 0)) (rdK M1 (w1.unread x1) _ (k0_off6_inb i h1 h2 h3 1)) (rdK M1 (w1.unread x1) _ (k0_off6_inb i h1 h2 h3 2)))
          (Head.init3 (triOf M3 (w3.unread x3)) (rdQ2 M0 (w0.unread x0)) (rdK M1 (w1.unread x1) _ (k0_off7_inb i h1 h2 h3 0)) (rdK M1 (w1.unread x1) _ (k0_off7_inb i h1 h2 h3 1)) (rdK M1 (w1.unread x1) _ (k0_off7_inb i h1 h2 h3 2)))
          (Head.init3 (triOf M3 (w3.unread x3)) (rdQ3 M0 (w0.unread x0)) (rdK M1 (w1.unread x1) _ (k0_off8_inb i h1 h2 h3 0)) (rdK M1 (w1.unread x1) _ (k0_off8_inb i h1 h2 h3 1)) (rdK M1 (w1.unread x1) _ (k0_off8_inb i h1 h2 h3 2))))) := by
  refine ⟨bodyRun3.sl.v29 i, ?_, ?_⟩
  rotate_left
  · unfold bodyRun3; dsimp only
    rw [View.read_writes_junk_eq_canon]
    unfold bodyRun3.sl.H4_1
    rw [View.canon_unit_zero (show (![0, 0, 0] : Fin 3 → ℕ) = fun _ => 0 by decide)]
    rfl

set_option maxHeartbeats 4000000 in
/-- The body's result where the last group holds four key blocks. -/
theorem bodyRun4_eq (c : Dev nD) (i : grid0.Coords) (h1 : k0_cond1 i = 1#1) (h2 : k0_cond2 i = 1#1) (h3 : k0_cond3 i = 1#1)
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    ∃ v29 v56, (bodyRun4 c i h1 h2 h3 M0 w0 M1 w1 M2 w2 M3 w3 M4 w4 x0 x1 x2 x3).1
      = endTile M2 (w2.unread x2) (loopEnd c i M0 w0 M1 w1 M2 w2 M3 w3 M4 w4 x0 x1 x2 x3 v29 v56
          (pack
          (Head.init4 (triOf M3 (w3.unread x3)) (rdQ0 M0 (w0.unread x0)) (rdK M1 (w1.unread x1) _ (k0_off1_inb i h1 h2 h3 0)) (rdK M1 (w1.unread x1) _ (k0_off1_inb i h1 h2 h3 1)) (rdK M1 (w1.unread x1) _ (k0_off1_inb i h1 h2 h3 2)) (rdK M1 (w1.unread x1) _ (k0_off1_inb i h1 h2 h3 3)))
          (Head.init4 (triOf M3 (w3.unread x3)) (rdQ1 M0 (w0.unread x0)) (rdK M1 (w1.unread x1) _ (k0_off2_inb i h1 h2 h3 0)) (rdK M1 (w1.unread x1) _ (k0_off2_inb i h1 h2 h3 1)) (rdK M1 (w1.unread x1) _ (k0_off2_inb i h1 h2 h3 2)) (rdK M1 (w1.unread x1) _ (k0_off2_inb i h1 h2 h3 3)))
          (Head.init4 (triOf M3 (w3.unread x3)) (rdQ2 M0 (w0.unread x0)) (rdK M1 (w1.unread x1) _ (k0_off3_inb i h1 h2 h3 0)) (rdK M1 (w1.unread x1) _ (k0_off3_inb i h1 h2 h3 1)) (rdK M1 (w1.unread x1) _ (k0_off3_inb i h1 h2 h3 2)) (rdK M1 (w1.unread x1) _ (k0_off3_inb i h1 h2 h3 3)))
          (Head.init4 (triOf M3 (w3.unread x3)) (rdQ3 M0 (w0.unread x0)) (rdK M1 (w1.unread x1) _ (k0_off4_inb i h1 h2 h3 0)) (rdK M1 (w1.unread x1) _ (k0_off4_inb i h1 h2 h3 1)) (rdK M1 (w1.unread x1) _ (k0_off4_inb i h1 h2 h3 2)) (rdK M1 (w1.unread x1) _ (k0_off4_inb i h1 h2 h3 3))))) := by
  refine ⟨bodyRun4.sl.v29 i, ?_, ?_⟩
  rotate_left
  · unfold bodyRun4; dsimp only
    rw [View.read_writes_junk_eq_canon]
    unfold bodyRun4.sl.H4_1
    rw [View.canon_unit_zero (show (![0, 0, 0] : Fin 3 → ℕ) = fun _ => 0 by decide)]
    rfl

end Cert.Proof.KI

end
-- ==== Proof.KI.Reads.lean ====
/- Where the body's loads read: each rectangle's offsets in closed form, and each load at an index as an element of the
   window's block. -/
module

public import proofs.«01_k».proof.Proof.KI.Trip
public import Idealize.ShloMosaic.Lib.WholeRead
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe Idealize.ShloMosaic.Tactic

/-- The loop's trips: the groups before the last. -/
theorem trips1 : ∀ i : grid0.Coords, (k0_t1_loop i).trips = (i 2).val / 4 := by decide +kernel

/-- The second loop has none. -/
theorem trips2 (i : grid0.Coords) : (k0_t2_loop i).trips = 0 := Nat.le_zero.mp (k0_t2_abs i).2.1

/-- The first condition: the point's row block is not the first of its group. -/
theorem cond1_iff : ∀ i : grid0.Coords, k0_cond1 i = 1#1 ↔ (i 2).val % 4 ≠ 0 := by decide +kernel

/-- The second condition: nor the second. -/
theorem cond2_iff : ∀ i : grid0.Coords, k0_cond1 i = 1#1 → (k0_cond2 i = 1#1 ↔ (i 2).val % 4 ≠ 1) := by decide +kernel

/-- The third condition: nor the third. -/
theorem cond3_iff : ∀ i : grid0.Coords, k0_cond1 i = 1#1 → k0_cond2 i = 1#1 → (k0_cond3 i = 1#1 ↔ (i 2).val % 4 ≠ 2) := by decide +kernel

/-- The last group's key blocks of head 0, 4 of them. -/
theorem off1_eq : ∀ (i : grid0.Coords) (u : Fin 4), k0_off1 i (BitVec.ofNat 32 u.val) = ![0, 0, 4 * ((i 2).val / 4) + u.val, 0, 0] := by decide +kernel

/-- The last group's key blocks of head 0, 3 of them. -/
theorem off5_eq : ∀ (i : grid0.Coords) (u : Fin 3), k0_off5 i (BitVec.ofNat 32 u.val) = ![0, 0, 4 * ((i 2).val / 4) + u.val, 0, 0] := by decide +kernel

/-- The last group's key blocks of head 0, 2 of them. -/
theorem off9_eq : ∀ (i : grid0.Coords) (u : Fin 2), k0_off9 i (BitVec.ofNat 32 u.val) = ![0, 0, 4 * ((i 2).val / 4) + u.val, 0, 0] := by decide +kernel

/-- The last group's one key block of head 0. -/
theorem off13_eq : ∀ (i : grid0.Coords), k0_off13 i = ![0, 0, 4 * ((i 2).val / 4), 0, 0] := by decide +kernel

/-- A trip's value blocks of head 0: the group before whose keys it weighs. -/
theorem off17_eq : ∀ (i : grid0.Coords) (k : Fin (k0_t1_loop i).trips) (u : Fin 4),
    k0_off17 i k (BitVec.ofNat 32 u.val) = ![0, 0, 256 * (4 * ((i 2).val / 4 - k.val) + u.val), 0] := by decide +kernel

/-- A trip's key blocks of head 0. -/
theorem off21_eq : ∀ (i : grid0.Coords) (k : Fin (k0_t1_loop i).trips) (u : Fin 4),
    k0_off21 i k (BitVec.ofNat 32 u.val) = ![0, 0, 4 * ((i 2).val / 4 - 1 - k.val) + u.val, 0, 0] := by decide +kernel

/-- The first group's value blocks of head 0. -/
theorem off33_eq : ∀ (u : Fin 4), k0_off33 (BitVec.ofNat 32 u.val) = ![0, 0, 256 * u.val, 0] := by decide +kernel

/-- The last group's key blocks of head 1, 4 of them. -/
theorem off2_eq : ∀ (i : grid0.Coords) (u : Fin 4), k0_off2 i (BitVec.ofNat 32 u.val) = ![0, 1, 4 * ((i 2).val / 4) + u.val, 0, 0] := by decide +kernel

/-- The last group's key blocks of head 1, 3 of them. -/
theorem off6_eq : ∀ (i : grid0.Coords) (u : Fin 3), k0_off6 i (BitVec.ofNat 32 u.val) = ![0, 1, 4 * ((i 2).val / 4) + u.val, 0, 0] := by decide +kernel

/-- The last group's key blocks of head 1, 2 of them. -/
theorem off10_eq : ∀ (i : grid0.Coords) (u : Fin 2), k0_off10 i (BitVec.ofNat 32 u.val) = ![0, 1, 4 * ((i 2).val / 4) + u.val, 0, 0] := by decide +kernel

/-- The last group's one key block of head 1. -/
theorem off14_eq : ∀ (i : grid0.Coords), k0_off14 i = ![0, 1, 4 * ((i 2).val / 4), 0, 0] := by decide +kernel

/-- A trip's value blocks of head 1: the group before whose keys it weighs. -/
theorem off18_eq : ∀ (i : grid0.Coords) (k : Fin (k0_t1_loop i).trips) (u : Fin 4),
    k0_off18 i k (BitVec.ofNat 32 u.val) = ![0, 1, 256 * (4 * ((i 2).val / 4 - k.val) + u.val), 0] := by decide +kernel

/-- A trip's key blocks of head 1. -/
theorem off22_eq : ∀ (i : grid0.Coords) (k : Fin (k0_t1_loop i).trips) (u : Fin 4),
    k0_off22 i k (BitVec.ofNat 32 u.val) = ![0, 1, 4 * ((i 2).val / 4 - 1 - k.val) + u.val, 0, 0] := by decide +kernel

/-- The first group's value blocks of head 1. -/
theorem off34_eq : ∀ (u : Fin 4), k0_off34 (BitVec.ofNat 32 u.val) = ![0, 1, 256 * u.val, 0] := by decide +kernel

/-- The last group's key blocks of head 2, 4 of them. -/
theorem off3_eq : ∀ (i : grid0.Coords) (u : Fin 4), k0_off3 i (BitVec.ofNat 32 u.val) = ![0, 2, 4 * ((i 2).val / 4) + u.val, 0, 0] := by decide +kernel

/-- The last group's key blocks of head 2, 3 of them. -/
theorem off7_eq : ∀ (i : grid0.Coords) (u : Fin 3), k0_off7 i (BitVec.ofNat 32 u.val) = ![0, 2, 4 * ((i 2).val / 4) + u.val, 0, 0] := by decide +kernel

/-- The last group's key blocks of head 2, 2 of them. -/
theorem off11_eq : ∀ (i : grid0.Coords) (u : Fin 2), k0_off11 i (BitVec.ofNat 32 u.val) = ![0, 2, 4 * ((i 2).val / 4) + u.val, 0, 0] := by decide +kernel

/-- The last group's one key block of head 2. -/
theorem off15_eq : ∀ (i : grid0.Coords), k0_off15 i = ![0, 2, 4 * ((i 2).val / 4), 0, 0] := by decide +kernel

/-- A trip's value blocks of head 2: the group before whose keys it weighs. -/
theorem off19_eq : ∀ (i : grid0.Coords) (k : Fin (k0_t1_loop i).trips) (u : Fin 4),
    k0_off19 i k (BitVec.ofNat 32 u.val) = ![0, 2, 256 * (4 * ((i 2).val / 4 - k.val) + u.val), 0] := by decide +kernel

/-- A trip's key blocks of head 2. -/
theorem off23_eq : ∀ (i : grid0.Coords) (k : Fin (k0_t1_loop i).trips) (u : Fin 4),
    k0_off23 i k (BitVec.ofNat 32 u.val) = ![0, 2, 4 * ((i 2).val / 4 - 1 - k.val) + u.val, 0, 0] := by decide +kernel

/-- The first group's value blocks of head 2. -/
theorem off35_eq : ∀ (u : Fin 4), k0_off35 (BitVec.ofNat 32 u.val) = ![0, 2, 256 * u.val, 0] := by decide +kernel

/-- The last group's key blocks of head 3, 4 of them. -/
theorem off4_eq : ∀ (i : grid0.Coords) (u : Fin 4), k0_off4 i (BitVec.ofNat 32 u.val) = ![0, 3, 4 * ((i 2).val / 4) + u.val, 0, 0] := by decide +kernel

/-- The last group's key blocks of head 3, 3 of them. -/
theorem off8_eq : ∀ (i : grid0.Coords) (u : Fin 3), k0_off8 i (BitVec.ofNat 32 u.val) = ![0, 3, 4 * ((i 2).val / 4) + u.val, 0, 0] := by decide +kernel

/-- The last group's key blocks of head 3, 2 of them. -/
theorem off12_eq : ∀ (i : grid0.Coords) (u : Fin 2), k0_off12 i (BitVec.ofNat 32 u.val) = ![0, 3, 4 * ((i 2).val / 4) + u.val, 0, 0] := by decide +kernel

/-- The last group's one key block of head 3. -/
theorem off16_eq : ∀ (i : grid0.Coords), k0_off16 i = ![0, 3, 4 * ((i 2).val / 4), 0, 0] := by decide +kernel

/-- A trip's value blocks of head 3: the group before whose keys it weighs. -/
theorem off20_eq : ∀ (i : grid0.Coords) (k : Fin (k0_t1_loop i).trips) (u : Fin 4),
    k0_off20 i k (BitVec.ofNat 32 u.val) = ![0, 3, 256 * (4 * ((i 2).val / 4 - k.val) + u.val), 0] := by decide +kernel

/-- A trip's key blocks of head 3. -/
theorem off24_eq : ∀ (i : grid0.Coords) (k : Fin (k0_t1_loop i).trips) (u : Fin 4),
    k0_off24 i k (BitVec.ofNat 32 u.val) = ![0, 3, 4 * ((i 2).val / 4 - 1 - k.val) + u.val, 0, 0] := by decide +kernel

/-- The first group's value blocks of head 3. -/
theorem off36_eq : ∀ (u : Fin 4), k0_off36 (BitVec.ofNat 32 u.val) = ![0, 3, 256 * u.val, 0] := by decide +kernel

variable {F : FTy → Type} [FloatOps F] [Named F]

/-- A key block's element. -/
theorem rdK_apply (M : Memref sig .tc .vmem S1x4x32x128x256 .bf16) (w : M.IsWhole) (x : Vec F S1x4x32x128x256 .bf16)
    {off : Fin 5 → ℕ} (inb : ∀ a, off a + S1x1x1x128x256.size a ≤ S1x4x32x128x256.size a) (h : Fin 4) (j : Fin 32)
    (e : off = ![0, h.val, j.val, 0, 0]) (d : Fin 128) (c : Fin 256) :
    rdK M (w.unread x) off inb (ix5 0 0 0 d c) = x (ix5 0 h j d c) := by
  subst e
  refine (w.readAt_unread x _ _).trans (congrArg x (funext fun a => ?_))
  fin_cases a <;> exact Fin.ext (by simp [LoadRect.idx, Rect.unit, Rect.toLoadRect, ix5])

/-- A value block's element. -/
theorem rdV_apply (M : Memref sig .tc .vmem S1x4x8192x128 .bf16) (w : M.IsWhole) (x : Vec F S1x4x8192x128 .bf16)
    {off : Fin 4 → ℕ} (inb : ∀ a, off a + S1x1x256x128.size a ≤ S1x4x8192x128.size a) (h : Fin 4) (j : ℕ) (hj : j + 256 ≤ 8192)
    (e : off = ![0, h.val, j, 0]) (c : Fin 256) (l : Fin 128) :
    rdV M (w.unread x) off inb (ix4 0 0 c l) = x (ix4 0 h ⟨j + c.val, by omega⟩ l) := by
  subst e
  refine (w.readAt_unread x _ _).trans (congrArg x (funext fun a => ?_))
  fin_cases a <;> exact Fin.ext (by simp [LoadRect.idx, Rect.unit, Rect.toLoadRect, ix4])

end Cert.Proof.KI

end
-- ==== Proof.Stick.lean ====
/- The mathematics of one row of stick-breaking attention over the reals: the row's scores are a function of the key's
   position, the row's own position is `t`, and the sums over later keys are cut at a block's first key. Also the float
   steps of the two programs, read at the extended reals on real numbers. -/
module

public import Idealize.ShloMosaic.PureOps.Ideal
public import Idealize.ShloMosaic.PureOps.Ideal.Laws

@[expose] public section

noncomputable section

namespace Cert.Proof.Stick

open Idealize.ShloMosaic

/-- `log (1 + eˣ)`, as both programs compute it. -/
def sp (x : ℝ) : ℝ := max x 0 + Real.log (1 + Real.exp (-|x|))

/-- The cost of passing key `s` by: `sp` of its score where `s` is before the row's position `t`, else nothing. -/
def cost (t : ℕ) (z : ℕ → ℝ) (s : ℕ) : ℝ := if s < t then sp (z s) else 0

/-- The costs of the keys from `a` on. -/
def tailFrom (t : ℕ) (z : ℕ → ℝ) (a : ℕ) : ℝ := ∑ s ∈ Finset.Ico a 8192, cost t z s

/-- The weight of key `s` in row `t`. -/
def wt (t : ℕ) (z : ℕ → ℝ) (s : ℕ) : ℝ := if s < t then Real.exp (z s - tailFrom t z s) else 0

/-- The weighted sum of a column of values over the keys from `a` on. -/
def accFrom (t : ℕ) (z v : ℕ → ℝ) (a : ℕ) : ℝ := ∑ s ∈ Finset.Ico a 8192, wt t z s * v s

/-- A sum over the 256 positions of a block that begins at `a`. -/
theorem sum_block (f : ℕ → ℝ) (a : ℕ) : ∑ s ∈ Finset.Ico a (a + 256), f s = ∑ c : Fin 256, f (a + c.val) := by
  rw [Finset.sum_Ico_eq_sum_range, Nat.add_sub_cancel_left, ← Fin.sum_univ_eq_sum_range (fun k => f (a + k))]

/-- The costs from the block's position `c` on: those within the block, then those after it. -/
theorem tailFrom_block (t : ℕ) (z : ℕ → ℝ) (a : ℕ) (ha : a + 256 ≤ 8192) (c : ℕ) (hc : c ≤ 256) :
    tailFrom t z (a + c) = (∑ c' : Fin 256, if c ≤ c'.val then cost t z (a + c'.val) else 0) + tailFrom t z (a + 256) := by
  unfold tailFrom
  rw [← Finset.sum_Ico_consecutive _ (show a + c ≤ a + 256 by omega) ha]
  congr 1
  rw [← sum_block (fun s => if c ≤ s - a then cost t z s else 0) a |>.trans
    (Finset.sum_congr rfl fun c' _ => by rw [Nat.add_sub_cancel_left])]
  rw [← Finset.sum_filter]
  refine Finset.sum_congr (Finset.ext fun s => ?_) fun _ _ => rfl
  simp only [Finset.mem_filter, Finset.mem_Ico]
  omega

/-- The weighted sum from a block on: the block's part, then the rest. -/
theorem accFrom_block (t : ℕ) (z v : ℕ → ℝ) (a : ℕ) (ha : a + 256 ≤ 8192) :
    accFrom t z v a = accFrom t z v (a + 256) + ∑ c : Fin 256, wt t z (a + c.val) * v (a + c.val) := by
  unfold accFrom
  rw [← Finset.sum_Ico_consecutive _ (show a ≤ a + 256 by omega) ha, sum_block (fun s => wt t z s * v s) a, add_comm]

/-- No weight from the row's position on. -/
theorem accFrom_eq_zero (t : ℕ) (z v : ℕ → ℝ) (a : ℕ) (h : t ≤ a) : accFrom t z v a = 0 :=
  Finset.sum_eq_zero fun s hs => by
    have := (Finset.mem_Ico.mp hs).1
    rw [wt, if_neg (by omega), zero_mul]

/-- No cost from the row's position on. -/
theorem tailFrom_eq_zero (t : ℕ) (z : ℕ → ℝ) (a : ℕ) (h : t ≤ a) : tailFrom t z a = 0 :=
  Finset.sum_eq_zero fun s hs => by
    have := (Finset.mem_Ico.mp hs).1
    rw [cost, if_neg (by omega)]

/-- `sp x - sp (-x) = x`: the two logarithms of the logistic function and of its complement differ by the score. -/
theorem sp_neg (x : ℝ) : -sp (-x) = x - sp x := by
  unfold sp
  rw [abs_neg]
  rcases le_total x 0 with h | h
  · rw [max_eq_left (by linarith : (0:ℝ) ≤ -x), max_eq_right h]; ring
  · rw [max_eq_right (by linarith : -x ≤ (0:ℝ)), max_eq_left h]; ring

/-! ## On real numbers the float steps are the real ones -/

/-- A finite sum of real numbers, taken in the extended reals. -/
theorem coe_sum {ι : Type} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

theorem coe_max (x y : ℝ) : ((max x y : ℝ) : EReal) = max (x : EReal) (y : EReal) := EReal.coe_strictMono.monotone.map_max

theorem log_one_add_exp (x : ℝ) : Ideal.log (1 + ((Real.exp x : ℝ) : EReal)) = ((Real.log (1 + Real.exp x) : ℝ) : EReal) := by
  rw [← EReal.coe_one, ← EReal.coe_add, Ideal.log_coe, if_neg (by have := Real.exp_pos x; linarith)]

/-- The kernel's form: the exponential to base two of the magnitude times `-1 / log 2`. -/
theorem sp_kernel (x : ℝ) :
    max (x : EReal) 0 + Ideal.log (1 + Ideal.exp2 (max (x : EReal) (-(x : EReal)) * ((-((Real.log 2)⁻¹) : ℝ) : EReal))) = (sp x : EReal) := by
  have h : max (x : EReal) (-(x : EReal)) = ((|x| : ℝ) : EReal) := by rw [← EReal.coe_neg, ← coe_max]; rfl
  have h2 : Real.rpow 2 (|x| * -(Real.log 2)⁻¹) = Real.exp (-|x|) := by
    have hl : Real.log 2 ≠ 0 := (Real.log_pos one_lt_two).ne'
    show (2:ℝ) ^ (|x| * -(Real.log 2)⁻¹) = _
    rw [Real.rpow_def_of_pos two_pos]
    congr 1; field_simp
  rw [h, ← EReal.coe_mul, Ideal.exp2_coe, h2, log_one_add_exp, ← EReal.coe_zero, ← coe_max, ← EReal.coe_add]
  rfl

/-- The reference's form: the exponential of the negated magnitude. -/
theorem sp_reference (x : ℝ) :
    max (x : EReal) 0 + Ideal.log (1 + Ideal.exp (-(max (x : EReal) (-(x : EReal))))) = (sp x : EReal) := by
  have h : max (x : EReal) (-(x : EReal)) = ((|x| : ℝ) : EReal) := by rw [← EReal.coe_neg, ← coe_max]; rfl
  rw [h, ← EReal.coe_neg, Ideal.exp_coe, log_one_add_exp, ← EReal.coe_zero, ← coe_max, ← EReal.coe_add]
  rfl

/-- A number that is neither infinity is a real one. -/
theorem eq_coe_of_abs_lt {x : EReal} (h : max x (-x) < ⊤) : ∃ r : ℝ, x = (r : EReal) := by
  induction x with
  | bot => simp at h
  | top => simp at h
  | coe r => exact ⟨r, rfl⟩

end Cert.Proof.Stick

end
-- ==== Proof.KI.Unit.lean ====
/- The kernel's steps on tiles, at the extended reals and on real numbers: each is the row mathematics of `Stick` at the
   tile's keys. -/
module

public import proofs.«01_k».proof.Proof.KI.Spec
public import proofs.«01_k».proof.Proof.Stick
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe Idealize.ShloMosaic.Tactic
open Cert.Proof.Stick

/-- The named constant is `-1 / log 2`. -/
theorem log2e_eq : Named.named (F := Ideal) κ "log2e" (φ := .f32) 0xBFB8AA3B#32 = ((-((Real.log 2)⁻¹) : ℝ) : EReal) :=
  IdealRules.named_const.ideal_named_scalar _ _ _ _ rfl

/-- A score is the inner product of a query and a key. -/
theorem score_apply (q : FVec Ideal S256x128 .bf16) (k : Vec Ideal S1x1x1x128x256 .bf16) (r c : Fin 256) :
    score q k (ix2 r c) = ∑ d : Fin 128, q (ix2 r d) * k (ix5 0 0 0 d c) := by
  pointwise [score]

/-- The cost, elementwise. -/
theorem softp_apply (z : FVec Ideal S256x256 .f32) (r c : Fin 256) :
    softp z (ix2 r c) = max (z (ix2 r c)) 0
      + Ideal.log (1 + Ideal.exp2 (max (z (ix2 r c)) (-(z (ix2 r c))) * ((-((Real.log 2)⁻¹) : ℝ) : EReal))) := by
  rw [← log2e_eq]
  pointwise [softp]
  rfl

/-- The costs within a block, as a product with the triangle. -/
theorem later_apply (u : FVec Ideal S256x256 .bf16) (s : FVec Ideal S256x256 .f32) (r c : Fin 256) :
    later u s (ix2 r c) = ∑ c' : Fin 256, s (ix2 r c') * u (ix2 c' c) := by
  pointwise [later]

/-- The weights, elementwise. -/
theorem weigh_apply (z l : FVec Ideal S256x256 .f32) (tail : FVec Ideal S256x1 .f32) (r c : Fin 256) :
    weigh z l tail (ix2 r c) = Ideal.exp (z (ix2 r c) - l (ix2 r c) - tail (ix2 r 0)) := by
  pointwise [weigh]

/-- The costs after the next block, elementwise. -/
theorem tailOf_apply (tail : FVec Ideal S256x1 .f32) (l : FVec Ideal S256x256 .f32) (r : Fin 256) :
    tailOf tail l (ix2 r 0) = tail (ix2 r 0) + l (ix2 r 0) := by
  pointwise [tailOf]

/-- The weighted sum, elementwise. -/
theorem app_apply (acc : FVec Ideal S256x128 .f32) (w : FVec Ideal S256x256 .bf16) (v : Vec Ideal S1x1x256x128 .bf16) (r : Fin 256) (l : Fin 128) :
    app acc w v (ix2 r l) = acc (ix2 r l) + ∑ c : Fin 256, w (ix2 r c) * v (ix4 0 0 c l) := by
  pointwise [app]

/-- Small words compare as the numbers do. -/
theorem slt_ofNat (a b : ℕ) (ha : a < 256) (hb : b < 256) :
    Scalar.cmpi .slt (BitVec.ofNat 32 a) (BitVec.ofNat 32 b) = if a < b then 1#1 else 0#1 := by
  have h : ∀ n, n < 256 → (BitVec.ofNat 32 n).toInt = (n : ℤ) := fun n hn => by
    rw [BitVec.toInt_ofNat', Int.bmod_eq_of_le] <;> omega
  show BitVec.ofBool ((BitVec.ofNat 32 a).slt (BitVec.ofNat 32 b)) = _
  rw [BitVec.slt, h a ha, h b hb]
  split <;> rename_i hh
  · rw [decide_eq_true (by exact_mod_cast hh)]; rfl
  · rw [decide_eq_false (by exact_mod_cast hh)]; rfl

/-- The strict triangle: the key before the row. -/
theorem strict_apply (r c : Fin 256) : (k0_pay327) (ix2 r c) = if c.val < r.val then 1#1 else 0#1 := by
  rw [← slt_ofNat _ _ c.isLt r.isLt]
  pointwise [k0_pay327]
  rfl

variable {t : Fin 256 → ℕ} {Z : Fin 256 → ℕ → ℝ} {V : Fin 128 → ℕ → ℝ} {u : FVec Ideal S256x256 .bf16}
  {q : FVec Ideal S256x128 .bf16} {k : Vec Ideal S1x1x1x128x256 .bf16} {tail : FVec Ideal S256x1 .f32} {a : ℕ}

/-- The triangle: one where the second key is not after the first. -/
def Tri (u : FVec Ideal S256x256 .bf16) : Prop := ∀ c' c : Fin 256, u (ix2 c' c) = if c.val ≤ c'.val then 1 else 0

/-- The scores against a key tile are those of the keys from `a` on. -/
def Scores (Z : Fin 256 → ℕ → ℝ) (q : FVec Ideal S256x128 .bf16) (k : Vec Ideal S1x1x1x128x256 .bf16) (a : ℕ) : Prop :=
  ∀ r c : Fin 256, score q k (ix2 r c) = ((Z r (a + c.val) : ℝ) : EReal)

/-- The running costs are those of the keys from `a` on. -/
def Tail (t : Fin 256 → ℕ) (Z : Fin 256 → ℕ → ℝ) (tail : FVec Ideal S256x1 .f32) (a : ℕ) : Prop :=
  ∀ r : Fin 256, tail (ix2 r 0) = ((tailFrom (t r) (Z r) a : ℝ) : EReal)

/-- The weights are those of the keys from `a` on. -/
def Weights (t : Fin 256 → ℕ) (Z : Fin 256 → ℕ → ℝ) (w : FVec Ideal S256x256 .bf16) (a : ℕ) : Prop :=
  ∀ r c : Fin 256, w (ix2 r c) = ((wt (t r) (Z r) (a + c.val) : ℝ) : EReal)

/-- The weighted sum is that over the keys from `a` on. -/
def Acc (t : Fin 256 → ℕ) (Z : Fin 256 → ℕ → ℝ) (V : Fin 128 → ℕ → ℝ) (acc : FVec Ideal S256x128 .f32) (a : ℕ) : Prop :=
  ∀ (r : Fin 256) (l : Fin 128), acc (ix2 r l) = ((accFrom (t r) (Z r) (V l) a : ℝ) : EReal)

/-- The values of a tile are those of the keys from `a` on. -/
def Values (V : Fin 128 → ℕ → ℝ) (v : Vec Ideal S1x1x256x128 .bf16) (a : ℕ) : Prop :=
  ∀ (c : Fin 256) (l : Fin 128), v (ix4 0 0 c l) = ((V l (a + c.val) : ℝ) : EReal)

/-- The costs within a block of which every key's cost is known. -/
theorem later_real (hu : Tri u) (s : FVec Ideal S256x256 .f32)
    (hs : ∀ r c : Fin 256, s (ix2 r c) = ((cost (t r) (Z r) (a + c.val) : ℝ) : EReal)) (r c : Fin 256) :
    later u s (ix2 r c) = ((∑ c' : Fin 256, if c.val ≤ c'.val then cost (t r) (Z r) (a + c'.val) else 0 : ℝ) : EReal) := by
  rw [later_apply, coe_sum]
  refine Finset.sum_congr rfl fun c' _ => ?_
  rw [hs, hu]
  split
  · rw [mul_one]
  · rw [mul_zero, EReal.coe_zero]

/-- The costs within a block wholly before the rows. -/
theorem laterU_real (hu : Tri u) (hz : Scores Z q k a) (hb : ∀ r : Fin 256, a + 256 ≤ t r) (r c : Fin 256) :
    laterU u q k (ix2 r c) = ((∑ c' : Fin 256, if c.val ≤ c'.val then cost (t r) (Z r) (a + c'.val) else 0 : ℝ) : EReal) :=
  later_real hu _ (fun r c => by
    rw [softp_apply, hz, sp_kernel, cost, if_pos (by have := hb r; omega)]) r c

/-- The costs within the diagonal block. -/
theorem laterD_real (hu : Tri u) (hz : Scores Z q k a) (hd : ∀ r : Fin 256, t r = a + r.val) (r c : Fin 256) :
    laterD u q k (ix2 r c) = ((∑ c' : Fin 256, if c.val ≤ c'.val then cost (t r) (Z r) (a + c'.val) else 0 : ℝ) : EReal) :=
  later_real hu _ (fun r c => by
    have h : select (k0_pay327) (softp (score q k)) (broadcast S256x256 (Scalar.ofBits .f32 0x00000000#32)) (ix2 r c)
        = if c.val < r.val then softp (score q k) (ix2 r c) else 0 := by
      have := strict_apply r c
      pointwise [this]
      split <;> simp_all <;> rfl
    rw [h, softp_apply, hz, sp_kernel, cost, hd r]
    by_cases hc : c.val < r.val
    · rw [if_pos hc, if_pos (by omega)]
    · rw [if_neg hc, if_neg (by omega), EReal.coe_zero]) r c

/-- A block's costs from its first key on, added to those after it. -/
theorem tailOf_real (ha : a + 256 ≤ 8192) (ht : Tail t Z tail (a + 256)) (l : FVec Ideal S256x256 .f32)
    (hl : ∀ r c : Fin 256, l (ix2 r c) = ((∑ c' : Fin 256, if c.val ≤ c'.val then cost (t r) (Z r) (a + c'.val) else 0 : ℝ) : EReal)) :
    Tail t Z (tailOf tail l) a := fun r => by
  rw [tailOf_apply, ht r, hl, ← EReal.coe_add, add_comm]
  exact congrArg _ (tailFrom_block (t r) (Z r) a ha 0 (by omega)).symm

/-- A block's weights before the rows are cut. -/
theorem weigh_real (ha : a + 256 ≤ 8192) (hz : Scores Z q k a) (ht : Tail t Z tail (a + 256)) (l : FVec Ideal S256x256 .f32)
    (hl : ∀ r c : Fin 256, l (ix2 r c) = ((∑ c' : Fin 256, if c.val ≤ c'.val then cost (t r) (Z r) (a + c'.val) else 0 : ℝ) : EReal))
    (r c : Fin 256) :
    weigh (score q k) l tail (ix2 r c) = ((Real.exp (Z r (a + c.val) - tailFrom (t r) (Z r) (a + c.val)) : ℝ) : EReal) := by
  rw [weigh_apply, hz, ht r, hl, ← EReal.coe_sub, ← EReal.coe_sub, Ideal.exp_coe, sub_sub,
    ← tailFrom_block (t r) (Z r) a ha c.val (by omega)]

/-- The weights of a block wholly before the rows. -/
theorem weighU_real (ha : a + 256 ≤ 8192) (hu : Tri u) (hz : Scores Z q k a) (hb : ∀ r : Fin 256, a + 256 ≤ t r)
    (ht : Tail t Z tail (a + 256)) : Weights t Z (weighU u q k tail) a := fun r c => by
  rw [weighU, weigh_real ha hz ht _ (laterU_real hu hz hb), wt, if_pos (by have := hb r; omega)]

/-- The costs from a block wholly before the rows on. -/
theorem tailU_real (ha : a + 256 ≤ 8192) (hu : Tri u) (hz : Scores Z q k a) (hb : ∀ r : Fin 256, a + 256 ≤ t r)
    (ht : Tail t Z tail (a + 256)) : Tail t Z (tailU u q k tail) a :=
  tailOf_real ha ht _ (laterU_real hu hz hb)

/-- After the last block there are no costs. -/
theorem tail0_real (hd : ∀ r : Fin 256, t r ≤ a) : Tail t Z tail0 a := fun r => by
  rw [tailFrom_eq_zero _ _ _ (hd r), EReal.coe_zero]
  pointwise [tail0]

/-- The weights of the diagonal block. -/
theorem weighD_real (ha : a + 256 ≤ 8192) (hu : Tri u) (hz : Scores Z q k a) (hd : ∀ r : Fin 256, t r = a + r.val) :
    Weights t Z (weighD u q k) a := fun r c => by
  have h : weighD u q k (ix2 r c) = if c.val < r.val then weigh (score q k) (laterD u q k) tail0 (ix2 r c) else 0 := by
    have := strict_apply r c
    pointwise [weighD, this]
    split <;> simp_all <;> rfl
  rw [h, weigh_real ha hz (tail0_real fun r => by have := hd r; omega) _ (laterD_real hu hz hd), wt, hd r]
  by_cases hc : c.val < r.val
  · rw [if_pos hc, if_pos (by omega)]
  · rw [if_neg hc, if_neg (by omega), EReal.coe_zero]

/-- The costs from the diagonal block on. -/
theorem tailD_real (ha : a + 256 ≤ 8192) (hu : Tri u) (hz : Scores Z q k a) (hd : ∀ r : Fin 256, t r = a + r.val) :
    Tail t Z (tailD u q k) a :=
  tailOf_real ha (tail0_real fun r => by have := hd r; omega) _ (laterD_real hu hz hd)

/-- No weight on a block after the rows. -/
theorem weight0_real (hd : ∀ r : Fin 256, t r ≤ a) : Weights t Z weight0 a := fun r c => by
  rw [wt, if_neg (by have := hd r; omega), EReal.coe_zero]
  pointwise [weight0]

/-- The sum over no keys. -/
theorem acc0_real (hd : ∀ r : Fin 256, t r ≤ a) : Acc t Z V acc0 a := fun r l => by
  rw [accFrom_eq_zero _ _ _ _ (hd r), EReal.coe_zero]
  pointwise [acc0]

/-- A block of values weighted and added. -/
theorem app_real (ha : a + 256 ≤ 8192) {acc : FVec Ideal S256x128 .f32} {w : FVec Ideal S256x256 .bf16} {v : Vec Ideal S1x1x256x128 .bf16}
    (hacc : Acc t Z V acc (a + 256)) (hw : Weights t Z w a) (hv : Values V v a) : Acc t Z V (app acc w v) a := fun r l => by
  rw [app_apply, hacc r l, accFrom_block _ _ _ a ha, EReal.coe_add, coe_sum]
  congr 1
  exact Finset.sum_congr rfl fun c _ => by rw [hw, hv, ← EReal.coe_mul]

/-- A head's state when the groups from `g` on are weighed and those from `g + 1` on are added. -/
structure HeadAt (t : Fin 256 → ℕ) (Z : Fin 256 → ℕ → ℝ) (V : Fin 128 → ℕ → ℝ) (s : Head Ideal) (g : ℕ) : Prop where
  acc : Acc t Z V s.acc (1024 * g + 1024)
  tail : Tail t Z s.tail (1024 * g)
  w0 : Weights t Z s.w0 (1024 * g)
  w1 : Weights t Z s.w1 (1024 * g + 256)
  w2 : Weights t Z s.w2 (1024 * g + 512)
  w3 : Weights t Z s.w3 (1024 * g + 768)

/-- The group's values added. -/
theorem HeadAt.sum {s : Head Ideal} {g : ℕ} (h : HeadAt t Z V s g) (hg : 1024 * g + 1024 ≤ 8192) {v0 v1 v2 v3 : Vec Ideal S1x1x256x128 .bf16}
    (h0 : Values V v0 (1024 * g)) (h1 : Values V v1 (1024 * g + 256)) (h2 : Values V v2 (1024 * g + 512)) (h3 : Values V v3 (1024 * g + 768)) :
    Acc t Z V (s.sum v0 v1 v2 v3) (1024 * g) := fun r l => by
  -- the blocks' sums are added first to last, so the first three are taken out of the order of the keys
  have e : ∀ (acc : FVec Ideal S256x128 .f32) (w : FVec Ideal S256x256 .bf16) (v : Vec Ideal S1x1x256x128 .bf16) (a : ℕ) (x : ℝ),
      acc (ix2 r l) = (x : EReal) → Weights t Z w a → Values V v a →
      app acc w v (ix2 r l) = ((x + ∑ c : Fin 256, wt (t r) (Z r) (a + c.val) * V l (a + c.val) : ℝ) : EReal) := by
    intro acc w v a x hx hw hv
    rw [app_apply, hx, EReal.coe_add, coe_sum]
    congr 1
    exact Finset.sum_congr rfl fun c _ => by rw [hw, hv, ← EReal.coe_mul]
  rw [Head.sum, e _ _ _ _ _ (e _ _ _ _ _ (e _ _ _ _ _ (e _ _ _ _ _ (h.acc r l) h.w0 h0) h.w1 h1) h.w2 h2) h.w3 h3]
  congr 1
  rw [accFrom_block _ _ _ (1024 * g) (by omega), accFrom_block _ _ _ (1024 * g + 256) (by omega),
    accFrom_block _ _ _ (1024 * g + 256 + 256) (by omega), accFrom_block _ _ _ (1024 * g + 256 + 256 + 256) (by omega)]
  ring

/-- One trip takes a head from group `g + 1` to group `g`. -/
theorem HeadAt.step {s : Head Ideal} {g : ℕ} (h : HeadAt t Z V s (g + 1)) (hg : 1024 * g + 2048 ≤ 8192) (hu : Tri u)
    (hb : ∀ r : Fin 256, 1024 * g + 1024 ≤ t r)
    {k0 k1 k2 k3 : Vec Ideal S1x1x1x128x256 .bf16} {v0 v1 v2 v3 : Vec Ideal S1x1x256x128 .bf16}
    (hk0 : Scores Z q k0 (1024 * g)) (hk1 : Scores Z q k1 (1024 * g + 256)) (hk2 : Scores Z q k2 (1024 * g + 512))
    (hk3 : Scores Z q k3 (1024 * g + 768))
    (h0 : Values V v0 (1024 * (g + 1))) (h1 : Values V v1 (1024 * (g + 1) + 256)) (h2 : Values V v2 (1024 * (g + 1) + 512))
    (h3 : Values V v3 (1024 * (g + 1) + 768)) :
    HeadAt t Z V (s.step u q k0 k1 k2 k3 v0 v1 v2 v3) g := by
  have b3 : ∀ r : Fin 256, 1024 * g + 768 + 256 ≤ t r := fun r => by have := hb r; omega
  have b2 : ∀ r : Fin 256, 1024 * g + 512 + 256 ≤ t r := fun r => by have := hb r; omega
  have b1 : ∀ r : Fin 256, 1024 * g + 256 + 256 ≤ t r := fun r => by have := hb r; omega
  have b0 : ∀ r : Fin 256, 1024 * g + 256 ≤ t r := fun r => by have := hb r; omega
  have t4 : Tail t Z s.tail (1024 * g + 768 + 256) := h.tail
  have t3 : Tail t Z _ (1024 * g + 512 + 256) := tailU_real (by omega) hu hk3 b3 t4
  have t2 : Tail t Z _ (1024 * g + 256 + 256) := tailU_real (by omega) hu hk2 b2 t3
  have t1 : Tail t Z _ (1024 * g + 256) := tailU_real (by omega) hu hk1 b1 t2
  exact { acc := h.sum (by omega) h0 h1 h2 h3
          tail := tailU_real (by omega) hu hk0 b0 t1
          w0 := weighU_real (by omega) hu hk0 b0 t1
          w1 := weighU_real (by omega) hu hk1 b1 t2
          w2 := weighU_real (by omega) hu hk2 b2 t3
          w3 := weighU_real (by omega) hu hk3 b3 t4 }

/-- The state after a last group of one key block. -/
theorem HeadAt.init1 {g : ℕ} (hg : 1024 * g + 1024 ≤ 8192) (hu : Tri u) (hd : ∀ r : Fin 256, t r = 1024 * g + r.val)
    {k0 : Vec Ideal S1x1x1x128x256 .bf16} (hk0 : Scores Z q k0 (1024 * g)) : HeadAt t Z V (Head.init1 u q k0) g where
  acc := acc0_real fun r => by have := hd r; omega
  tail := tailD_real (by omega) hu hk0 hd
  w0 := weighD_real (by omega) hu hk0 hd
  w1 := weight0_real fun r => by have := hd r; omega
  w2 := weight0_real fun r => by have := hd r; omega
  w3 := weight0_real fun r => by have := hd r; omega

/-- The state after a last group of two key blocks. -/
theorem HeadAt.init2 {g : ℕ} (hg : 1024 * g + 1024 ≤ 8192) (hu : Tri u) (hd : ∀ r : Fin 256, t r = 1024 * g + 256 + r.val)
    {k0 k1 : Vec Ideal S1x1x1x128x256 .bf16} (hk0 : Scores Z q k0 (1024 * g)) (hk1 : Scores Z q k1 (1024 * g + 256)) :
    HeadAt t Z V (Head.init2 u q k0 k1) g := by
  have b0 : ∀ r : Fin 256, 1024 * g + 256 ≤ t r := fun r => by have := hd r; omega
  have t1 : Tail t Z _ (1024 * g + 256) := tailD_real (by omega) hu hk1 hd
  exact { acc := acc0_real fun r => by have := hd r; omega
          tail := tailU_real (by omega) hu hk0 b0 t1
          w0 := weighU_real (by omega) hu hk0 b0 t1
          w1 := weighD_real (by omega) hu hk1 hd
          w2 := weight0_real fun r => by have := hd r; omega
          w3 := weight0_real fun r => by have := hd r; omega }

/-- The state after a last group of three key blocks. -/
theorem HeadAt.init3 {g : ℕ} (hg : 1024 * g + 1024 ≤ 8192) (hu : Tri u) (hd : ∀ r : Fin 256, t r = 1024 * g + 512 + r.val)
    {k0 k1 k2 : Vec Ideal S1x1x1x128x256 .bf16} (hk0 : Scores Z q k0 (1024 * g)) (hk1 : Scores Z q k1 (1024 * g + 256))
    (hk2 : Scores Z q k2 (1024 * g + 512)) : HeadAt t Z V (Head.init3 u q k0 k1 k2) g := by
  have b1 : ∀ r : Fin 256, 1024 * g + 256 + 256 ≤ t r := fun r => by have := hd r; omega
  have b0 : ∀ r : Fin 256, 1024 * g + 256 ≤ t r := fun r => by have := hd r; omega
  have t2 : Tail t Z _ (1024 * g + 256 + 256) := tailD_real (by omega) hu hk2 hd
  have t1 : Tail t Z _ (1024 * g + 256) := tailU_real (by omega) hu hk1 b1 t2
  exact { acc := acc0_real fun r => by have := hd r; omega
          tail := tailU_real (by omega) hu hk0 b0 t1
          w0 := weighU_real (by omega) hu hk0 b0 t1
          w1 := weighU_real (by omega) hu hk1 b1 t2
          w2 := weighD_real (by omega) hu hk2 hd
          w3 := weight0_real fun r => by have := hd r; omega }

/-- The state after a last group of four key blocks. -/
theorem HeadAt.init4 {g : ℕ} (hg : 1024 * g + 1024 ≤ 8192) (hu : Tri u) (hd : ∀ r : Fin 256, t r = 1024 * g + 768 + r.val)
    {k0 k1 k2 k3 : Vec Ideal S1x1x1x128x256 .bf16} (hk0 : Scores Z q k0 (1024 * g)) (hk1 : Scores Z q k1 (1024 * g + 256))
    (hk2 : Scores Z q k2 (1024 * g + 512)) (hk3 : Scores Z q k3 (1024 * g + 768)) : HeadAt t Z V (Head.init4 u q k0 k1 k2 k3) g := by
  have b2 : ∀ r : Fin 256, 1024 * g + 512 + 256 ≤ t r := fun r => by have := hd r; omega
  have b1 : ∀ r : Fin 256, 1024 * g + 256 + 256 ≤ t r := fun r => by have := hd r; omega
  have b0 : ∀ r : Fin 256, 1024 * g + 256 ≤ t r := fun r => by have := hd r; omega
  have t3 : Tail t Z _ (1024 * g + 512 + 256) := tailD_real (by omega) hu hk3 hd
  have t2 : Tail t Z _ (1024 * g + 256 + 256) := tailU_real (by omega) hu hk2 b2 t3
  have t1 : Tail t Z _ (1024 * g + 256) := tailU_real (by omega) hu hk1 b1 t2
  exact { acc := acc0_real fun r => by have := hd r; omega
          tail := tailU_real (by omega) hu hk0 b0 t1
          w0 := weighU_real (by omega) hu hk0 b0 t1
          w1 := weighU_real (by omega) hu hk1 b1 t2
          w2 := weighU_real (by omega) hu hk2 b2 t3
          w3 := weighD_real (by omega) hu hk3 hd }

end Cert.Proof.KI

end
-- ==== Proof.KI.Frame.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.KI.Run

@[expose] public section

set_option maxRecDepth 16384

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]

/-- The resource algebra of the frame kit. -/
local notation "𝕄" => MT nD τ sig Unit (Elt F) ℕ (UR sig nD τ) ℕ

variable (m : (ℓ : Loc nD τ sig) → Buf (Elt F) ℓ) (ρ : Dev nD → PrngReg)

/-- The body at any grid point: which of the four runs it is depends on the three conditions of the `switch`. -/
noncomputable def bodyRun (c : Dev nD) (i : grid0.Coords)
    (M0 : Memref sig .tc .vmem S1x4x256x128 .bf16) (w0 : M0.IsWhole)
    (M1 : Memref sig .tc .vmem S1x4x32x128x256 .bf16) (w1 : M1.IsWhole)
    (M2 : Memref sig .tc .vmem S1x4x8192x128 .bf16) (w2 : M2.IsWhole)
    (M3 : Memref sig .tc .vmem S256x256 .bf16) (w3 : M3.IsWhole)
    (M4 : Memref sig .tc .vmem S1x256x256 .bf16) (w4 : M4.IsWhole)
    (x0 : Vec F S1x4x256x128 .bf16) (x1 : Vec F S1x4x32x128x256 .bf16) (x2 : Vec F S1x4x8192x128 .bf16) (x3 : Vec F S256x256 .bf16) :
    { Y : Vec F S1x256x256 .bf16 //
      ∀ (E : Set ℕ) (K : PUnit → sProp 𝕄),
        iprop(owns (c : Thread nD τ) M0 fullShare x0 ∗ owns (c : Thread nD τ) M1 fullShare x1 ∗ owns (c : Thread nD τ) M2 fullShare x2
            ∗ owns (c : Thread nD τ) M3 fullShare x3 ∗ (∃ d, owns (c : Thread nD τ) M4 fullShare d)
            ∗ (iprop(owns (c : Thread nD τ) M0 fullShare x0 ∗ owns (c : Thread nD τ) M1 fullShare x1 ∗ owns (c : Thread nD τ) M2 fullShare x2
                ∗ owns (c : Thread nD τ) M3 fullShare x3 ∗ owns (c : Thread nD τ) M4 fullShare Y) -∗ K ⟨⟩))
          ⊢ wp frame (wpE (defs₀ (F := F)) 𝒱₀ c none) E (cc0_sb_attn i M0 w0 M1 w1 M2 w2 M3 w3 M4 w4) K } :=
  if h1 : k0_cond1 i = 1#1 then
    if h2 : k0_cond2 i = 1#1 then
      if h3 : k0_cond3 i = 1#1 then bodyRun4 c i h1 h2 h3 M0 w0 M1 w1 M2 w2 M3 w3 M4 w4 x0 x1 x2 x3
      else bodyRun3 c i h1 h2 h3 M0 w0 M1 w1 M2 w2 M3 w3 M4 w4 x0 x1 x2 x3
    else bodyRun2 c i h1 h2 M0 w0 M1 w1 M2 w2 M3 w3 M4 w4 x0 x1 x2 x3
  else bodyRun1 c i h1 M0 w0 M1 w1 M2 w2 M3 w3 M4 w4 x0 x1 x2 x3

/-- What the body leaves in the result's staging buffer at point `t`. -/
noncomputable def outAt (c : Dev nD) (t : Fin cfg0.N) : Vec F S1x256x256 .bf16 :=
  (bodyRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (iblk m c 0 t) (iblk m c 1 t) (iblk m c 2 t) (iblk m c 3 t)).1

/-- The pipeline's proof data: each window's array as the region finds it, each input's staging buffer left as it was,
    the result's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

/-- After the body, window 0's staging buffer holds what the data says. -/
theorem after0_0 (c : Dev nD) (t : Fin cfg0.N) : (dats m 0 c).after 0 t = iblk m c 0 t := by dsimp only [dats]
/-- After the body, window 1's staging buffer holds what the data says. -/
theorem after0_1 (c : Dev nD) (t : Fin cfg0.N) : (dats m 0 c).after 1 t = iblk m c 1 t := by dsimp only [dats]
/-- After the body, window 2's staging buffer holds what the data says. -/
theorem after0_2 (c : Dev nD) (t : Fin cfg0.N) : (dats m 0 c).after 2 t = iblk m c 2 t := by dsimp only [dats]
/-- After the body, window 3's staging buffer holds what the data says. -/
theorem after0_3 (c : Dev nD) (t : Fin cfg0.N) : (dats m 0 c).after 3 t = iblk m c 3 t := by dsimp only [dats]
/-- After the body, window 4's staging buffer holds what the data says. -/
theorem after0_4 (c : Dev nD) (t : Fin cfg0.N) : (dats m 0 c).after 4 t = outAt m c t := by dsimp only [dats]
/-- Before the body, window 0's staging buffer holds its block. -/
theorem before0_0 (c : Dev nD) (t : Fin cfg0.N) (d) : (dats m 0 c).before 0 t d = iblk m c 0 t :=
  before0_0_of m (dats m 0 c) rfl (after0_0 m c) t d
/-- Before the body, window 1's staging buffer holds its block. -/
theorem before0_1 (c : Dev nD) (t : Fin cfg0.N) (d) : (dats m 0 c).before 1 t d = iblk m c 1 t :=
  before0_1_of m (dats m 0 c) rfl (after0_1 m c) t d
/-- Before the body, window 2's staging buffer holds its block. -/
theorem before0_2 (c : Dev nD) (t : Fin cfg0.N) (d) : (dats m 0 c).before 2 t d = iblk m c 2 t :=
  before0_2_of m (dats m 0 c) rfl (after0_2 m c) t d
/-- Before the body, window 3's staging buffer holds its block. -/
theorem before0_3 (c : Dev nD) (t : Fin cfg0.N) (d) : (dats m 0 c).before 3 t d = iblk m c 3 t :=
  before0_3_of m (dats m 0 c) rfl (after0_3 m c) t d

set_option maxHeartbeats 2000000 in
/-- The body at every point takes the staging buffers from what they hold before it to what the data says after it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  unfold outAt
  iintro ⟨HΦ, Ho, ⟨%d0, H0⟩, ⟨%d1, H1⟩, ⟨%d2, H2⟩, ⟨%d3, H3⟩, ⟨%d4, H4⟩⟩
  iapply ((bodyRun c (grid0.coords t) _ _ _ _ _ _ _ _ _ _ (iblk m c 0 t) (iblk m c 1 t) (iblk m c 2 t) (iblk m c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

set_option backward.isDefEq.respectTransparency.types false in
/-- Every execution of the program from any memory with zero counters ends, with the pipeline's arrays at what the data
    says and every counter at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The frame at any float values: the program ends with its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.KI

end
-- ==== Proof.KI.Body.lean ====
/- The body's result at one grid point over the extended reals: row `r`, lane `l` of head `h` is the weighted sum of the
   values over the keys before the row's position. -/
module

public import proofs.«01_k».proof.Proof.KI.Out
public import proofs.«01_k».proof.Proof.KI.Reads
public import proofs.«01_k».proof.Proof.KI.Unit
public import proofs.«01_k».proof.Proof.KI.Frame

@[expose] public section

set_option maxRecDepth 16384

noncomputable section

namespace Cert.Proof.KI

open Cert.KernelIdeal Cert.KernelIdeal.Gen
open Idealize.ShloMosaic Idealize.ShloMosaic.TcCoe Idealize.ShloMosaic.Tactic
open Cert.Proof.Stick

/-- The score of row `t` of head `h` against key `s`. -/
def zOf (Q K : Fin 4 → ℕ → Fin 128 → ℝ) (h : Fin 4) (t s : ℕ) : ℝ := ∑ d : Fin 128, Q h t d * K h s d

/-- The windows' blocks hold real queries, keys and values and the triangle. -/
structure Blocks (i : ℕ) (Q K V : Fin 4 → ℕ → Fin 128 → ℝ) (x0 : Vec Ideal S1x4x256x128 .bf16) (x1 : Vec Ideal S1x4x32x128x256 .bf16)
    (x2 : Vec Ideal S1x4x8192x128 .bf16) (x3 : Vec Ideal S256x256 .bf16) : Prop where
  q : ∀ (h : Fin 4) (r : Fin 256) (d : Fin 128), x0 (ix4 0 h r d) = ((Q h (256 * i + r.val) d : ℝ) : EReal)
  k : ∀ (h : Fin 4) (j : Fin 32) (d : Fin 128) (c : Fin 256), x1 (ix5 0 h j d c) = ((K h (256 * j.val + c.val) d : ℝ) : EReal)
  v : ∀ (h : Fin 4) (s : Fin 8192) (l : Fin 128), x2 (ix4 0 h s l) = ((V h s.val l : ℝ) : EReal)
  u : ∀ c' c : Fin 256, x3 (ix2 c' c) = if c.val ≤ c'.val then 1 else 0

/-- A loaded block of queries as a matrix. -/
theorem cast_q (X : Vec Ideal S1x1x256x128 .bf16) (r : Fin 256) (d : Fin 128) :
    shapeCast S256x128 X shapeCasts_S1x1x256x128_S256x128 (ix2 r d) = X (ix4 0 0 r d) := by
  pointwise

/-- A loaded triangle as a matrix. -/
theorem cast_u (X : Vec Ideal S256x256 .bf16) (r c : Fin 256) :
    shapeCast S256x256 X shapeCasts_S256x256_S256x256 (ix2 r c) = X (ix2 r c) := by
  pointwise

/-- The triangle as loaded. -/
theorem tri_apply (M : Memref sig .tc .vmem S256x256 .bf16) (w : M.IsWhole) (x : Vec Ideal S256x256 .bf16) (r c : Fin 256) :
    triOf M (w.unread x) (ix2 r c) = x (ix2 r c) := by
  refine (cast_u _ r c).trans ((w.readAt_unread x _ _).trans (congrArg x (funext fun a => ?_)))
  fin_cases a <;> exact Fin.ext (by simp [LoadRect.idx, Rect.unit, Rect.toLoadRect, ix2])

/-- A head's queries as loaded. -/
theorem rdQ_apply (M : Memref sig .tc .vmem S1x4x256x128 .bf16) (w : M.IsWhole) (x : Vec Ideal S1x4x256x128 .bf16)
    {off : Fin 4 → ℕ} (inb : ∀ a, off a + S1x1x256x128.size a ≤ S1x4x256x128.size a) (h : Fin 4) (e : off = ![0, h.val, 0, 0])
    (r : Fin 256) (d : Fin 128) : rdQ M (w.unread x) off inb (ix2 r d) = x (ix4 0 h r d) := by
  subst e
  refine (cast_q _ r d).trans ((w.readAt_unread x _ _).trans (congrArg x (funext fun a => ?_)))
  fin_cases a <;> exact Fin.ext (by simp [LoadRect.idx, Rect.unit, Rect.toLoadRect, ix4])

/-- Small words compare as the numbers do. -/
theorem slt64 (l : ℕ) (hl : l < 256) : Scalar.cmpi .slt (BitVec.ofNat 32 l) 64#32 = if l < 64 then 1#1 else 0#1 :=
  slt_ofNat l 64 hl (by decide)

/-- The four heads side by side: head `h`'s first 64 lanes at lanes `64 h` on. -/
theorem outTile_apply (a b d e : FVec Ideal S256x128 .f32) (r : Fin 256) (l : Fin 256) :
    outTile a b d e (ix3 0 r l) = if h0 : l.val < 64 then a (ix2 r ⟨l.val, by omega⟩)
      else if h1 : l.val < 128 then b (ix2 r ⟨l.val - 64, by omega⟩)
      else if h2 : l.val < 192 then d (ix2 r ⟨l.val - 128, by omega⟩) else e (ix2 r ⟨l.val - 192, by omega⟩) := by
  pointwise [outTile, k0_pay1, k0_pay372, k0_pay373]
  have h := l.isLt
  have e1 := slt64 l.val h
  have e2 := slt64 (l.val - 128) (by omega)
  change IntOp.cmpi _ _ _ = _ at e1 e2
  rw [e1, e2]
  by_cases h0 : l.val < 64
  · rw [dif_pos (show l.val < 128 by omega), dif_pos h0, if_pos h0]; rfl
  by_cases h1 : l.val < 128
  · rw [dif_pos h1, dif_neg h0, dif_pos h1, if_neg h0]
    exact congrArg b (congrArg (ix2 r) (Fin.ext (by show (l.val + 128 - 64) % 128 = l.val - 64; omega)))
  by_cases h2 : l.val < 192
  · rw [dif_neg h1, dif_neg h0, dif_neg h1, dif_pos h2, if_pos (show l.val - 128 < 64 by omega)]; rfl
  · rw [dif_neg h1, dif_neg h0, dif_neg h1, dif_neg h2, if_neg (show ¬ l.val - 128 < 64 by omega)]
    exact congrArg e (congrArg (ix2 r) (Fin.ext (by show (l.val - 128 + 128 - 64) % 128 = l.val - 192; omega)))

section Tiles
variable {i : grid0.Coords} {Q K V : Fin 4 → ℕ → Fin 128 → ℝ}
  {x0 : Vec Ideal S1x4x256x128 .bf16} {x1 : Vec Ideal S1x4x32x128x256 .bf16} {x2 : Vec Ideal S1x4x8192x128 .bf16} {x3 : Vec Ideal S256x256 .bf16}
  (M0 : Memref sig .tc .vmem S1x4x256x128 .bf16) (w0 : M0.IsWhole) (M1 : Memref sig .tc .vmem S1x4x32x128x256 .bf16) (w1 : M1.IsWhole)
  (M2 : Memref sig .tc .vmem S1x4x8192x128 .bf16) (w2 : M2.IsWhole) (M3 : Memref sig .tc .vmem S256x256 .bf16) (w3 : M3.IsWhole)

/-- The position of a row of the point's block. -/
def tOf (i : grid0.Coords) (r : Fin 256) : ℕ := 256 * (i 2).val + r.val

/-- The scores of a row of the point's block. -/
def zAt (Q K : Fin 4 → ℕ → Fin 128 → ℝ) (i : grid0.Coords) (h : Fin 4) (r : Fin 256) (s : ℕ) : ℝ := zOf Q K h (tOf i r) s

/-- The values of a head by lane. -/
def vAt (V : Fin 4 → ℕ → Fin 128 → ℝ) (h : Fin 4) (l : Fin 128) (s : ℕ) : ℝ := V h s l

/-- The scores against key block `j`. -/
theorem scores (B : Blocks (i 2).val Q K V x0 x1 x2 x3) {offq : Fin 4 → ℕ} (inbq : ∀ a, offq a + S1x1x256x128.size a ≤ S1x4x256x128.size a)
    (h : Fin 4) (eq : offq = ![0, h.val, 0, 0]) {off : Fin 5 → ℕ} (inb : ∀ a, off a + S1x1x1x128x256.size a ≤ S1x4x32x128x256.size a)
    (j : ℕ) (hj : j < 32) (e : off = ![0, h.val, j, 0, 0]) (a : ℕ) (ha : a = 256 * j) :
    Scores (zAt Q K i h) (rdQ M0 (w0.unread x0) offq inbq) (rdK M1 (w1.unread x1) off inb) a := fun r c => by
  subst ha
  rw [score_apply, zAt, zOf, coe_sum]
  refine Finset.sum_congr rfl fun d _ => ?_
  rw [rdQ_apply M0 w0 x0 inbq h eq, rdK_apply M1 w1 x1 inb h ⟨j, hj⟩ e, B.q, B.k, EReal.coe_mul, tOf]

/-- The values of the keys from `a` on. -/
theorem values (B : Blocks (i 2).val Q K V x0 x1 x2 x3) (h : Fin 4) {off : Fin 4 → ℕ}
    (inb : ∀ a, off a + S1x1x256x128.size a ≤ S1x4x8192x128.size a) (a : ℕ) (ha : a + 256 ≤ 8192) (j : ℕ) (e : off = ![0, h.val, j, 0]) (hj : j = a) :
    Values (vAt V h) (rdV M2 (w2.unread x2) off inb) a := fun c l => by
  subst hj
  rw [rdV_apply M2 w2 x2 inb h j ha e, B.v, vAt]

/-- The triangle. -/
theorem tri (B : Blocks (i 2).val Q K V x0 x1 x2 x3) : Tri (triOf M3 (w3.unread x3)) := fun c' c => by
  rw [tri_apply, B.u]

end Tiles

end Cert.Proof.KI

end
-- ==== Proof.KI.Tile.lean ====
/- The body's result at a grid point over the extended reals. -/
module

public import proofs.«01_k».proof.Proof.KI.Body

@[expose] public section

set_option maxRecDepth 16384

noncomputable section

namespace Cert.Proof.KI

open Cert.KernelIdeal Cert.KernelIdeal.Gen
open Idealize.ShloMosaic Idealize.ShloMosaic.TcCoe Idealize.ShloMosaic.Tactic
open Cert.Proof.Stick

variable {i : grid0.Coords} {Q K V : Fin 4 → ℕ → Fin 128 → ℝ}
  {x0 : Vec Ideal S1x4x256x128 .bf16} {x1 : Vec Ideal S1x4x32x128x256 .bf16} {x2 : Vec Ideal S1x4x8192x128 .bf16} {x3 : Vec Ideal S256x256 .bf16}
  (c : Dev nD) (M0 : Memref sig .tc .vmem S1x4x256x128 .bf16) (w0 : M0.IsWhole) (M1 : Memref sig .tc .vmem S1x4x32x128x256 .bf16) (w1 : M1.IsWhole)
  (M2 : Memref sig .tc .vmem S1x4x8192x128 .bf16) (w2 : M2.IsWhole) (M3 : Memref sig .tc .vmem S256x256 .bf16) (w3 : M3.IsWhole)
  (M4 : Memref sig .tc .vmem S1x256x256 .bf16) (w4 : M4.IsWhole)

/-- The four heads' states are those of group `g`. -/
def AllAt (i : grid0.Coords) (Q K V : Fin 4 → ℕ → Fin 128 → ℝ) (S : Carry Ideal) (g : ℕ) : Prop :=
  ∃ a b d e : Head Ideal, S = pack a b d e ∧ HeadAt (tOf i) (zAt Q K i 0) (vAt V 0) a g ∧ HeadAt (tOf i) (zAt Q K i 1) (vAt V 1) b g
    ∧ HeadAt (tOf i) (zAt Q K i 2) (vAt V 2) d g ∧ HeadAt (tOf i) (zAt Q K i 3) (vAt V 3) e g

/-- The state before each trip of the loop. -/
theorem loop_state (B : Blocks (i 2).val Q K V x0 x1 x2 x3) (v29 : BitVec 32) (S : Carry Ideal) (hS : AllAt i Q K V S ((i 2).val / 4)) :
    ∀ k : ℕ, k ≤ (k0_t1_loop i).trips → AllAt i Q K V
      (st_k0_t1 𝒱₀ c none i M0 w0 M1 w1 M2 w2 M3 w3 M4 w4 (BitVec.ofNat 32 (i 2).val)
        (triOf M3 (w3.unread x3)) (rdQ0 M0 (w0.unread x0)) (rdQ1 M0 (w0.unread x0)) (rdQ2 M0 (w0.unread x0)) (rdQ3 M0 (w0.unread x0))
        (k0_pay327) v29 (k0_pay328) (w1.unread x1) (w2.unread x2) S k) ((i 2).val / 4 - k) := by
  have hi : (i 2).val < 32 := (i 2).isLt
  intro k
  induction k with
  | zero => intro _; exact hS
  | succ n ih =>
    intro hn
    obtain ⟨a, b, d, e, hst, ha, hb, hd, he⟩ := ih (by omega)
    have hnt : n < (i 2).val / 4 := by have := trips1 i; omega
    have hg : (i 2).val / 4 - n = (i 2).val / 4 - (n + 1) + 1 := by omega
    rw [hg] at ha hb hd he
    refine ⟨_, _, _, _, (st_k0_t1_succ 𝒱₀ c none i M0 w0 M1 w1 M2 w2 M3 w3 M4 w4 _ _ _ _ _ _ _ _ _ _ _ _ ⟨n, hn⟩).trans
      ((congrArg _ hst).trans (trip_eq _ _ _ _ _ _ _ _ _ _ _ _ _ _ _ _ _ _ _ _ _ _ _ _ _ _ _ _ _ _)), ?_, ?_, ?_, ?_⟩
    · refine HeadAt.step ha (by omega) (tri M3 w3 B) (fun r => by rw [tOf]; omega) ?_ ?_ ?_ ?_ ?_ ?_ ?_ ?_
      · exact scores M0 w0 M1 w1 B _ 0 rfl _ _ (by omega) (off21_eq i ⟨n, hn⟩ 0) _ (by dsimp only; omega)
      · exact scores M0 w0 M1 w1 B _ 0 rfl _ _ (by omega) (off21_eq i ⟨n, hn⟩ 1) _ (by dsimp only; omega)
      · exact scores M0 w0 M1 w1 B _ 0 rfl _ _ (by omega) (off21_eq i ⟨n, hn⟩ 2) _ (by dsimp only; omega)
      · exact scores M0 w0 M1 w1 B _ 0 rfl _ _ (by omega) (off21_eq i ⟨n, hn⟩ 3) _ (by dsimp only; omega)
      · exact values M2 w2 B 0 _ _ (by omega) _ (off17_eq i ⟨n, hn⟩ 0) (by dsimp only; omega)
      · exact values M2 w2 B 0 _ _ (by omega) _ (off17_eq i ⟨n, hn⟩ 1) (by dsimp only; omega)
      · exact values M2 w2 B 0 _ _ (by omega) _ (off17_eq i ⟨n, hn⟩ 2) (by dsimp only; omega)
      · exact values M2 w2 B 0 _ _ (by omega) _ (off17_eq i ⟨n, hn⟩ 3) (by dsimp only; omega)
    · refine HeadAt.step hb (by omega) (tri M3 w3 B) (fun r => by rw [tOf]; omega) ?_ ?_ ?_ ?_ ?_ ?_ ?_ ?_
      · exact scores M0 w0 M1 w1 B _ 1 rfl _ _ (by omega) (off22_eq i ⟨n, hn⟩ 0) _ (by dsimp only; omega)
      · exact scores M0 w0 M1 w1 B _ 1 rfl _ _ (by omega) (off22_eq i ⟨n, hn⟩ 1) _ (by dsimp only; omega)
      · exact scores M0 w0 M1 w1 B _ 1 rfl _ _ (by omega) (off22_eq i ⟨n, hn⟩ 2) _ (by dsimp only; omega)
      · exact scores M0 w0 M1 w1 B _ 1 rfl _ _ (by omega) (off22_eq i ⟨n, hn⟩ 3) _ (by dsimp only; omega)
      · exact values M2 w2 B 1 _ _ (by omega) _ (off18_eq i ⟨n, hn⟩ 0) (by dsimp only; omega)
      · exact values M2 w2 B 1 _ _ (by omega) _ (off18_eq i ⟨n, hn⟩ 1) (by dsimp only; omega)
      · exact values M2 w2 B 1 _ _ (by omega) _ (off18_eq i ⟨n, hn⟩ 2) (by dsimp only; omega)
      · exact values M2 w2 B 1 _ _ (by omega) _ (off18_eq i ⟨n, hn⟩ 3) (by dsimp only; omega)
    · refine HeadAt.step hd (by omega) (tri M3 w3 B) (fun r => by rw [tOf]; omega) ?_ ?_ ?_ ?_ ?_ ?_ ?_ ?_
      · exact scores M0 w0 M1 w1 B _ 2 rfl _ _ (by omega) (off23_eq i ⟨n, hn⟩ 0) _ (by dsimp only; omega)
      · exact scores M0 w0 M1 w1 B _ 2 rfl _ _ (by omega) (off23_eq i ⟨n, hn⟩ 1) _ (by dsimp only; omega)
      · exact scores M0 w0 M1 w1 B _ 2 rfl _ _ (by omega) (off23_eq i ⟨n, hn⟩ 2) _ (by dsimp only; omega)
      · exact scores M0 w0 M1 w1 B _ 2 rfl _ _ (by omega) (off23_eq i ⟨n, hn⟩ 3) _ (by dsimp only; omega)
      · exact values M2 w2 B 2 _ _ (by omega) _ (off19_eq i ⟨n, hn⟩ 0) (by dsimp only; omega)
      · exact values M2 w2 B 2 _ _ (by omega) _ (off19_eq i ⟨n, hn⟩ 1) (by dsimp only; omega)
      · exact values M2 w2 B 2 _ _ (by omega) _ (off19_eq i ⟨n, hn⟩ 2) (by dsimp only; omega)
      · exact values M2 w2 B 2 _ _ (by omega) _ (off19_eq i ⟨n, hn⟩ 3) (by dsimp only; omega)
    · refine HeadAt.step he (by omega) (tri M3 w3 B) (fun r => by rw [tOf]; omega) ?_ ?_ ?_ ?_ ?_ ?_ ?_ ?_
      · exact scores M0 w0 M1 w1 B _ 3 rfl _ _ (by omega) (off24_eq i ⟨n, hn⟩ 0) _ (by dsimp only; omega)
      · exact scores M0 w0 M1 w1 B _ 3 rfl _ _ (by omega) (off24_eq i ⟨n, hn⟩ 1) _ (by dsimp only; omega)
      · exact scores M0 w0 M1 w1 B _ 3 rfl _ _ (by omega) (off24_eq i ⟨n, hn⟩ 2) _ (by dsimp only; omega)
      · exact scores M0 w0 M1 w1 B _ 3 rfl _ _ (by omega) (off24_eq i ⟨n, hn⟩ 3) _ (by dsimp only; omega)
      · exact values M2 w2 B 3 _ _ (by omega) _ (off20_eq i ⟨n, hn⟩ 0) (by dsimp only; omega)
      · exact values M2 w2 B 3 _ _ (by omega) _ (off20_eq i ⟨n, hn⟩ 1) (by dsimp only; omega)
      · exact values M2 w2 B 3 _ _ (by omega) _ (off20_eq i ⟨n, hn⟩ 2) (by dsimp only; omega)
      · exact values M2 w2 B 3 _ _ (by omega) _ (off20_eq i ⟨n, hn⟩ 3) (by dsimp only; omega)

/-- The state after both loops: that of the first group. -/
theorem loopEnd_state (B : Blocks (i 2).val Q K V x0 x1 x2 x3) (v29 v56 : BitVec 32) (S : Carry Ideal) (hS : AllAt i Q K V S ((i 2).val / 4)) :
    AllAt i Q K V (loopEnd c i M0 w0 M1 w1 M2 w2 M3 w3 M4 w4 x0 x1 x2 x3 v29 v56 S) 0 := by
  have h := loop_state c M0 w0 M1 w1 M2 w2 M3 w3 M4 w4 B v29 S hS _ le_rfl
  rw [show (i 2).val / 4 - (k0_t1_loop i).trips = 0 by rw [trips1]; omega] at h
  unfold loopEnd
  generalize st_k0_t1 (F := Ideal) 𝒱₀ c none i M0 w0 M1 w1 M2 w2 M3 w3 M4 w4 _ _ _ _ _ _ _ _ _ _ _ _ = T at h ⊢
  rw [trips2]
  exact h

/-- A row's stick-breaking sum on a lane of the result's tile. -/
def tileVal (Q K V : Fin 4 → ℕ → Fin 128 → ℝ) (t : ℕ) (l : Fin 256) : ℝ :=
  accFrom t (zOf Q K ⟨l.val / 64, by omega⟩ t) (fun s => V ⟨l.val / 64, by omega⟩ s ⟨l.val % 64, by omega⟩) 0

/-- The tile built from the first group's state. -/
theorem endTile_state (B : Blocks (i 2).val Q K V x0 x1 x2 x3) (S : Carry Ideal) (hS : AllAt i Q K V S 0) (r : Fin 256) (l : Fin 256) :
    endTile M2 (w2.unread x2) S (ix3 0 r l) = ((tileVal Q K V (256 * (i 2).val + r.val) l : ℝ) : EReal) := by
  obtain ⟨a, b, d, e, rfl, ha, hb, hd, he⟩ := hS
  have hl := l.isLt
  have e0 := ha.sum (by omega) (values M2 w2 B 0 (k0_off33_inb 0) (0) (by omega) _ (off33_eq 0) rfl) (values M2 w2 B 0 (k0_off33_inb 1) (256) (by omega) _ (off33_eq 1) rfl) (values M2 w2 B 0 (k0_off33_inb 2) (512) (by omega) _ (off33_eq 2) rfl) (values M2 w2 B 0 (k0_off33_inb 3) (768) (by omega) _ (off33_eq 3) rfl)
  have e1 := hb.sum (by omega) (values M2 w2 B 1 (k0_off34_inb 0) (0) (by omega) _ (off34_eq 0) rfl) (values M2 w2 B 1 (k0_off34_inb 1) (256) (by omega) _ (off34_eq 1) rfl) (values M2 w2 B 1 (k0_off34_inb 2) (512) (by omega) _ (off34_eq 2) rfl) (values M2 w2 B 1 (k0_off34_inb 3) (768) (by omega) _ (off34_eq 3) rfl)
  have e2 := hd.sum (by omega) (values M2 w2 B 2 (k0_off35_inb 0) (0) (by omega) _ (off35_eq 0) rfl) (values M2 w2 B 2 (k0_off35_inb 1) (256) (by omega) _ (off35_eq 1) rfl) (values M2 w2 B 2 (k0_off35_inb 2) (512) (by omega) _ (off35_eq 2) rfl) (values M2 w2 B 2 (k0_off35_inb 3) (768) (by omega) _ (off35_eq 3) rfl)
  have e3 := he.sum (by omega) (values M2 w2 B 3 (k0_off36_inb 0) (0) (by omega) _ (off36_eq 0) rfl) (values M2 w2 B 3 (k0_off36_inb 1) (256) (by omega) _ (off36_eq 1) rfl) (values M2 w2 B 3 (k0_off36_inb 2) (512) (by omega) _ (off36_eq 2) rfl) (values M2 w2 B 3 (k0_off36_inb 3) (768) (by omega) _ (off36_eq 3) rfl)
  refine (outTile_apply _ _ _ _ r l).trans ?_
  unfold tileVal
  by_cases h0 : l.val < 64
  · rw [dif_pos h0]
    refine (e0 r ⟨l.val, by omega⟩).trans ?_
    have c1 : l.val / 64 = 0 := by omega
    have c2 : l.val % 64 = l.val := by omega
    simp only [c1, c2]; rfl
  by_cases h1 : l.val < 128
  · rw [dif_neg h0, dif_pos h1]
    refine (e1 r ⟨l.val - 64, by omega⟩).trans ?_
    have c1 : l.val / 64 = 1 := by omega
    have c2 : l.val % 64 = l.val - 64 := by omega
    simp only [c1, c2]; rfl
  by_cases h2 : l.val < 192
  · rw [dif_neg h0, dif_neg h1, dif_pos h2]
    refine (e2 r ⟨l.val - 128, by omega⟩).trans ?_
    have c1 : l.val / 64 = 2 := by omega
    have c2 : l.val % 64 = l.val - 128 := by omega
    simp only [c1, c2]; rfl
  · rw [dif_neg h0, dif_neg h1, dif_neg h2]
    refine (e3 r ⟨l.val - 192, by omega⟩).trans ?_
    have c1 : l.val / 64 = 3 := by omega
    have c2 : l.val % 64 = l.val - 192 := by omega
    simp only [c1, c2]; rfl

/-- The body's tile at a grid point. -/
theorem bodyRun_apply (B : Blocks (i 2).val Q K V x0 x1 x2 x3) (r : Fin 256) (l : Fin 256) :
    (bodyRun c i M0 w0 M1 w1 M2 w2 M3 w3 M4 w4 x0 x1 x2 x3).1 (ix3 0 r l) = ((tileVal Q K V (256 * (i 2).val + r.val) l : ℝ) : EReal) := by
  have hi : (i 2).val < 32 := (i 2).isLt
  unfold bodyRun
  by_cases h1 : k0_cond1 i = 1#1
  · have g1 := (cond1_iff i).mp h1
    rw [dif_pos h1]
    by_cases h2 : k0_cond2 i = 1#1
    · have g2 := (cond2_iff i h1).mp h2
      rw [dif_pos h2]
      by_cases h3 : k0_cond3 i = 1#1
      · have g3 := (cond3_iff i h1 h2).mp h3
        rw [dif_pos h3]
        obtain ⟨v29, v56, hE⟩ := bodyRun4_eq c i h1 h2 h3 M0 w0 M1 w1 M2 w2 M3 w3 M4 w4 x0 x1 x2 x3
        rw [hE]
        refine endTile_state M2 w2 B _ (loopEnd_state c M0 w0 M1 w1 M2 w2 M3 w3 M4 w4 B v29 v56 _ ⟨_, _, _, _, rfl, ?_, ?_, ?_, ?_⟩) r l
        · exact HeadAt.init4 (by omega) (tri M3 w3 B) (fun r => by rw [tOf]; omega) (scores M0 w0 M1 w1 B _ 0 rfl _ _ (by omega) (off1_eq i 0) _ (by dsimp only; omega)) (scores M0 w0 M1 w1 B _ 0 rfl _ _ (by omega) (off1_eq i 1) _ (by dsimp only; omega)) (scores M0 w0 M1 w1 B _ 0 rfl _ _ (by omega) (off1_eq i 2) _ (by dsimp only; omega)) (scores M0 w0 M1 w1 B _ 0 rfl _ _ (by omega) (off1_eq i 3) _ (by dsimp only; omega))
        · exact HeadAt.init4 (by omega) (tri M3 w3 B) (fun r => by rw [tOf]; omega) (scores M0 w0 M1 w1 B _ 1 rfl _ _ (by omega) (off2_eq i 0) _ (by dsimp only; omega)) (scores M0 w0 M1 w1 B _ 1 rfl _ _ (by omega) (off2_eq i 1) _ (by dsimp only; omega)) (scores M0 w0 M1 w1 B _ 1 rfl _ _ (by omega) (off2_eq i 2) _ (by dsimp only; omega)) (scores M0 w0 M1 w1 B _ 1 rfl _ _ (by omega) (off2_eq i 3) _ (by dsimp only; omega))
        · exact HeadAt.init4 (by omega) (tri M3 w3 B) (fun r => by rw [tOf]; omega) (scores M0 w0 M1 w1 B _ 2 rfl _ _ (by omega) (off3_eq i 0) _ (by dsimp only; omega)) (scores M0 w0 M1 w1 B _ 2 rfl _ _ (by omega) (off3_eq i 1) _ (by dsimp only; omega)) (scores M0 w0 M1 w1 B _ 2 rfl _ _ (by omega) (off3_eq i 2) _ (by dsimp only; omega)) (scores M0 w0 M1 w1 B _ 2 rfl _ _ (by omega) (off3_eq i 3) _ (by dsimp only; omega))
        · exact HeadAt.init4 (by omega) (tri M3 w3 B) (fun r => by rw [tOf]; omega) (scores M0 w0 M1 w1 B _ 3 rfl _ _ (by omega) (off4_eq i 0) _ (by dsimp only; omega)) (scores M0 w0 M1 w1 B _ 3 rfl _ _ (by omega) (off4_eq i 1) _ (by dsimp only; omega)) (scores M0 w0 M1 w1 B _ 3 rfl _ _ (by omega) (off4_eq i 2) _ (by dsimp only; omega)) (scores M0 w0 M1 w1 B _ 3 rfl _ _ (by omega) (off4_eq i 3) _ (by dsimp only; omega))
      · have g3 := mt (cond3_iff i h1 h2).mpr h3
        rw [dif_neg h3]
        obtain ⟨v29, v56, hE⟩ := bodyRun3_eq c i h1 h2 h3 M0 w0 M1 w1 M2 w2 M3 w3 M4 w4 x0 x1 x2 x3
        rw [hE]
        refine endTile_state M2 w2 B _ (loopEnd_state c M0 w0 M1 w1 M2 w2 M3 w3 M4 w4 B v29 v56 _ ⟨_, _, _, _, rfl, ?_, ?_, ?_, ?_⟩) r l
        · exact HeadAt.init3 (by omega) (tri M3 w3 B) (fun r => by rw [tOf]; omega) (scores M0 w0 M1 w1 B _ 0 rfl _ _ (by omega) (off5_eq i 0) _ (by dsimp only; omega)) (scores M0 w0 M1 w1 B _ 0 rfl _ _ (by omega) (off5_eq i 1) _ (by dsimp only; omega)) (scores M0 w0 M1 w1 B _ 0 rfl _ _ (by omega) (off5_eq i 2) _ (by dsimp only; omega))
        · exact HeadAt.init3 (by omega) (tri M3 w3 B) (fun r => by rw [tOf]; omega) (scores M0 w0 M1 w1 B _ 1 rfl _ _ (by omega) (off6_eq i 0) _ (by dsimp only; omega)) (scores M0 w0 M1 w1 B _ 1 rfl _ _ (by omega) (off6_eq i 1) _ (by dsimp only; omega)) (scores M0 w0 M1 w1 B _ 1 rfl _ _ (by omega) (off6_eq i 2) _ (by dsimp only; omega))
        · exact HeadAt.init3 (by omega) (tri M3 w3 B) (fun r => by rw [tOf]; omega) (scores M0 w0 M1 w1 B _ 2 rfl _ _ (by omega) (off7_eq i 0) _ (by dsimp only; omega)) (scores M0 w0 M1 w1 B _ 2 rfl _ _ (by omega) (off7_eq i 1) _ (by dsimp only; omega)) (scores M0 w0 M1 w1 B _ 2 rfl _ _ (by omega) (off7_eq i 2) _ (by dsimp only; omega))
        · exact HeadAt.init3 (by omega) (tri M3 w3 B) (fun r => by rw [tOf]; omega) (scores M0 w0 M1 w1 B _ 3 rfl _ _ (by omega) (off8_eq i 0) _ (by dsimp only; omega)) (scores M0 w0 M1 w1 B _ 3 rfl _ _ (by omega) (off8_eq i 1) _ (by dsimp only; omega)) (scores M0 w0 M1 w1 B _ 3 rfl _ _ (by omega) (off8_eq i 2) _ (by dsimp only; omega))
    · have g2 := mt (cond2_iff i h1).mpr h2
      rw [dif_neg h2]
      obtain ⟨v29, v56, hE⟩ := bodyRun2_eq c i h1 h2 M0 w0 M1 w1 M2 w2 M3 w3 M4 w4 x0 x1 x2 x3
      rw [hE]
      refine endTile_state M2 w2 B _ (loopEnd_state c M0 w0 M1 w1 M2 w2 M3 w3 M4 w4 B v29 v56 _ ⟨_, _, _, _, rfl, ?_, ?_, ?_, ?_⟩) r l
      · exact HeadAt.init2 (by omega) (tri M3 w3 B) (fun r => by rw [tOf]; omega) (scores M0 w0 M1 w1 B _ 0 rfl _ _ (by omega) (off9_eq i 0) _ (by dsimp only; omega)) (scores M0 w0 M1 w1 B _ 0 rfl _ _ (by omega) (off9_eq i 1) _ (by dsimp only; omega))
      · exact HeadAt.init2 (by omega) (tri M3 w3 B) (fun r => by rw [tOf]; omega) (scores M0 w0 M1 w1 B _ 1 rfl _ _ (by omega) (off10_eq i 0) _ (by dsimp only; omega)) (scores M0 w0 M1 w1 B _ 1 rfl _ _ (by omega) (off10_eq i 1) _ (by dsimp only; omega))
      · exact HeadAt.init2 (by omega) (tri M3 w3 B) (fun r => by rw [tOf]; omega) (scores M0 w0 M1 w1 B _ 2 rfl _ _ (by omega) (off11_eq i 0) _ (by dsimp only; omega)) (scores M0 w0 M1 w1 B _ 2 rfl _ _ (by omega) (off11_eq i 1) _ (by dsimp only; omega))
      · exact HeadAt.init2 (by omega) (tri M3 w3 B) (fun r => by rw [tOf]; omega) (scores M0 w0 M1 w1 B _ 3 rfl _ _ (by omega) (off12_eq i 0) _ (by dsimp only; omega)) (scores M0 w0 M1 w1 B _ 3 rfl _ _ (by omega) (off12_eq i 1) _ (by dsimp only; omega))
  · have g1 := mt (cond1_iff i).mpr h1
    rw [dif_neg h1]
    obtain ⟨v29, v56, hE⟩ := bodyRun1_eq c i h1 M0 w0 M1 w1 M2 w2 M3 w3 M4 w4 x0 x1 x2 x3
    rw [hE]
    refine endTile_state M2 w2 B _ (loopEnd_state c M0 w0 M1 w1 M2 w2 M3 w3 M4 w4 B v29 v56 _ ⟨_, _, _, _, rfl, ?_, ?_, ?_, ?_⟩) r l
    · exact HeadAt.init1 (by omega) (tri M3 w3 B) (fun r => by rw [tOf]; omega) (scores M0 w0 M1 w1 B _ 0 rfl _ _ (by omega) (off13_eq i) _ (by omega))
    · exact HeadAt.init1 (by omega) (tri M3 w3 B) (fun r => by rw [tOf]; omega) (scores M0 w0 M1 w1 B _ 1 rfl _ _ (by omega) (off14_eq i) _ (by omega))
    · exact HeadAt.init1 (by omega) (tri M3 w3 B) (fun r => by rw [tOf]; omega) (scores M0 w0 M1 w1 B _ 2 rfl _ _ (by omega) (off15_eq i) _ (by omega))
    · exact HeadAt.init1 (by omega) (tri M3 w3 B) (fun r => by rw [tOf]; omega) (scores M0 w0 M1 w1 B _ 3 rfl _ _ (by omega) (off16_eq i) _ (by omega))

end Cert.Proof.KI

end
-- ==== Proof.KI.Host.lean ====
/- The arrays the call is launched on, element by element, over the extended reals, and each grid point's blocks of them. -/
module

public import proofs.«01_k».proof.Proof.KI.Tile
public import Idealize.ShloMosaic.Lib.StableHlo.ReadAt
public import Idealize.ShloMosaic.Lib.IdealHost
public import Idealize.ShloMosaic.Lib.Pointwise
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic
open Cert.Proof.Stick

/-- The scale's literal is an eighth. -/
theorem eighth : Ideal.ofBits .f32 0x3E000000#32 = (((1 : ℝ) / 8 : ℝ) : EReal) := by
  simp [Ideal.ofBits, Ideal.ieee, -EReal.coe_mul]; norm_num

/-- The padding's value is zero. -/
theorem pad_zero : FloatOps.sitofp (F := Ideal) FTy.bf16 0#32 = ((0 : ℝ) : EReal) := by
  show (((0#32 : BitVec 32).toInt : ℝ) : EReal) = _
  simp

/-- A true bit is one and a false one zero. -/
theorem bit_one (p : Prop) [Decidable p] (b : BitVec 1) (h : b = if p then 1#1 else 0#1) :
    FloatOps.uitofp (F := Ideal) FTy.bf16 b = if p then (1 : EReal) else 0 := by
  subst h
  show (((if p then 1#1 else 0#1 : BitVec 1).toNat : ℝ) : EReal) = _
  split <;> simp

/-- An array's entry as a real number, zero outside the array. -/
def ent (x : Vec Ideal S4x4x8192x64 .f32) (b h : Fin 4) (s d : ℕ) : ℝ :=
  if hh : s < 8192 ∧ d < 64 then (x (ix4 b h ⟨s, hh.1⟩ ⟨d, hh.2⟩)).toReal else 0

/-- Every entry is a real number. -/
def AllReal (x : Vec Ideal S4x4x8192x64 .f32) : Prop := ∀ (b h : Fin 4) (s : Fin 8192) (d : Fin 64), ∃ r : ℝ, x (ix4 b h s d) = (r : EReal)

theorem AllReal.eq {x : Vec Ideal S4x4x8192x64 .f32} (hx : AllReal x) (b h : Fin 4) (s : Fin 8192) (d : Fin 64) :
    x (ix4 b h s d) = ((ent x b h s.val d.val : ℝ) : EReal) := by
  obtain ⟨r, hr⟩ := hx b h s d
  rw [ent, dif_pos ⟨s.isLt, d.isLt⟩]
  show x (ix4 b h s d) = (((x (ix4 b h s d)).toReal : ℝ) : EReal)
  rw [hr, EReal.toReal_coe]

theorem ent_pad (x : Vec Ideal S4x4x8192x64 .f32) (b h : Fin 4) (s d : ℕ) (hd : ¬ d < 64) : ent x b h s d = 0 := by
  rw [ent, dif_neg (fun h => hd h.2)]

/-- The queries the call reads: scaled by an eighth. -/
def Qr (x : Vec Ideal S4x4x8192x64 .f32) (b : Fin 4) : Fin 4 → ℕ → Fin 128 → ℝ := fun h s d => ent x b h s d.val * (1 / 8)

/-- The keys or the values the call reads. -/
def Kr (x : Vec Ideal S4x4x8192x64 .f32) (b : Fin 4) : Fin 4 → ℕ → Fin 128 → ℝ := fun h s d => ent x b h s d.val

variable (m : (ℓ : Loc nD τ sig) → Buf (Elt Ideal) ℓ) (c : Dev nD)

/-- The queries as launched. -/
abbrev inQ : Vec Ideal S4x4x8192x64 .f32 := m (c, Proc.tc.devRef main_arg0)
/-- The keys as launched. -/
abbrev inK : Vec Ideal S4x4x8192x64 .f32 := m (c, Proc.tc.devRef main_arg1)
/-- The values as launched. -/
abbrev inV : Vec Ideal S4x4x8192x64 .f32 := m (c, Proc.tc.devRef main_arg2)

/-- The padded queries. -/
theorem q_host (hx : AllReal (inQ m c)) (b : Fin 4) (h : Fin 8) (h4 : h.val < 4) (s : Fin 8192) (d : Fin 128) :
    (V m c main_v3 : Vec Ideal S4x8x8192x128 .bf16) (ix4 b h s d) = ((Qr (inQ m c) b ⟨h.val, h4⟩ s.val d : ℝ) : EReal) := by
  have e : (V m c main_v3 : Vec Ideal S4x8x8192x128 .bf16) (ix4 b h s d)
      = if hh : h.val < 4 ∧ d.val < 64 then inQ m c (ix4 b ⟨h.val, hh.1⟩ s ⟨d.val, hh.2⟩) * Ideal.ofBits FTy.f32 0x3E000000#32
        else FloatOps.sitofp (F := Ideal) FTy.bf16 0#32 := by
    unfold V
    after_reads_at
  rw [e]
  by_cases hd : d.val < 64
  · rw [dif_pos ⟨h4, hd⟩, hx.eq, eighth, ← EReal.coe_mul]; rfl
  · rw [dif_neg (fun h => hd h.2), pad_zero, Qr, ent_pad _ _ _ _ _ hd, zero_mul]

/-- The padded values. -/
theorem v_host (hx : AllReal (inV m c)) (b : Fin 4) (h : Fin 8) (h4 : h.val < 4) (s : Fin 8192) (d : Fin 128) :
    (V m c main_v5 : Vec Ideal S4x8x8192x128 .bf16) (ix4 b h s d) = ((Kr (inV m c) b ⟨h.val, h4⟩ s.val d : ℝ) : EReal) := by
  have e : (V m c main_v5 : Vec Ideal S4x8x8192x128 .bf16) (ix4 b h s d)
      = if hh : h.val < 4 ∧ d.val < 64 then inV m c (ix4 b ⟨h.val, hh.1⟩ s ⟨d.val, hh.2⟩) else FloatOps.sitofp (F := Ideal) FTy.bf16 0#32 := by
    unfold V
    after_reads_at
  rw [e]
  by_cases hd : d.val < 64
  · rw [dif_pos ⟨h4, hd⟩, hx.eq]; rfl
  · rw [dif_neg (fun h => hd h.2), pad_zero, Kr, ent_pad _ _ _ _ _ hd]

/-- The padded keys, transposed in tiles. -/
theorem k_host (hx : AllReal (inK m c)) (b : Fin 4) (h : Fin 8) (h4 : h.val < 4) (j : Fin 32) (d : Fin 128) (k : Fin 256) :
    (V m c main_v9 : Vec Ideal S4x8x32x128x256 .bf16) (ix5 b h j d k) = ((Kr (inK m c) b ⟨h.val, h4⟩ (256 * j.val + k.val) d : ℝ) : EReal) := by
  have e : (V m c main_v9 : Vec Ideal S4x8x32x128x256 .bf16) (ix5 b h j d k)
      = if hh : h.val < 4 ∧ j.val * 256 + k.val < 8192 ∧ d.val < 64 then
          inK m c (ix4 b ⟨h.val, hh.1⟩ ⟨j.val * 256 + k.val, hh.2.1⟩ ⟨d.val, hh.2.2⟩) else FloatOps.sitofp (F := Ideal) FTy.bf16 0#32 := by
    unfold V
    after_reads_at
  rw [e, mul_comm 256 j.val]
  by_cases hd : d.val < 64
  · rw [dif_pos ⟨h4, by omega, hd⟩, hx.eq]; rfl
  · rw [dif_neg (fun h => hd h.2.2), pad_zero, Kr, ent_pad _ _ _ _ _ hd]

/-- Small words compare as the numbers do. -/
theorem sge_ofNat (a b : ℕ) (ha : a < 256) (hb : b < 256) :
    IntOp.cmpi .sge (BitVec.ofNat 32 a) (BitVec.ofNat 32 b) = if b ≤ a then 1#1 else 0#1 := by
  have h : ∀ n, n < 256 → (BitVec.ofNat 32 n).toInt = (n : ℤ) := fun n hn => by
    rw [BitVec.toInt_ofNat', Int.bmod_eq_of_le] <;> omega
  show BitVec.ofBool ((BitVec.ofNat 32 b).sle (BitVec.ofNat 32 a)) = _
  rw [BitVec.sle, h a ha, h b hb]
  split <;> rename_i hh
  · rw [decide_eq_true (by exact_mod_cast hh)]; rfl
  · rw [decide_eq_false (by exact_mod_cast hh)]; rfl

/-- The table of the reverse cumulative sum. -/
theorem u_host (a b : Fin 256) : (V m c main_v16 : Vec Ideal S256x256 .bf16) (ix2 a b) = if b.val ≤ a.val then (1 : EReal) else 0 := by
  have e : (V m c main_v16 : Vec Ideal S256x256 .bf16) (ix2 a b)
      = FloatOps.uitofp (F := Ideal) FTy.bf16 (IntOp.cmpi CmpIPredicate.sge (BitVec.ofNat 32 a.val) (BitVec.ofNat 32 b.val)) := by
    unfold V
    after_reads_at
  rw [e]
  exact bit_one _ _ (sge_ofNat _ _ a.isLt b.isLt)

/-- The queries' block index. -/
theorem ix_q : ∀ t : Fin cfg0.N, win0_0.index t = ![(grid0.coords t 0).val, 0, (grid0.coords t 2).val, 0] := by decide +kernel
/-- The keys' block index. -/
theorem ix_k : ∀ t : Fin cfg0.N, win0_1.index t = ![(grid0.coords t 0).val, 0, 0, 0, 0] := by decide +kernel
/-- The values' block index. -/
theorem ix_v : ∀ t : Fin cfg0.N, win0_2.index t = ![(grid0.coords t 0).val, 0, 0, 0] := by decide +kernel
/-- The table's block index. -/
theorem ix_u : ∀ t : Fin cfg0.N, win0_3.index t = ![0, 0] := by decide +kernel
/-- The result's block index. -/
theorem ix_o : ∀ t : Fin cfg0.N, win0_4.index t = ![(grid0.coords t 0).val, (grid0.coords t 2).val, 0] := by decide +kernel

/-- A grid point's batch. -/
def batch (t : Fin cfg0.N) : Fin 4 := ⟨(grid0.coords t 0).val, (grid0.coords t 0).isLt⟩

/-- The queries' block: rows of the point's row block. -/
theorem blk_q (t : Fin cfg0.N) (A : Vec Ideal S4x8x8192x128 .bf16) (h : Fin 4) (r : Fin 256) (d : Fin 128) :
    (win0_0.blk t).view.read (Elt Ideal) A (ix4 0 h r d)
      = A (ix4 (batch t) ⟨h.val, by omega⟩ ⟨256 * (grid0.coords t 2).val + r.val, by have h2 : (grid0.coords t 2).val < 32 := (grid0.coords t 2).isLt; omega⟩ d) := by
  unfold batch
  have h2 : (grid0.coords t 2).val < 32 := (grid0.coords t 2).isLt
  blk_ext [ix_q t]

/-- The keys' block: the batch's. -/
theorem blk_k (t : Fin cfg0.N) (A : Vec Ideal S4x8x32x128x256 .bf16) (h : Fin 4) (j : Fin 32) (d : Fin 128) (k : Fin 256) :
    (win0_1.blk t).view.read (Elt Ideal) A (ix5 0 h j d k) = A (ix5 (batch t) ⟨h.val, by omega⟩ j d k) := by
  unfold batch
  blk_ext [ix_k t]

/-- The values' block: the batch's. -/
theorem blk_v (t : Fin cfg0.N) (A : Vec Ideal S4x8x8192x128 .bf16) (h : Fin 4) (s : Fin 8192) (l : Fin 128) :
    (win0_2.blk t).view.read (Elt Ideal) A (ix4 0 h s l) = A (ix4 (batch t) ⟨h.val, by omega⟩ s l) := by
  unfold batch
  blk_ext [ix_v t]

/-- The table's block: all of it. -/
theorem blk_u (t : Fin cfg0.N) (A : Vec Ideal S256x256 .bf16) (a b : Fin 256) :
    (win0_3.blk t).view.read (Elt Ideal) A (ix2 a b) = A (ix2 a b) := by
  blk_ext [ix_u t]

end Cert.Proof.KI

end
-- ==== Proof.KI.Array.lean ====
/- The array the call writes: the stick-breaking sums of every row and head. -/
module

public import proofs.«01_k».proof.Proof.KI.Host

@[expose] public section

set_option maxRecDepth 16384

noncomputable section

namespace Cert.Proof.KI

open Cert.KernelIdeal Cert.KernelIdeal.Gen
open Idealize.ShloMosaic Idealize.ShloMosaic.TcCoe Idealize.ShloMosaic.Tactic
open Cert.Proof.Stick

variable (m : (ℓ : Loc nD τ sig) → Buf (Elt Ideal) ℓ) (c : Dev nD)

/-- The window's array is the padded queries. -/
theorem arr_q : V m c (Pipeline.arrRef spec0 0) = V m c main_v3 := rfl
/-- The window's array is the tiled keys. -/
theorem arr_k : V m c (Pipeline.arrRef spec0 1) = V m c main_v9 := rfl
/-- The window's array is the padded values. -/
theorem arr_v : V m c (Pipeline.arrRef spec0 2) = V m c main_v5 := rfl
/-- The window's array is the table. -/
theorem arr_u : V m c (Pipeline.arrRef spec0 3) = V m c main_v16 := rfl

/-- A grid point's blocks. -/
theorem blocks (hq : AllReal (inQ m c)) (hk : AllReal (inK m c)) (hv : AllReal (inV m c)) (t : Fin cfg0.N) :
    Blocks (grid0.coords t 2).val (Qr (inQ m c) (batch t)) (Kr (inK m c) (batch t)) (Kr (inV m c) (batch t))
      (iblk m c 0 t) (iblk m c 1 t) (iblk m c 2 t) (iblk m c 3 t) := by
  have h2 : (grid0.coords t 2).val < 32 := (grid0.coords t 2).isLt
  refine ⟨fun h r d => ?_, fun h j d k => ?_, fun h s l => ?_, fun a b => ?_⟩
  · have e := q_host m c hq (batch t) ⟨h.val, by omega⟩ h.isLt ⟨256 * (grid0.coords t 2).val + r.val, by omega⟩ d
    rw [← arr_q] at e
    unfold iblk
    generalize V m c (Pipeline.arrRef spec0 0) = A at e ⊢
    exact (blk_q t A h r d).trans e
  · have e := k_host m c hk (batch t) ⟨h.val, by omega⟩ h.isLt j d k
    rw [← arr_k] at e
    unfold iblk
    generalize V m c (Pipeline.arrRef spec0 1) = A at e ⊢
    exact (blk_k t A h j d k).trans e
  · have e := v_host m c hv (batch t) ⟨h.val, by omega⟩ h.isLt s l
    rw [← arr_v] at e
    unfold iblk
    generalize V m c (Pipeline.arrRef spec0 2) = A at e ⊢
    exact (blk_v t A h s l).trans e
  · have e := u_host m c a b
    rw [← arr_u] at e
    unfold iblk
    generalize V m c (Pipeline.arrRef spec0 3) = A at e ⊢
    exact (blk_u t A a b).trans e

/-- The result array: row `s` of batch `b`, lane `l`. -/
def outArr : Vec Ideal S4x8192x256 .bf16 := fun j =>
  ((tileVal (Qr (inQ m c) (j 0)) (Kr (inK m c) (j 0)) (Kr (inV m c) (j 0)) (j 1).val (j 2) : ℝ) : EReal)

/-- The result's block: rows of the point's row block. -/
theorem blk_o (t : Fin cfg0.N) (A : Vec Ideal S4x8192x256 .bf16) (r l : Fin 256) :
    A ((win0_4.blk t).view.emb (ix3 0 r l))
      = A (ix3 (batch t) ⟨256 * (grid0.coords t 2).val + r.val, by have h2 : (grid0.coords t 2).val < 32 := (grid0.coords t 2).isLt; omega⟩ l) := by
  unfold batch
  have h2 : (grid0.coords t 2).val < 32 := (grid0.coords t 2).isLt
  blk_ext [ix_o t]

/-- What the body leaves at a grid point. -/
theorem outAt_apply (hq : AllReal (inQ m c)) (hk : AllReal (inK m c)) (hv : AllReal (inV m c)) (t : Fin cfg0.N) (r l : Fin 256) :
    outAt m c t (ix3 0 r l) = ((tileVal (Qr (inQ m c) (batch t)) (Kr (inK m c) (batch t)) (Kr (inV m c) (batch t))
      (256 * (grid0.coords t 2).val + r.val) l : ℝ) : EReal) := by
  have hB := blocks m c hq hk hv t
  unfold outAt
  exact bodyRun_apply c _ _ _ _ _ _ _ _ _ _ hB r l

/-- The result array at a grid point's block. -/
theorem outArr_blk (t : Fin cfg0.N) (r l : Fin 256) :
    outArr m c ((win0_4.blk t).view.emb (ix3 0 r l)) = ((tileVal (Qr (inQ m c) (batch t)) (Kr (inK m c) (batch t)) (Kr (inV m c) (batch t))
      (256 * (grid0.coords t 2).val + r.val) l : ℝ) : EReal) :=
  (blk_o t (outArr m c) r l).trans rfl

/-- What the call writes back. -/
theorem arr_out (hq : AllReal (inQ m c)) (hk : AllReal (inK m c)) (hv : AllReal (inV m c)) :
    (dats m 0 c).arrAt 4 cfg0.N = outArr m c := by
  refine (dats m 0 c).arrAt_eq_of_covers 4 _ (by decide +kernel) fun t hf y => ?_
  blk_simp
  rw [after0_4]
  idx_vars y
  obtain rfl : y0 = 0 := Subsingleton.elim _ _
  have e1 := outAt_apply m c hq hk hv t y1 y2
  have e2 := outArr_blk m c t y1 y2
  generalize outArr m c = A, outAt m c t = B at e1 e2 ⊢
  exact e1.trans e2.symm

end Cert.Proof.KI

end
-- ==== Proof.RI.Value.lean ====
/- The reference's value, operation by operation, over the extended reals. -/
module

public import proofs.«01_k».proof.Proof.Gen.ReferenceIdeal.Run
public import proofs.«01_k».proof.Proof.KI.Host
public import Idealize.ShloMosaic.Lib.Pointwise

@[expose] public section

set_option maxRecDepth 16384

noncomputable section

namespace Cert.Proof.RI

open Cert.ReferenceIdeal Cert.ReferenceIdeal.Gen
open Idealize.ShloMosaic Idealize.ShloMosaic.TcCoe Idealize.ShloMosaic.Tactic
open Cert.Proof.Stick

section Terms
variable {F : FTy → Type} [FloatOps F]

/-- Zero everywhere. -/
def zeros : FVec F S4x4x8192x8192 .f32 := broadcastInDim S4x4x8192x8192 ![] bcast_S_S4x4x8192x8192 (constant S_ .f32 0x00000000#32)

/-- The scaled scores. -/
def scores (q k : FVec F S4x4x8192x64 .f32) : FVec F S4x4x8192x8192 .f32 :=
  mulf (Host.dotGeneral dot_S4x4x8192x64_S4x4x8192x64_S4x4x8192x8192_3_3_2_2_01_01 none q k)
    (broadcastInDim S4x4x8192x8192 ![] bcast_S_S4x4x8192x8192 (constant S_ .f32 0x3E000000#32))

/-- The logarithm of one plus the exponential. -/
def softplus (x : FVec F S4x4x8192x8192 .f32) : FVec F S4x4x8192x8192 .f32 :=
  select (cmpf .une (subf x zeros) (subf x zeros)) (addf x zeros)
    (addf (maximumf x zeros) (Host.log1p (Host.exp (Host.negf (Host.absf (subf x zeros))))))

/-- Where the key is before the row's position. -/
def mask : IVec S4x4x8192x8192 1 :=
  broadcastInDim S4x4x8192x8192 ![2, 3] bcast_S8192x8192_S4x4x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The logarithms of the sticks' remainders. -/
def logNot (q k : FVec F S4x4x8192x64 .f32) : FVec F S4x4x8192x8192 .f32 :=
  select mask (Host.negf (softplus (Host.negf (Host.negf (scores q k)))))
    (broadcastInDim S4x4x8192x8192 ![] bcast_S_S4x4x8192x8192 (id (constant S_ .f32 0x00000000#32)))

/-- Sums over the keys from each on. -/
def revCum (x : FVec F S4x4x8192x8192 .f32) : FVec F S4x4x8192x8192 .f32 :=
  Host.reduceWindowAdd ![1, 1, 1, 8192] ![1, 1, 1, 1] ![0, 0, 0, 0] ![0, 0, 0, 8191] x
    (broadcastInDim S_ ![] bcast_S_S_ (constant S_ .f32 0x00000000#32))
    reduceWindows_S4x4x8192x8192_S4x4x8192x8192_w1s1p0_0_w1s1p0_0_w1s1p0_0_w8192s1p0_8191 h_S_

/-- The weights. -/
def weights (q k : FVec F S4x4x8192x64 .f32) : FVec F S4x4x8192x8192 .f32 :=
  select mask (Host.exp (addf (Host.negf (softplus (Host.negf (scores q k)))) (subf (revCum (logNot q k)) (logNot q k))))
    (broadcastInDim S4x4x8192x8192 ![] bcast_S_S4x4x8192x8192 (id (constant S_ .f32 0x00000000#32)))

/-- The heads' weighted sums side by side. -/
def heads (w : FVec F S4x4x8192x8192 .f32) (v : FVec F S4x4x8192x64 .f32) : FVec F S4x8192x256 .bf16 :=
  truncf .bf16 (shapeCast _ (transpose S4x8192x4x64 [0, 2, 1, 3]
    (Host.dotGeneral dot_S4x4x8192x8192_S4x4x8192x64_S4x4x8192x64_3_2_2_3_01_01 none w v)
    transposes_S4x4x8192x64_S4x8192x4x64_0_2_1_3) shapeCasts_S4x8192x4x64_S4x8192x256) bitsLt_bf16_f32

/-- The program's result is these operations composed. -/
theorem res_eq (m : (ℓ : Loc nD τ sig) → Buf (Elt F) ℓ) (c : Dev nD) :
    Value.res_main_v21 m c = heads (weights (m ((c.tc : Thread nD τ).loc main_arg0)) (m ((c.tc : Thread nD τ).loc main_arg1)))
      (m ((c.tc : Thread nD τ).loc main_arg2)) := by
  unfold Value.res_main_v21 heads weights revCum logNot mask softplus scores zeros
  rfl

end Terms

theorem scores_apply (q k : FVec Ideal S4x4x8192x64 .f32) (b h : Fin 4) (t s : Fin 8192) :
    scores q k (ix4 b h t s) = (∑ d : Fin 64, q (ix4 b h t d) * k (ix4 b h s d)) * Ideal.ofBits .f32 0x3E000000#32 := by
  pointwise [scores]

theorem heads_apply (w : FVec Ideal S4x4x8192x8192 .f32) (v : FVec Ideal S4x4x8192x64 .f32) (b : Fin 4) (t : Fin 8192) (l : Fin 256) :
    heads w v (ix3 b t l) = ∑ s : Fin 8192, w (ix4 b ⟨l.val / 64, by omega⟩ t s) * v (ix4 b ⟨l.val / 64, by omega⟩ s ⟨l.val % 64, by omega⟩) := by
  pointwise [heads]

theorem zeros_apply (b h : Fin 4) (t s : Fin 8192) : zeros (F := Ideal) (ix4 b h t s) = 0 := by
  pointwise [zeros]

theorem softplus_apply (x : FVec Ideal S4x4x8192x8192 .f32) (b h : Fin 4) (t s : Fin 8192) :
    softplus x (ix4 b h t s) = max (x (ix4 b h t s)) 0 + Ideal.log (1 + Ideal.exp (-(max (x (ix4 b h t s)) (-(x (ix4 b h t s)))))) := by
  have hz := zeros_apply b h t s
  pointwise [softplus, hz]
  rw [if_neg (by simp)]
  rfl

/-- Positions compare as words as they do as numbers. -/
theorem slt_ofNat (a b : ℕ) (ha : a < 8192) (hb : b < 8192) :
    IntOp.cmpi .slt (BitVec.ofNat 32 a) (BitVec.ofNat 32 b) = if a < b then 1#1 else 0#1 := by
  have h : ∀ n, n < 8192 → (BitVec.ofNat 32 n).toInt = (n : ℤ) := fun n hn => by
    rw [BitVec.toInt_ofNat', Int.bmod_eq_of_le] <;> omega
  show BitVec.ofBool ((BitVec.ofNat 32 a).slt (BitVec.ofNat 32 b)) = _
  rw [BitVec.slt, h a ha, h b hb]
  split <;> rename_i hh
  · rw [decide_eq_true (by exact_mod_cast hh)]; rfl
  · rw [decide_eq_false (by exact_mod_cast hh)]; rfl

theorem mask_apply (b h : Fin 4) (t s : Fin 8192) : mask (ix4 b h t s) = if s.val < t.val then 1#1 else 0#1 := by
  rw [← slt_ofNat _ _ s.isLt t.isLt]
  pointwise [mask]

/-- A masked array's element. -/
theorem masked_apply (x : FVec Ideal S4x4x8192x8192 .f32) (b h : Fin 4) (t s : Fin 8192) :
    select mask x (broadcastInDim S4x4x8192x8192 ![] bcast_S_S4x4x8192x8192 (id (constant S_ .f32 0x00000000#32))) (ix4 b h t s)
      = if s.val < t.val then x (ix4 b h t s) else 0 := by
  have e := mask_apply b h t s
  pointwise [e]
  split
  · rfl
  · exact Ideal.ofBits_zero_f32

/-- A left fold of additions is the sum. -/
theorem foldl_add {ι : Type} (l : List ι) (g : ι → EReal) (r : EReal) : l.foldl (fun r n => r + g n) r = r + (l.map g).sum := by
  induction l generalizing r with
  | nil => simp
  | cons a l ih => rw [List.foldl_cons, ih, List.map_cons, List.sum_cons, add_assoc]

/-- The window's sum: the elements from the index on. -/
theorem revCum_apply (x : FVec Ideal S4x4x8192x8192 .f32) (b h : Fin 4) (t s : Fin 8192) :
    revCum x (ix4 b h t s) = ∑ n : Fin 8192, if hn : s.val + n.val < 8192 then x (ix4 b h t ⟨s.val + n.val, hn⟩) else 0 := by
  have hz : ∀ i : S_.Idx, broadcastInDim S_ ![] bcast_S_S_ (constant (F := Ideal) S_ .f32 0x00000000#32) i = (0 : EReal) := fun i =>
    Ideal.ofBits_zero_f32
  unfold revCum Host.reduceWindowAdd
  rw [Ideal.hostReduceWindowAdd_def, hz]
  unfold Ideal.hostReduceWindowAdd Host.reduceWindow
  dsimp only
  rw [foldl_add, zero_add, ← Fin.sum_univ_def]
  let G : (⟨4, ![1, 1, 1, 8192]⟩ : Shape).Idx → EReal := fun w =>
    if hn : s.val + (w 3).val < 8192 then x (ix4 b h t ⟨s.val + (w 3).val, hn⟩) else 0
  refine Eq.trans ?_ ((Equiv.sum_comp (Shape.rowMajor ⟨4, ![1, 1, 1, 8192]⟩).symm G).trans ?_)
  · refine Finset.sum_congr rfl fun n _ => ?_
    let w : (⟨4, ![1, 1, 1, 8192]⟩ : Shape).Idx := (Shape.rowMajor ⟨4, ![1, 1, 1, 8192]⟩).symm n
    have w0 : (w 0).val = 0 := Nat.lt_one_iff.mp (w 0).isLt
    have w1 : (w 1).val = 0 := Nat.lt_one_iff.mp (w 1).isLt
    have w2 : (w 2).val = 0 := Nat.lt_one_iff.mp (w 2).isLt
    have hb := b.isLt
    have hh := h.isLt
    have ht := t.isLt
    have hs := s.isLt
    have p0 : b.val * 1 + (w 0).val = b.val := by omega
    have p1 : h.val * 1 + (w 1).val = h.val := by omega
    have p2 : t.val * 1 + (w 2).val = t.val := by omega
    have p3 : s.val * 1 + (w 3).val = s.val + (w 3).val := by omega
    by_cases hn : s.val + (w 3).val < 8192
    · rw [dif_pos, show G w = _ from dif_pos hn]
      · refine congrArg x (funext fun a => Fin.ext ?_)
        fin_cases a
        · exact (Nat.sub_zero _).trans p0
        · exact (Nat.sub_zero _).trans p1
        · exact (Nat.sub_zero _).trans p2
        · exact (Nat.sub_zero _).trans p3
      · intro a
        fin_cases a
        · exact ⟨Nat.zero_le _, lt_of_eq_of_lt ((Nat.sub_zero _).trans p0) hb⟩
        · exact ⟨Nat.zero_le _, lt_of_eq_of_lt ((Nat.sub_zero _).trans p1) hh⟩
        · exact ⟨Nat.zero_le _, lt_of_eq_of_lt ((Nat.sub_zero _).trans p2) ht⟩
        · exact ⟨Nat.zero_le _, lt_of_eq_of_lt ((Nat.sub_zero _).trans p3) hn⟩
    · rw [dif_neg, show G w = _ from dif_neg hn]
      intro q
      exact hn (lt_of_eq_of_lt (p3.symm.trans (Nat.sub_zero _).symm) (q 3).2)
  · rw [sum_idx4]
    simp only [Fin.sum_univ_one]
    rfl

/-- The real score. -/
def zr (q k : Vec Ideal S4x4x8192x64 .f32) (b h : Fin 4) (t s : ℕ) : ℝ :=
  (∑ d : Fin 64, KI.ent q b h t d.val * KI.ent k b h s d.val) * (1 / 8)

section Real
variable {q k v : Vec Ideal S4x4x8192x64 .f32} (hq : KI.AllReal q) (hk : KI.AllReal k) (hv : KI.AllReal v)
include hq hk

theorem scores_real (b h : Fin 4) (t s : Fin 8192) : scores (F := Ideal) q k (ix4 b h t s) = ((zr q k b h t.val s.val : ℝ) : EReal) := by
  rw [scores_apply, KI.eighth, zr, EReal.coe_mul, coe_sum]
  congr 1
  exact Finset.sum_congr rfl fun d _ => by rw [hq.eq, hk.eq, EReal.coe_mul]

theorem negf_apply (x : FVec Ideal S4x4x8192x8192 .f32) (b h : Fin 4) (t s : Fin 8192) : Host.negf x (ix4 b h t s) = -(x (ix4 b h t s)) := rfl

theorem logNot_real (b h : Fin 4) (t s : Fin 8192) :
    logNot (F := Ideal) q k (ix4 b h t s) = ((-cost t.val (zr q k b h t.val) s.val : ℝ) : EReal) := by
  unfold logNot
  rw [masked_apply, cost]
  split
  · have e : Host.negf (F := Ideal) (Host.negf (scores (F := Ideal) q k)) (ix4 b h t s) = ((zr q k b h t.val s.val : ℝ) : EReal) := by
      show -(-(scores (F := Ideal) q k (ix4 b h t s))) = _
      rw [neg_neg, scores_real hq hk]
    show -(softplus (F := Ideal) _ (ix4 b h t s)) = _
    rw [softplus_apply, e, sp_reference, EReal.coe_neg]
  · rw [neg_zero, EReal.coe_zero]

theorem revCum_real (b h : Fin 4) (t s : Fin 8192) :
    revCum (logNot (F := Ideal) q k) (ix4 b h t s) = ((-tailFrom t.val (zr q k b h t.val) s.val : ℝ) : EReal) := by
  rw [revCum_apply, tailFrom, Finset.sum_Ico_eq_sum_range, ← Finset.sum_neg_distrib]
  have e : ∀ n : Fin 8192, (if hn : s.val + n.val < 8192 then logNot (F := Ideal) q k (ix4 b h t ⟨s.val + n.val, hn⟩) else 0)
      = ((if s.val + n.val < 8192 then -cost t.val (zr q k b h t.val) (s.val + n.val) else 0 : ℝ) : EReal) := fun n => by
    split
    · exact logNot_real hq hk b h t _
    · exact EReal.coe_zero.symm
  rw [Finset.sum_congr rfl fun n _ => e n, ← coe_sum]
  congr 1
  rw [Fin.sum_univ_eq_sum_range (fun n => if s.val + n < 8192 then -cost t.val (zr q k b h t.val) (s.val + n) else 0),
    ← Finset.sum_filter]
  refine Finset.sum_congr (Finset.ext fun n => ?_) fun _ _ => rfl
  simp only [Finset.mem_filter, Finset.mem_range]
  omega

theorem weights_real (b h : Fin 4) (t s : Fin 8192) :
    weights (F := Ideal) q k (ix4 b h t s) = ((wt t.val (zr q k b h t.val) s.val : ℝ) : EReal) := by
  unfold weights
  rw [masked_apply, wt]
  by_cases hs : s.val < t.val
  · rw [if_pos hs, if_pos hs]
    have e : Host.negf (F := Ideal) (scores (F := Ideal) q k) (ix4 b h t s) = ((-zr q k b h t.val s.val : ℝ) : EReal) := by
      show -(scores (F := Ideal) q k (ix4 b h t s)) = _
      rw [scores_real hq hk, EReal.coe_neg]
    show Ideal.exp (-(softplus (F := Ideal) _ (ix4 b h t s)) + (revCum (F := Ideal) (logNot q k) (ix4 b h t s) - logNot (F := Ideal) q k (ix4 b h t s))) = _
    rw [softplus_apply, e, sp_reference, revCum_real hq hk, logNot_real hq hk, ← EReal.coe_neg, ← EReal.coe_sub, ← EReal.coe_add,
      Ideal.exp_coe, sp_neg, cost, if_pos hs]
    congr 2
    ring
  · rw [if_neg hs, if_neg hs, EReal.coe_zero]

include hv

/-- The reference's result: every row's stick-breaking sum. -/
theorem heads_real (b : Fin 4) (t : Fin 8192) (l : Fin 256) :
    heads (weights (F := Ideal) q k) v (ix3 b t l)
      = ((accFrom t.val (zr q k b ⟨l.val / 64, by omega⟩ t.val) (fun s => KI.ent v b ⟨l.val / 64, by omega⟩ s (l.val % 64)) 0 : ℝ) : EReal) := by
  rw [heads_apply, accFrom, Nat.Ico_zero_eq_range,
    ← Fin.sum_univ_eq_sum_range (fun s => wt t.val (zr q k b ⟨l.val / 64, by omega⟩ t.val) s * KI.ent v b ⟨l.val / 64, by omega⟩ s (l.val % 64)), coe_sum]
  exact Finset.sum_congr rfl fun s _ => by rw [weights_real hq hk, hv.eq, EReal.coe_mul]

end Real

/-- The kernel's padded scores are the reference's. -/
theorem zOf_eq (q k : Vec Ideal S4x4x8192x64 .f32) (b h : Fin 4) (t s : ℕ) :
    KI.zOf (KI.Qr q b) (KI.Kr k b) h t s = zr q k b h t s := by
  unfold KI.zOf KI.Qr KI.Kr zr
  rw [Fin.sum_univ_add (a := 64) (b := 64) (fun d : Fin 128 => KI.ent q b h t d.val * (1 / 8) * KI.ent k b h s d.val), Finset.sum_mul]
  have z : ∑ d : Fin 64, KI.ent q b h t (Fin.natAdd 64 d).val * (1 / 8) * KI.ent k b h s (Fin.natAdd 64 d).val = 0 :=
    Finset.sum_eq_zero fun d _ => by rw [KI.ent_pad _ _ _ _ _ (by rw [Fin.val_natAdd]; omega), zero_mul, zero_mul]
  rw [z, add_zero]
  exact Finset.sum_congr rfl fun d _ => by rw [Fin.val_castAdd]; ring

/-- The kernel's tile is the reference's rows. -/
theorem tileVal_eq (q k v : Vec Ideal S4x4x8192x64 .f32) (b : Fin 4) (t : ℕ) (l : Fin 256) :
    KI.tileVal (KI.Qr q b) (KI.Kr k b) (KI.Kr v b) t l
      = accFrom t (zr q k b ⟨l.val / 64, by omega⟩ t) (fun s => KI.ent v b ⟨l.val / 64, by omega⟩ s (l.val % 64)) 0 := by
  unfold KI.tileVal
  rw [show KI.zOf (KI.Qr q b) (KI.Kr k b) ⟨l.val / 64, by omega⟩ t = zr q k b ⟨l.val / 64, by omega⟩ t from funext fun s => zOf_eq q k b _ t s]
  rfl

end Cert.Proof.RI

end
-- ==== Proof.Claims.lean ====
/- The claims: what the precondition gives, the two programs' runs, and that their results agree. -/
module

public import proofs.«01_k».proof.Defs
public import proofs.«01_k».proof.Proof.Gen.Pre_finite
public import proofs.«01_k».proof.Proof.KI.Array
public import proofs.«01_k».proof.Proof.RI.Value
public import Idealize.ShloMosaic.Lib.ReduceAll
public import Idealize.ShloMosaic.Lib.Quiescent
public import Idealize.ShloMosaic.Lib.Pipeline.ValueKit

@[expose] public section

set_option maxRecDepth 16384

noncomputable section

namespace Cert.Proof

open Idealize.ShloMosaic Idealize.ShloMosaic.TcCoe Idealize.SL.Sem

/-- An extended real whose absolute value is below infinity is a real. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  induction x with
  | bot => simp at hlt
  | coe r => exact ⟨r, rfl⟩
  | top => simp at hlt

instance : Subsingleton Cert.Pre_finite.S_.Idx := ⟨fun _ _ => funext fun i => i.elim0⟩

/-- An array whose finiteness test holds has only reals in it. -/
theorem allReal_of_test (x : Vec Ideal Cert.KernelIdeal.S4x4x8192x64 .f32) (j : Cert.Pre_finite.S_.Idx)
    (e : Host.reduce IntOp.andi (cmpf (F := Ideal) (φ := .f32) .olt (Host.absf (F := Ideal) x)
      (broadcastInDim Cert.Pre_finite.S4x4x8192x64 ![] Cert.Pre_finite.Facts.bcast_S_S4x4x8192x64 (constant (F := Ideal) Cert.Pre_finite.S_ .f32 0x7F800000#32)))
      (constantI Cert.Pre_finite.S_ 1 1#1) Cert.Pre_finite.Facts.reducesTo_S4x4x8192x64_S_d0_1_2_3 Cert.Pre_finite.Facts.h_S_ j = 1#1) : KI.AllReal x :=
  fun b h s d => real_of_abs_lt _ (Host.reduce_andi_all _ _ _ _ j e (ix4 b h s d))

/-- The precondition makes the queries, the keys and the values real. -/
theorem allReal (m : (ℓ : Loc Cert.KernelIdeal.nD Cert.KernelIdeal.τ Cert.KernelIdeal.sig) → Buf (Elt Ideal) ℓ)
    (hm : Pre_KernelIdeal_finite m) (c : Dev Cert.KernelIdeal.nD) :
    KI.AllReal (KI.inQ m c) ∧ KI.AllReal (KI.inK m c) ∧ KI.AllReal (KI.inV m c) := by
  have j : Cert.Pre_finite.S_.Idx := fun i => i.elim0
  have h := congrFun (hm c) j
  unfold Cert.Pre_finite.fn at h
  obtain ⟨h12, h3⟩ := IntOp.andi_eq_one.1 h
  obtain ⟨h1, h2⟩ := IntOp.andi_eq_one.1 h12
  exact ⟨allReal_of_test _ j h1, allReal_of_test _ j h2, allReal_of_test _ j h3⟩

section Kernel
open Cert.KernelIdeal Cert.KernelIdeal.Gen

/-- The kernel program's run: its result is the array of stick-breaking sums, and its arguments end as they were. -/
theorem kernel_run (m : (ℓ : Loc nD τ sig) → Buf (Elt Ideal) ℓ) (g : Dev nD → PrngReg) (hm : Pre_KernelIdeal_finite m) :
    θ_run (defs (F := Ideal)) (onTc (τ := τ) (main (F := Ideal))) ⟨m, fun _ => 0, g⟩ (fun r => ∀ c : Dev nD,
      r.2.mem ((c.tc : Thread nD τ).loc main_v17) = KI.outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.out_eq c 4).trans (KI.arr_out m c (allReal m hm c).1 (allReal m hm c).2.1 (allReal m hm c).2.2),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (KI.run_main m g)

end Kernel

/-- On real arguments the reference's result is the kernel's array. -/
theorem heads_eq (m : (ℓ : Loc Cert.KernelIdeal.nD Cert.KernelIdeal.τ Cert.KernelIdeal.sig) → Buf (Elt Ideal) ℓ) (c : Dev Cert.KernelIdeal.nD)
    (hq : KI.AllReal (KI.inQ m c)) (hk : KI.AllReal (KI.inK m c)) (hv : KI.AllReal (KI.inV m c)) :
    RI.heads (F := Ideal) (RI.weights (KI.inQ m c) (KI.inK m c)) (KI.inV m c) = KI.outArr m c := by
  funext j
  idx_vars j
  exact (RI.heads_real hq hk hv j0 j1 j2).trans (congrArg (fun r : ℝ => (r : EReal))
    (RI.tileVal_eq (KI.inQ m c) (KI.inK m c) (KI.inV m c) j0 j1.val j2)).symm

/-- The value claim: on finite arguments the kernel program and the reference leave equal results. -/
theorem algebraic : algebraic_KernelIdeal_ReferenceIdeal_pre_finite := fun m g m' g' hm hm' =>
  ⟨fun c => KI.outArr m c, kernel_run m g hm,
    (θ_run Cert.ReferenceIdeal.defs _ _).mono (fun _ h c => by
      obtain ⟨a0, a1, a2⟩ := hm' c
      obtain ⟨hq, hk, hv⟩ := allReal m hm c
      refine ⟨((h c).1.trans (RI.res_eq m' c)).trans ?_, (h c).2⟩
      rw [a0, a1, a2]
      exact heads_eq m c hq hk hv)
    (Cert.ReferenceIdeal.Value.run (F := Ideal) m' g')⟩

/-- The reference ends with its arguments as they were and every counter at zero. -/
theorem reference_frame : quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The named constant's statement. -/
theorem preserves : preserves_Kernel_KernelIdeal :=
  IdealRules.named_const.statement Cert.KernelIdeal.κ "log2e" .f32 0xBFB8AA3B#32 ((-((Real.log 2)⁻¹) : ℝ) : EReal) rfl

end Cert.Proof

end
-- ==== Proof.XI.Run.lean ====
/- The run of the experts' call, over any float type: what its body leaves in the result's block, the pipeline's proof data at
   the tables the launch memory holds, and the run itself. -/
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.Pipeline.FrameBody
public import Idealize.ShloMosaic.Lib.Claim
public import Idealize.ShloMosaic.Lib.Tactic

@[expose] public section

set_option maxRecDepth 16384

noncomputable section

namespace Cert.Proof.XI

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

/-! ## The body -/

/-- The rectangles the body reads and writes. -/
abbrev rx0 : Rect S2x512x256 := Rect.unit (s := S2x512x256) ![0, 0, 0] S1x512x256.size inb_S2x512x256_S1x512x256_0_0_0
abbrev rx1 : Rect S2x512x256 := Rect.unit (s := S2x512x256) ![1, 0, 0] S1x512x256.size inb_S2x512x256_S1x512x256_1_0_0
abbrev rg0 : Rect S1x1024x512 := Rect.unit (s := S1x1024x512) ![0, 0, 0] S1x256x512.size inb_S1x1024x512_S1x256x512_0_0_0
abbrev rg1 : Rect S1x1024x512 := Rect.unit (s := S1x1024x512) ![0, 256, 0] S1x256x512.size inb_S1x1024x512_S1x256x512_0_256_0
abbrev rg2 : Rect S1x1024x512 := Rect.unit (s := S1x1024x512) ![0, 512, 0] S1x256x512.size inb_S1x1024x512_S1x256x512_0_512_0
abbrev rg3 : Rect S1x1024x512 := Rect.unit (s := S1x1024x512) ![0, 768, 0] S1x256x512.size inb_S1x1024x512_S1x256x512_0_768_0
abbrev rd : Rect S1x256x1024 := Rect.unit (s := S1x256x1024) ![0, 0, 0] S1x256x1024.size inb_S1x256x1024_S1x256x1024_0_0_0
abbrev ry00 : Rect S2x2x512x256 := Rect.unit (s := S2x2x512x256) ![0, 0, 0, 0] S1x1x512x256.size inb_S2x2x512x256_S1x1x512x256_0_0_0_0
abbrev ry10 : Rect S2x2x512x256 := Rect.unit (s := S2x2x512x256) ![1, 0, 0, 0] S1x1x512x256.size inb_S2x2x512x256_S1x1x512x256_1_0_0_0
abbrev ry01 : Rect S2x2x512x256 := Rect.unit (s := S2x2x512x256) ![0, 1, 0, 0] S1x1x512x256.size inb_S2x2x512x256_S1x1x512x256_0_1_0_0
abbrev ry11 : Rect S2x2x512x256 := Rect.unit (s := S2x2x512x256) ![1, 1, 0, 0] S1x1x512x256.size inb_S2x2x512x256_S1x1x512x256_1_1_0_0
abbrev rya : Rect S2x2x512x256 := Rect.unit (s := S2x2x512x256) ![0, 0, 0, 0] S2x2x512x256.size inb_S2x2x512x256_S2x2x512x256_0_0_0_0

/-- The first three products of the rows with the fused gate and up weights, summed; and the fourth. -/
abbrev up3 (x : Vec F S2x512x256 .i32) (g : Vec F S1x1024x512 .bf16) : FVec F S512x512 .f32 :=
  k0_pay4 (View.ld x rx0) (View.ld x rx1) (View.ld g rg0) (View.ld g rg1) (View.ld g rg2)
abbrev up1 (x : Vec F S2x512x256 .i32) (g : Vec F S1x1024x512 .bf16) : FVec F S512x512 .f32 :=
  k0_pay5 (View.ld x rx1) (View.ld g rg3)

/-- The four planes the body stores for a tile that holds rows. -/
abbrev rowPieces (x : Vec F S2x512x256 .i32) (g : Vec F S1x1024x512 .bf16) (d : Vec F S1x256x1024 .bf16) :
    List (View.Piece (Elt F) S2x2x512x256 .bf16) :=
  [⟨ry11, k0_pay1 (k0_pay10 (up3 x g) (up1 x g) (View.ld d rd))⟩, ⟨ry01, k0_pay9 (up3 x g) (up1 x g) (View.ld d rd)⟩,
    ⟨ry10, k0_pay8 (up3 x g) (up1 x g) (View.ld d rd)⟩, ⟨ry00, k0_pay7 (up3 x g) (up1 x g) (View.ld d rd)⟩]

/-- What the body leaves in the result's block at a point: the experts' rows where the tile holds rows, zeros elsewhere. -/
def out (i : grid0.Coords) (n : BitVec 32) (x : Vec F S2x512x256 .i32) (g : Vec F S1x1024x512 .bf16) (d : Vec F S1x256x1024 .bf16) :
    Vec F S2x2x512x256 .bf16 :=
  if k0_cond1 i n = 1#1 then View.canon (rowPieces x g d) else View.canon [⟨rya, k0_pay2 (F := F)⟩]

/-- The four planes cover the block, and so does the whole block. -/
theorem cover_rows (p₀ p₁ p₂ p₃ : Vec F S1x1x512x256 .bf16) (y : S2x2x512x256.Idx) :
    ∃ pc ∈ ([⟨ry11, p₀⟩, ⟨ry01, p₁⟩, ⟨ry10, p₂⟩, ⟨ry00, p₃⟩] : List (View.Piece (Elt F) S2x2x512x256 .bf16)), y ∈ pc.1.set :=
  View.cover_of_tiled [⟨ry11, p₀⟩, ⟨ry01, p₁⟩, ⟨ry10, p₂⟩, ⟨ry00, p₃⟩] S1x1x512x256.size (by rfl) y
theorem cover_all (p : Vec F S2x2x512x256 .bf16) (y : S2x2x512x256.Idx) :
    ∃ pc ∈ ([⟨rya, p⟩] : List (View.Piece (Elt F) S2x2x512x256 .bf16)), y ∈ pc.1.set :=
  View.cover_of_tiled [⟨rya, p⟩] S2x2x512x256.size (by rfl) y

/-- One comparison is the other's opposite: exactly one of the body's two branches is taken. -/
theorem cond2_eq (i : grid0.Coords) (n : BitVec 32) : k0_cond2 i n = 1#1 ↔ ¬ k0_cond1 i n = 1#1 := by
  have h (p q : Bool) (e : q = !p) : (Scalar.cmpi .ne (Scalar.extui (BitVec.ofBool q) : BitVec 32) 0#32 = 1#1)
      ↔ ¬ (Scalar.cmpi .ne (Scalar.extui (BitVec.ofBool p) : BitVec 32) 0#32 = 1#1) := by
    subst e; cases p <;> decide
  refine h (BitVec.slt (BitVec.ofNat 32 (i 0).val) n) (BitVec.sle n (BitVec.ofNat 32 (i 0).val)) ?_
  simp only [BitVec.slt, BitVec.sle, ← decide_not, not_lt]

/-- A table's buffer on core `c`, held at the half of the full share the region lends the body. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The count of tiles that hold rows, the one word of its table. -/
abbrev count (f : Vec F S1 .i32) : BitVec 32 := f (Shape.Idx.first (s := S1) (by decide))

set_option maxHeartbeats 1000000 in
/-- The body on whole staging memrefs, the count's table held and the inputs' at known contents, runs to the continuation
    holding the inputs and the table as they were and the result's block at `out`. -/
theorem sound_kernel (c : Dev nD) (E : Set ℕ) (i : grid0.Coords) (f2 : TbBuf (F := F) c (Memref.whole main_arg2 : Memref sig .tc .smem S1 .i32))
    (arg3 : Memref sig .tc .vmem S2x512x256 .i32) (harg3 : arg3.IsWhole) (arg4 : Memref sig .tc .vmem S1x1024x512 .bf16) (harg4 : arg4.IsWhole)
    (arg5 : Memref sig .tc .vmem S1x256x1024 .bf16) (harg5 : arg5.IsWhole) (arg6 : Memref sig .tc .vmem S2x2x512x256 .bf16) (harg6 : arg6.IsWhole)
    (x : Vec F S2x512x256 .i32) (g : Vec F S1x1024x512 .bf16) (d : Vec F S1x256x1024 .bf16) (K : PUnit → sProp 𝕄) :
    iprop(tbPt c (Memref.whole main_arg2) f2 ∗ owns (c : Thread nD τ) arg3 fullShare x ∗ owns (c : Thread nD τ) arg4 fullShare g
        ∗ owns (c : Thread nD τ) arg5 fullShare d ∗ (∃ y, owns (c : Thread nD τ) arg6 fullShare y)
        ∗ (iprop(tbPt c (Memref.whole main_arg2) f2 ∗ owns (c : Thread nD τ) arg3 fullShare x ∗ owns (c : Thread nD τ) arg4 fullShare g
          ∗ owns (c : Thread nD τ) arg5 fullShare d ∗ owns (c : Thread nD τ) arg6 fullShare (out i (count f2) x g d)) -∗ K ⟨⟩))
      ⊢ wp frame (wpE (defs₀ (F := F)) Variants.none c none) E
          (cc0_moe_ffn i (Memref.whole main_arg1) (Memref.isWhole_whole _) (Memref.whole main_arg2) (Memref.isWhole_whole _)
            arg3 harg3 arg4 harg4 arg5 harg5 arg6 harg6) K := by
  simp only [cc0_moe_ffn_eq_skeleton]; unfold cc0_moe_ffn_skel
  simp only [k0_part1_eq_skeleton, k0_part2_eq_skeleton]
  unfold owns
  iintro ⟨Ht, ⟨%f3, %hf3, H3⟩, ⟨%f4, %hf4, H4⟩, ⟨%f5, %hf5, H5⟩, ⟨%y6, %f6, -, H6⟩, Hk⟩
  subst hf3 hf4 hf5
  sl_exec
  sl_step
  iapply Hk
  isplitl [Ht]; · iexact Ht
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  have hn : sound_kernel.sl.r c f2 = count f2 := by
    unfold sound_kernel.sl.r
    exact congrArg f2 (funext fun a => Fin.ext (by have h := Fin.isLt (n := S1.size a) ((Shape.Idx.first (s := S1) (by decide)) a); match a with | ⟨0, _⟩ => rfl))
  rw [hn]
  by_cases h : k0_cond1 i (count f2) = 1#1
  · rw [dif_neg (fun h2 => (cond2_eq i _).mp h2 h), dif_pos h, out, if_pos h]
    exact View.read_writes_eq_canon _ _ _ (cover_rows _ _ _ _)
  · rw [dif_pos ((cond2_eq i _).mpr h), dif_neg h, out, if_neg h]
    exact View.read_writes_eq_canon _ _ _ (cover_all _)

/-! ## The pipeline at the tables the launch memory holds -/

variable (m : (ℓ : Loc nD τ sig) → Buf (Elt F) ℓ) (ρ : Dev nD → PrngReg)

/-- Core `c`'s buffers when the region is entered: as launched. -/
abbrev V (c : Dev nD) (b : Ref sig .tc) : Buf (Elt F) ((c : Thread nD τ).loc b) := m ((c : Thread nD τ).loc b)

/-- The tables' contents, and the region's condition of them. -/
def tbl : pre0.Contents (Elt F) := fun j => V m (0 : Dev nD) (pre0.ref j)
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)
abbrev adms (hO : Ok m) (p : Fin 1) : (pcfgs (F := F) p).Adm := match p with | ⟨0, _⟩ => adm m hO

theorem V_pre (c : Dev nD) (j : Fin 2) : V m c (pre0.ref j) = tbl m j := by
  obtain rfl : c = 0 := Subsingleton.elim _ _; rfl

/-- The tables' halves the region lends the body, table by table. -/
theorem PhiT_eq (c : Dev nD) : (Pipeline.ΦT pre0 (tbl m) c : sProp 𝕄)
    = iprop(tbPt c (Memref.whole main_arg1 : Memref sig .tc .smem S160 .i32) (tbl m 0) ∗ tbPt c (Memref.whole main_arg2 : Memref sig .tc .smem S1 .i32) (tbl m 1)) := by
  unfold Pipeline.ΦT Pipeline.prefHeld
  rw [show (Finset.univ : Finset (Fin 2)) = insert (0 : Fin 2) {(1 : Fin 2)} from by decide, bigSep_insert (by decide), bigSep_singleton]
  rfl

variable {m} (hO : Ok m)

/-- Window `w`'s block at point `t`, read off its array as launched. -/
def iblk (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The proof data: the arrays as launched; after the body at a point each input's block in place and the result's at `out`. -/
def dats (p : Fin 1) (c : Dev nD) : Dat τ (Elt F) Unit ℕ (UR sig nD τ) ℕ (Pipeline.pin pcfgs (adms m hO) p) c := match p with
  | ⟨0, _⟩ => {
    A := fun w => V m c (Pipeline.arrRef spec0 w)
    after := fun w t => match w with
      | ⟨0, _⟩ => iblk hO c 0 t
      | ⟨1, _⟩ => iblk hO c 1 t
      | ⟨2, _⟩ => iblk hO c 2 t
      | ⟨3, _⟩ => out (grid0.coords t) (count (tbl m 1)) (iblk hO c 0 t) (iblk hO c 1 t) (iblk hO c 2 t)
    Φ := fun _ => iprop(Pipeline.ΦA spec0 c ∗ Pipeline.ΦT pre0 (tbl m) c)
    q := fun _ => fullShare
    owed := fun _ => 0 }

theorem after_0 (c : Dev nD) (t : Fin (cfgM m hO).N) : (dats hO 0 c).after 0 t = iblk hO c 0 t := rfl
theorem after_1 (c : Dev nD) (t : Fin (cfgM m hO).N) : (dats hO 0 c).after 1 t = iblk hO c 1 t := rfl
theorem after_2 (c : Dev nD) (t : Fin (cfgM m hO).N) : (dats hO 0 c).after 2 t = iblk hO c 2 t := rfl
theorem after_3 (c : Dev nD) (t : Fin (cfgM m hO).N) : (dats hO 0 c).after 3 t
    = out (grid0.coords t) (count (tbl m 1)) (iblk hO c 0 t) (iblk hO c 1 t) (iblk hO c 2 t) := rfl
theorem A_eq (c : Dev nD) (w : Fin (cfgM m hO).W) : (dats hO 0 c).A w = V m c (Pipeline.arrRef spec0 w) := by dsimp only [dats]

/-- Each input's current staging buffer holds its block at every point. -/
theorem before_0 (c : Dev nD) (t : Fin (cfgM m hO).N) (d) : (dats hO 0 c).before 0 t d = iblk hO c 0 t :=
  ((dats hO 0 c).before_in_eq_fetched 0 rfl (fun _ => rfl) (fun _ _ _ => rfl)
    (fun t => by rw [after_0]; unfold Dat.blockOf iblk; rw [A_eq]; try rfl) t d).trans (by unfold Dat.fetched Dat.blockOf iblk; rw [A_eq]; try rfl)
theorem before_1 (c : Dev nD) (t : Fin (cfgM m hO).N) (d) : (dats hO 0 c).before 1 t d = iblk hO c 1 t :=
  ((dats hO 0 c).before_in_eq_fetched 1 rfl (fun _ => rfl) (fun _ _ _ => rfl)
    (fun t => by rw [after_1]; unfold Dat.blockOf iblk; rw [A_eq]; try rfl) t d).trans (by unfold Dat.fetched Dat.blockOf iblk; rw [A_eq]; try rfl)
theorem before_2 (c : Dev nD) (t : Fin (cfgM m hO).N) (d) : (dats hO 0 c).before 2 t d = iblk hO c 2 t :=
  ((dats hO 0 c).before_in_eq_fetched 2 rfl (fun _ => rfl) (fun _ _ _ => rfl)
    (fun t => by rw [after_2]; unfold Dat.blockOf iblk; rw [A_eq]; try rfl) t d).trans (by unfold Dat.fetched Dat.blockOf iblk; rw [A_eq]; try rfl)

/-! ## The body obligation -/

/-- The result's window is stored at every point: one of the two branches is taken. -/
theorem idle_3 (i : grid0.Coords) (n : BitVec 32) : (!(k0_cond1 i n == 1#1) && !(k0_cond2 i n == 1#1)) = false := by
  by_cases h : k0_cond1 i n = 1#1
  · simp [h]
  · simp [(cond2_eq i n).mpr h]

/-- Each window's current staging buffer. -/
abbrev st (w : Fin 4) (t : Fin (cfgM m hO).N) := ((cfgM m hO).win w).stage ((cfgM m hO).slots t w)

/-- What the body is called with at a point, -/
def bodyPre (c : Dev nD) (t : Fin (cfgM m hO).N) : sProp 𝕄 :=
  iprop((dats hO 0 c).Φ t.castSucc ∗ (dats hO 0 c).owesAt () t.castSucc
    ∗ (∃ d, owns (c : Thread nD τ) (st hO 0 t) fullShare ((dats hO 0 c).before 0 t d))
    ∗ (∃ d, owns (c : Thread nD τ) (st hO 1 t) fullShare ((dats hO 0 c).before 1 t d))
    ∗ (∃ d, owns (c : Thread nD τ) (st hO 2 t) fullShare ((dats hO 0 c).before 2 t d))
    ∗ (∃ d, owns (c : Thread nD τ) (st hO 3 t) fullShare ((dats hO 0 c).before 3 t d)))
/-- and what it returns. -/
def bodyPost (c : Dev nD) (t : Fin (cfgM m hO).N) : sProp 𝕄 :=
  iprop((dats hO 0 c).Φ t.succ ∗ (dats hO 0 c).owesAt () t.succ
    ∗ owns (c : Thread nD τ) (st hO 0 t) fullShare ((dats hO 0 c).after 0 t)
    ∗ owns (c : Thread nD τ) (st hO 1 t) fullShare ((dats hO 0 c).after 1 t)
    ∗ owns (c : Thread nD τ) (st hO 2 t) fullShare ((dats hO 0 c).after 2 t)
    ∗ owns (c : Thread nD τ) (st hO 3 t) fullShare ((dats hO 0 c).after 3 t))

/-- The body's call at a point. -/
abbrev bodyAt (t : Fin (cfgM m hO).N) : Prog (TpuEff nD τ sig (Elt F) Λ₀ .tc) PUnit :=
  defs₀ .tc (cfgM m hO).body ((cfgM m hO).bodyArgs t ((cfgM m hO).slots t))

/-- The body at any point. -/
theorem sound_body (c : Dev nD) (t : Fin (cfgM m hO).N) :
    bodyPre hO c t ⊢ wp frame (wpE (defs₀ (F := F)) Variants.none c none) Set.univ (bodyAt hO t) (fun _ => bodyPost hO c t) := by
  unfold bodyPre bodyPost bodyAt
  unfold defs₀
  rw [Defs.onTc_tc]
  simp only [before_0, before_1, before_2]
  rw [show (dats hO 0 c).Φ t.succ = (dats hO 0 c).Φ t.castSucc from rfl,
    show (dats hO 0 c).owesAt () t.succ = (dats hO 0 c).owesAt () t.castSucc from rfl,
    show (dats hO 0 c).Φ t.castSucc = iprop(Pipeline.ΦA spec0 c ∗ Pipeline.ΦT pre0 (tbl m) c) from rfl, PhiT_eq,
    after_0, after_1, after_2, after_3]
  iintro ⟨⟨HΦ, Ht0, Ht1⟩, Ho, ⟨%d0, H0⟩, ⟨%d1, H1⟩, ⟨%d2, H2⟩, ⟨%d3, H3⟩⟩
  iapply (sound_kernel c Set.univ (grid0.coords t) (tbl m 1) _ _ _ _ _ _ _ _ (iblk hO c 0 t) (iblk hO c 1 t) (iblk hO c 2 t) _)
  isplitl [Ht1]; · iexact Ht1
  isplitl [H0]; · iexact H0
  isplitl [H1]; · iexact H1
  isplitl [H2]; · iexact H2
  isplitl [H3]; · iexists _; iexact H3
  iintro ⟨Ht1, H0, H1, H2, H3⟩
  isplitl [HΦ Ht0 Ht1]
  · isplitl [HΦ]; · iexact HΦ
    isplitl [Ht0]; · iexact Ht0
    iexact Ht1
  isplitl [Ho]; · iexact Ho
  isplitl [H0]; · iexact H0
  isplitl [H1]; · iexact H1
  isplitl [H2]; · iexact H2
  iexact H3

/-- The library's body obligation, at every point. -/
theorem body_obligation (c : Dev nD) : BodyObligation (dats hO 0 c) (defs₀ (F := F)) Variants.none () Set.univ := fun t => by
  rw [bigSep_W0, bigSep_W0]
  refine triple_restated (sound_body hO c t) rfl .rfl fun _ => ?_
  unfold bodyPost
  refine sep_mono_right (sep_mono_right (sep_mono_right (sep_mono_right (sep_mono_right ?_))))
  split
  · rename_i h; exact absurd (show false = true from h) (by decide)
  · split
    · rename_i h; exact absurd (h.symm.trans (idle_3 (grid0.coords t) ((tbl m).atD 1 ![0]))) (by decide)
    · exact .rfl

/-! ## The run -/

theorem hmain : Pipeline.HMainP (Ix := Unit) (Name := ℕ) (U := UR sig nD τ) (Lvl := ℕ) pcfgs 0 defs₀ Variants.none m (main (F := F)) (V m) :=
  Pipeline.hmainP_region pcfgs 0 defs₀ Variants.none m main fun _ => rfl

set_option backward.isDefEq.respectTransparency.types false in
set_option maxHeartbeats 800000 in
/-- The run: every array at what the pipeline writes back, every other buffer as launched, every counter at zero. -/
theorem run_main : θ_run defs (onTc (τ := τ) (main (F := F))) (s₀ m ρ)
    (fun r => Pipeline.FramePost (Pipeline.pin pcfgs (adms m hO)) (dats hO) 0 (V m) r ∧ r.2.sem = fun _ => 0) :=
  Pipeline.θ_run_frameP (Q' := _) pcfgs (adms m hO) (dats hO) (0 : Fin 1) launch0 defs₀ Variants.none m ρ main
    (hbody := fun c => (body_obligation hO c).loose) (hshare := fun _ w => by match w with | ⟨0, _⟩ => rfl | ⟨1, _⟩ => rfl | ⟨2, _⟩ => rfl | ⟨3, _⟩ => rfl)
    (howed := fun _ _ => rfl) (V := V m) (hmain := hmain) (hA := A_eq hO) (hpf := V_pre m) (hΦ := fun _ _ => rfl)

end Cert.Proof.XI

end
-- ==== Proof.XI.Frame.lean ====
module

public import proofs.«01_k».proof.Defs
public import proofs.«01_k».proof.Proof.XI.Run
public import proofs.«01_k».proof.Proof.Gen.Experts
public import proofs.«01_k».proof.Proof.Gen.Pre_expert_ids
public import Idealize.ShloMosaic.Lib.ReduceAll

@[expose] public section

set_option maxRecDepth 16384

noncomputable section

namespace Cert.Proof.XI

open Cert.ExpertsIdeal Cert.ExpertsIdeal.Gen
open Idealize.ShloMosaic Idealize.ShloMosaic.TcCoe Idealize.ShloMosaic.Tactic
open Idealize.SL.Sem

variable {F : FTy → Type} [FloatOps F]

/-- The table's entry an index map reads at a grid point. -/
abbrev entry (i : grid0.Coords) : S160.Idx :=
  (Rect.unit (s := S160) ![(Scalar.indexCast (BitVec.ofNat 32 (i 0).val) : Index).toNat] S1.size (k0_off1_inb i)).emb
    (Shape.Idx.first (numel1_S1.symm ▸ Nat.one_pos))

/-- The precondition, read: every tile's expert is one of the thirty-two. -/
theorem expert_lt (a0 : IVec S2x81920x256 32) (a1 : IVec S160 32) (a2 : IVec S1 32) (a3 : FVec F S32x1024x512 .bf16)
    (a4 : FVec F S32x256x1024 .bf16) (h : Cert.Pre_expert_ids.fn (F := F) a0 a1 a2 a3 a4 = fun _ => 1#1) (y : S160.Idx) :
    (a1 y).toNat < 32 := by
  have andi_one (a b : BitVec 1) : IntOp.andi a b = 1#1 ↔ a = 1#1 ∧ b = 1#1 := by revert a b; decide
  have of_one (b : Bool) : BitVec.ofBool b = 1#1 ↔ b = true := by cases b <;> decide
  haveI : Subsingleton Cert.Pre_expert_ids.S_.Idx := ⟨fun a b => funext fun k => k.elim0⟩
  have e := Host.reduce_andi_all _ _ _ _ (fun k => k.elim0) (congrFun h (fun k => k.elim0)) y
  simp only [andi, cmpi, constantI, broadcastInDim, andi_one, IntOp.cmpi, of_one] at e
  obtain ⟨e1, e2⟩ := e
  simp only [BitVec.sle, BitVec.slt, decide_eq_true_eq] at e1 e2
  have e1 : (0 : Int) ≤ (a1 y).toInt := e1
  have e2 : (a1 y).toInt < 32 := e2
  have hc := BitVec.toInt_eq_toNat_cond (a1 y)
  have hl := (a1 y).isLt
  split at hc <;> omega

/-- Tables that name experts inside the weights satisfy the region's condition. -/
theorem ok_of_lt (pf : pre0.Contents (Elt F)) (h : ∀ i : grid0.Coords, ((pf 0 : IVec S160 32) (entry i)).toNat < 32) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩⟩
  · have := h i
    match a with
    | ⟨0, _⟩ => show (((pf 0 : IVec S160 32) (entry i)).toNat + 1) * 1 ≤ 32; omega
    | ⟨1, _⟩ => exact Nat.le_refl 1024
    | ⟨2, _⟩ => exact Nat.le_refl 512
  · have := h i
    match a with
    | ⟨0, _⟩ => show (((pf 0 : IVec S160 32) (entry i)).toNat + 1) * 1 ≤ 32; omega
    | ⟨1, _⟩ => exact Nat.le_refl 256
    | ⟨2, _⟩ => exact Nat.le_refl 1024

/-- What the run leaves of the arguments: every one as launched, and the counters at zero. -/
theorem args_kept {m : (ℓ : Loc nD τ sig) → Buf (Elt F) ℓ} (hO : Ok m) {r : PUnit × MemSt nD τ sig (Elt F)}
    (h : Pipeline.FramePost (Pipeline.pin pcfgs (adms m hO)) (dats hO) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 0).trans ((dats hO 0 c).arrAt_in 0 rfl _), (h c).2 main_arg1 (Pipeline.mem_restRefs_of main_arg1 (by decide) (show ∀ w : Fin 4, (spec0 w).arr.view.ref ≠ main_arg1 by decide)),
    (h c).2 main_arg2 (Pipeline.mem_restRefs_of main_arg2 (by decide) (show ∀ w : Fin 4, (spec0 w).arr.view.ref ≠ main_arg2 by decide)),
    ((h c).1 1).trans ((dats hO 0 c).arrAt_in 1 rfl _), ((h c).1 2).trans ((dats hO 0 c).arrAt_in 2 rfl _)⟩

/-- The precondition gives the region's condition, at the reals' instance and at the bits'. -/
theorem ok_ideal (m : (ℓ : Loc nD τ sig) → Buf (Elt Ideal) ℓ) (h : Cert.Pre_ExpertsIdeal m) : Ok m :=
  ok_of_lt (tbl m) fun i => expert_lt _ _ _ _ _ (h 0) (entry i)
theorem ok_bits (m : (ℓ : Loc nD τ sig) → Buf (Elt Bits) ℓ) (h : Cert.Pre_Experts m) : Ok m :=
  ok_of_lt (tbl m) fun i => expert_lt _ _ _ _ _ (h 0) (entry i)

/-- What a run leaves, at tables the region takes. -/
theorem frame_of {m : (ℓ : Loc nD τ sig) → Buf (Elt F) ℓ} (ρ : Dev nD → PrngReg) (hO : Ok m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run (defs (F := F)) _ _).mono (fun _ h => ⟨args_kept _ h.1, h.2⟩) (run_main ρ hO)

/-- The frame of the program read at the extended reals. -/
theorem frame : Cert.quiescent_ExpertsIdeal := fun m g h => frame_of g (ok_ideal m h)

end Cert.Proof.XI

end
-- ==== Proof.XI.Bits.lean ====
module
public import proofs.«01_k».proof.Proof.XI.Frame
@[expose] public section
set_option maxRecDepth 16384
noncomputable section
namespace Cert.Proof.XI
open Idealize.ShloMosaic Idealize.ShloMosaic.TcCoe Idealize.ShloMosaic.Tactic
/-- The two programs' bodies are one: their texts are equal. -/
theorem defs₀_eq : @Cert.Experts.defs₀ Bits _ _ = @Cert.ExpertsIdeal.defs₀ Bits _ _ := by
  unfold Cert.Experts.defs₀ Cert.ExpertsIdeal.defs₀
  refine congrArg Defs.onTc (funext fun l => funext fun a => ?_)
  match l, a with
  | ⟨0, _⟩, (_, _) => rfl
theorem defs_eq : @Cert.Experts.defs Bits _ _ = @Cert.ExpertsIdeal.defs Bits _ _ :=
  congrArg (Pipeline.defs (Cert.ExpertsIdeal.pcfgs (F := Bits))) defs₀_eq
/-- The frame of the program read at bits: the two programs have one text, so it is the same run. -/
theorem frame_bits : Cert.quiescent_Experts := fun m g h => by
  have e := frame_of (F := Bits) g (ok_bits m h)
  rw [← defs_eq] at e
  exact e
end Cert.Proof.XI
end
-- ==== Proof.XR.Spec.lean ====
/- One row through one expert, over the extended reals: the mathematics the kernel's tiles and the reference share. -/
module

public import Idealize.ShloMosaic.Lib.Pointwise

@[expose] public section

noncomputable section

namespace Cert.Proof.XR

open Idealize.ShloMosaic

/-- A word's two halves, each a float's upper half. -/
def lo (w : BitVec 32) : EReal := Ideal.ofBits .f32 (IntOp.shli .host w 16#32)
def hi (w : BitVec 32) : EReal := Ideal.ofBits .f32 (IntOp.andi w 4294901760#32)

/-- A row's elements from its two planes of words: the low halves of the first, of the second, then the high halves. -/
def rowEl (p q : Fin 256 → BitVec 32) (k : Fin 1024) : EReal :=
  if h : k.val < 256 then lo (p ⟨k.val, h⟩)
  else if h : k.val < 512 then lo (q ⟨k.val - 256, by omega⟩)
  else if h : k.val < 768 then hi (p ⟨k.val - 512, by omega⟩)
  else hi (q ⟨k.val - 768, by omega⟩)

/-- A row's product with a column of weights. -/
def proj (x w : Fin 1024 → EReal) : EReal := ∑ k : Fin 1024, x k * w k

/-- The gated hidden value of a gate's and an up value. -/
def gated (g u : EReal) : EReal := g * Ideal.div 1 (1 + Ideal.exp (-g)) * u

/-- A row through an expert: its output's element `d`. -/
def ffn (x : Fin 1024 → EReal) (wg : Fin 1024 → Fin 512 → EReal) (wd : Fin 256 → Fin 1024 → EReal) (d : Fin 1024) : EReal :=
  ∑ f : Fin 256, gated (proj x fun k => wg k ⟨f.val, by omega⟩) (proj x fun k => wg k ⟨256 + f.val, by omega⟩) * wd f d

/-- The row's four quarters. -/
theorem rowEl_0 (p q : Fin 256 → BitVec 32) (c : Fin 256) : rowEl p q ⟨c.val, by omega⟩ = lo (p c) := dif_pos c.isLt
theorem rowEl_1 (p q : Fin 256 → BitVec 32) (c : Fin 256) : rowEl p q ⟨256 + c.val, by omega⟩ = lo (q c) := by
  have hc := c.isLt
  unfold rowEl
  rw [dif_neg (show ¬ 256 + c.val < 256 by omega), dif_pos (show 256 + c.val < 512 by omega)]
  exact congrArg (fun j => lo (q j)) (Fin.ext (show 256 + c.val - 256 = c.val by omega))
theorem rowEl_2 (p q : Fin 256 → BitVec 32) (c : Fin 256) : rowEl p q ⟨512 + c.val, by omega⟩ = hi (p c) := by
  have hc := c.isLt
  unfold rowEl
  rw [dif_neg (show ¬ 512 + c.val < 256 by omega), dif_neg (show ¬ 512 + c.val < 512 by omega), dif_pos (show 512 + c.val < 768 by omega)]
  exact congrArg (fun j => hi (p j)) (Fin.ext (show 512 + c.val - 512 = c.val by omega))
theorem rowEl_3 (p q : Fin 256 → BitVec 32) (c : Fin 256) : rowEl p q ⟨768 + c.val, by omega⟩ = hi (q c) := by
  have hc := c.isLt
  unfold rowEl
  rw [dif_neg (show ¬ 768 + c.val < 256 by omega), dif_neg (show ¬ 768 + c.val < 512 by omega), dif_neg (show ¬ 768 + c.val < 768 by omega)]
  exact congrArg (fun j => hi (q j)) (Fin.ext (show 768 + c.val - 768 = c.val by omega))

/-- A product over a row, by its four quarters. -/
theorem proj_rowEl (p q : Fin 256 → BitVec 32) (w : Fin 1024 → EReal) :
    proj (rowEl p q) w = (∑ c : Fin 256, lo (p c) * w ⟨c.val, by omega⟩) + (∑ c : Fin 256, lo (q c) * w ⟨256 + c.val, by omega⟩)
      + (∑ c : Fin 256, hi (p c) * w ⟨512 + c.val, by omega⟩) + ∑ c : Fin 256, hi (q c) * w ⟨768 + c.val, by omega⟩ := by
  unfold proj
  rw [show (∑ k : Fin 1024, rowEl p q k * w k) = ∑ k : Fin (256 + 256 + 256 + 256), rowEl p q k * w k from rfl,
    Fin.sum_univ_add, Fin.sum_univ_add, Fin.sum_univ_add]
  refine congrArg₂ _ (congrArg₂ _ (congrArg₂ _ ?_ ?_) ?_) ?_ <;> refine Finset.sum_congr rfl fun c _ => congrArg₂ _ ?_ rfl
  · exact rowEl_0 p q c
  · exact rowEl_1 p q c
  · exact rowEl_2 p q c
  · exact rowEl_3 p q c

/-- A sum with the weight one at one term and zero at the others is that term. -/
theorem sum_pick {n : ℕ} (P : Prop) [Decidable P] (e₀ : Fin n) (y : Fin n → EReal) :
    (∑ e : Fin n, (if e = e₀ ∧ P then (1 : EReal) else 0) * y e) = if P then y e₀ else 0 := by
  by_cases h : P
  · rw [if_pos h, Finset.sum_eq_single e₀]
    · rw [if_pos ⟨rfl, h⟩, one_mul]
    · intro e _ he
      rw [if_neg (fun hh => he hh.1), zero_mul]
    · intro hh; exact absurd (Finset.mem_univ _) hh
  · rw [if_neg h]
    exact Finset.sum_eq_zero fun e _ => by rw [if_neg (fun hh => h hh.2), zero_mul]

end Cert.Proof.XR

end
-- ==== Proof.XI.Tile.lean ====
/- What the body leaves in the result's block, read at an index over the extended reals: a row of the tile through the
   tile's expert. -/
module

public import proofs.«01_k».proof.Proof.XI.Run
public import proofs.«01_k».proof.Proof.XR.Spec

@[expose] public section

set_option maxRecDepth 16384

noncomputable section

namespace Cert.Proof.XI

open Cert.ExpertsIdeal Cert.ExpertsIdeal.Gen
open Idealize.ShloMosaic Idealize.ShloMosaic.TcCoe Idealize.ShloMosaic.Tactic
open Cert.Proof.XR (lo hi rowEl proj gated ffn)

theorem pay4_apply (a b : Vec Ideal S1x512x256 .i32) (g0 g1 g2 : Vec Ideal S1x256x512 .bf16) (i j : Fin 512) :
    k0_pay4 (F := Ideal) a b g0 g1 g2 (ix2 i j) = (∑ c : Fin 256, lo (a (ix3 0 i c)) * g0 (ix3 0 c j)) + (∑ c : Fin 256, lo (b (ix3 0 i c)) * g1 (ix3 0 c j))
      + ∑ c : Fin 256, hi (a (ix3 0 i c)) * g2 (ix3 0 c j) := by
  pointwise [k0_pay4, k0_pay3]
  rfl

theorem pay5_apply (b : Vec Ideal S1x512x256 .i32) (g3 : Vec Ideal S1x256x512 .bf16) (i j : Fin 512) :
    k0_pay5 (F := Ideal) b g3 (ix2 i j) = ∑ c : Fin 256, hi (b (ix3 0 i c)) * g3 (ix3 0 c j) := by
  pointwise [k0_pay5, k0_pay3]
  rfl

theorem pay6_apply (p q : FVec Ideal S512x512 .f32) (d : Vec Ideal S1x256x1024 .bf16) (i : Fin 512) (k : Fin 1024) :
    k0_pay6 (F := Ideal) p q d (ix2 i k) = ∑ f : Fin 256, gated (p (ix2 i ⟨f.val, by omega⟩) + q (ix2 i ⟨f.val, by omega⟩))
      (p (ix2 i ⟨256 + f.val, by omega⟩) + q (ix2 i ⟨256 + f.val, by omega⟩)) * d (ix3 0 f k) := by
  pointwise [k0_pay6]
  refine Finset.sum_congr rfl fun f _ => ?_
  rw [zero_sub]
  rfl

theorem pay7_apply (p q : FVec Ideal S512x512 .f32) (d : Vec Ideal S1x256x1024 .bf16) (i : Fin 512) (l : Fin 256) :
    k0_pay7 (F := Ideal) p q d (ix4 0 0 i l) = k0_pay6 (F := Ideal) p q d (ix2 i ⟨l.val, by omega⟩) := by
  pointwise [k0_pay7]
theorem pay8_apply (p q : FVec Ideal S512x512 .f32) (d : Vec Ideal S1x256x1024 .bf16) (i : Fin 512) (l : Fin 256) :
    k0_pay8 (F := Ideal) p q d (ix4 0 0 i l) = k0_pay6 (F := Ideal) p q d (ix2 i ⟨512 + l.val, by omega⟩) := by
  pointwise [k0_pay8]
theorem pay9_apply (p q : FVec Ideal S512x512 .f32) (d : Vec Ideal S1x256x1024 .bf16) (i : Fin 512) (l : Fin 256) :
    k0_pay9 (F := Ideal) p q d (ix4 0 0 i l) = k0_pay6 (F := Ideal) p q d (ix2 i ⟨256 + l.val, by omega⟩) := by
  pointwise [k0_pay9]
theorem pay10_apply (p q : FVec Ideal S512x512 .f32) (d : Vec Ideal S1x256x1024 .bf16) (i : Fin 512) (l : Fin 256) :
    k0_pay1 (F := Ideal) (k0_pay10 (F := Ideal) p q d) (ix4 0 0 i l) = k0_pay6 (F := Ideal) p q d (ix2 i ⟨768 + l.val, by omega⟩) := by
  pointwise [k0_pay1, k0_pay10]
theorem pay2_apply (y : S2x2x512x256.Idx) : k0_pay2 (F := Ideal) y = 0 := by
  unfold k0_pay2
  exact Ideal.ofBits_zero_bf16

/-! ## Where the loads read and the stores write -/

theorem ld_x0 (x : Vec Ideal S2x512x256 .i32) (i : Fin 512) (c : Fin 256) : View.ld x rx0 (ix3 0 i c) = x (ix3 0 i c) := by
  refine congrArg x (funext fun a => ?_)
  fin_cases a <;> exact Fin.ext (by simp [LoadRect.idx, Rect.unit, Rect.toLoadRect, ix3])
theorem ld_x1 (x : Vec Ideal S2x512x256 .i32) (i : Fin 512) (c : Fin 256) : View.ld x rx1 (ix3 0 i c) = x (ix3 1 i c) := by
  refine congrArg x (funext fun a => ?_)
  fin_cases a <;> exact Fin.ext (by simp [LoadRect.idx, Rect.unit, Rect.toLoadRect, ix3])
theorem ld_g0 (g : Vec Ideal S1x1024x512 .bf16) (c : Fin 256) (j : Fin 512) : View.ld g rg0 (ix3 0 c j) = g (ix3 0 ⟨c.val, by omega⟩ j) := by
  refine congrArg g (funext fun a => ?_)
  fin_cases a <;> exact Fin.ext (by simp [LoadRect.idx, Rect.unit, Rect.toLoadRect, ix3])
theorem ld_g1 (g : Vec Ideal S1x1024x512 .bf16) (c : Fin 256) (j : Fin 512) : View.ld g rg1 (ix3 0 c j) = g (ix3 0 ⟨256 + c.val, by omega⟩ j) := by
  refine congrArg g (funext fun a => ?_)
  fin_cases a <;> exact Fin.ext (by simp [LoadRect.idx, Rect.unit, Rect.toLoadRect, ix3])
theorem ld_g2 (g : Vec Ideal S1x1024x512 .bf16) (c : Fin 256) (j : Fin 512) : View.ld g rg2 (ix3 0 c j) = g (ix3 0 ⟨512 + c.val, by omega⟩ j) := by
  refine congrArg g (funext fun a => ?_)
  fin_cases a <;> exact Fin.ext (by simp [LoadRect.idx, Rect.unit, Rect.toLoadRect, ix3])
theorem ld_g3 (g : Vec Ideal S1x1024x512 .bf16) (c : Fin 256) (j : Fin 512) : View.ld g rg3 (ix3 0 c j) = g (ix3 0 ⟨768 + c.val, by omega⟩ j) := by
  refine congrArg g (funext fun a => ?_)
  fin_cases a <;> exact Fin.ext (by simp [LoadRect.idx, Rect.unit, Rect.toLoadRect, ix3])
theorem ld_d (d : Vec Ideal S1x256x1024 .bf16) (f : Fin 256) (k : Fin 1024) : View.ld d rd (ix3 0 f k) = d (ix3 0 f k) := by
  refine congrArg d (funext fun a => ?_)
  fin_cases a <;> exact Fin.ext (by simp [LoadRect.idx, Rect.unit, Rect.toLoadRect, ix3])

theorem emb_00 (i : Fin 512) (l : Fin 256) : ry00.idx (ix4 0 0 i l) = ix4 0 0 i l := by
  funext a
  fin_cases a <;> exact Fin.ext (by simp [LoadRect.idx, Rect.unit, Rect.toLoadRect, ix4])
theorem emb_10 (i : Fin 512) (l : Fin 256) : ry10.idx (ix4 0 0 i l) = ix4 1 0 i l := by
  funext a
  fin_cases a <;> exact Fin.ext (by simp [LoadRect.idx, Rect.unit, Rect.toLoadRect, ix4])
theorem emb_01 (i : Fin 512) (l : Fin 256) : ry01.idx (ix4 0 0 i l) = ix4 0 1 i l := by
  funext a
  fin_cases a <;> exact Fin.ext (by simp [LoadRect.idx, Rect.unit, Rect.toLoadRect, ix4])
theorem emb_11 (i : Fin 512) (l : Fin 256) : ry11.idx (ix4 0 0 i l) = ix4 1 1 i l := by
  funext a
  fin_cases a <;> exact Fin.ext (by simp [LoadRect.idx, Rect.unit, Rect.toLoadRect, ix4])

/-! ## The block -/

/-- Row `i` of a tile of words. -/
abbrev xrow (x : Vec Ideal S2x512x256 .i32) (i : Fin 512) : Fin 1024 → EReal := rowEl (fun c => x (ix3 0 i c)) (fun c => x (ix3 1 i c))

/-- The two sums the body adds are the row's product with a column of the fused weights. -/
theorem up_apply (x : Vec Ideal S2x512x256 .i32) (g : Vec Ideal S1x1024x512 .bf16) (i j : Fin 512) :
    up3 x g (ix2 i j) + up1 x g (ix2 i j) = proj (xrow x i) fun k => g (ix3 0 k j) := by
  rw [Cert.Proof.XR.proj_rowEl]
  unfold up3 up1
  rw [pay4_apply, pay5_apply]
  refine congrArg₂ _ (congrArg₂ _ (congrArg₂ _ ?_ ?_) ?_) ?_ <;> refine Finset.sum_congr rfl fun c _ => ?_
  · exact congrArg₂ (· * ·) (congrArg lo (ld_x0 x i c)) (ld_g0 g c j)
  · exact congrArg₂ (· * ·) (congrArg lo (ld_x1 x i c)) (ld_g1 g c j)
  · exact congrArg₂ (· * ·) (congrArg hi (ld_x0 x i c)) (ld_g2 g c j)
  · exact congrArg₂ (· * ·) (congrArg hi (ld_x1 x i c)) (ld_g3 g c j)

/-- The rows the body makes. -/
theorem ffn_apply (x : Vec Ideal S2x512x256 .i32) (g : Vec Ideal S1x1024x512 .bf16) (d : Vec Ideal S1x256x1024 .bf16) (i : Fin 512) (k : Fin 1024) :
    k0_pay6 (F := Ideal) (up3 x g) (up1 x g) (View.ld d rd) (ix2 i k)
      = ffn (xrow x i) (fun k f => g (ix3 0 k f)) (fun f d' => d (ix3 0 f d')) k := by
  rw [pay6_apply]
  refine Finset.sum_congr rfl fun f _ => ?_
  rw [up_apply, up_apply, ld_d]

/-- A row's element at an index of the block: plane, half, row and column. -/
def elAt (x : Vec Ideal S2x512x256 .i32) (g : Vec Ideal S1x1024x512 .bf16) (d : Vec Ideal S1x256x1024 .bf16) (y : S2x2x512x256.Idx) : EReal :=
  ffn (xrow x (y 2)) (fun k f => g (ix3 0 k f)) (fun f d' => d (ix3 0 f d'))
    ⟨(y 0).val * 512 + (y 1).val * 256 + (y 3).val, by
      have h0 : (y 0).val < 2 := (y 0).isLt
      have h1 : (y 1).val < 2 := (y 1).isLt
      have h3 : (y 3).val < 256 := (y 3).isLt
      omega⟩

/-- What the body leaves in the result's block, at an index. -/
theorem out_apply (i : grid0.Coords) (n : BitVec 32) (x : Vec Ideal S2x512x256 .i32) (g : Vec Ideal S1x1024x512 .bf16) (d : Vec Ideal S1x256x1024 .bf16)
    (y : S2x2x512x256.Idx) : out (F := Ideal) i n x g d y = if k0_cond1 i n = 1#1 then elAt x g d y else 0 := by
  unfold out
  split
  · refine View.canon_apply_of_pieces (Val := Elt Ideal) (e := .bf16) (elAt x g d) _ (fun p hp z => ?_) y (cover_rows _ _ _ _ y)
    simp only [rowPieces, List.mem_cons, List.not_mem_nil, or_false] at hp
    rcases hp with rfl | rfl | rfl | rfl <;> idx_vars z <;> (obtain rfl : z0 = 0 := Subsingleton.elim _ _) <;> (obtain rfl : z1 = 0 := Subsingleton.elim _ _)
    · exact (pay10_apply _ _ _ _ _).trans ((ffn_apply _ _ _ _ _).trans (congrArg (elAt x g d) (emb_11 z2 z3)).symm)
    · exact (pay9_apply _ _ _ _ _).trans ((ffn_apply _ _ _ _ _).trans (congrArg (elAt x g d) (emb_01 z2 z3)).symm)
    · exact (pay8_apply _ _ _ _ _).trans ((ffn_apply _ _ _ _ _).trans (congrArg (elAt x g d) (emb_10 z2 z3)).symm)
    · refine (pay7_apply _ _ _ _ _).trans ((ffn_apply _ _ _ _ _).trans ?_)
      refine Eq.trans ?_ (congrArg (elAt x g d) (emb_00 z2 z3)).symm
      exact congrArg (ffn (xrow x z2) (fun k f => g (ix3 0 k f)) (fun f d' => d (ix3 0 f d'))) (Fin.ext (show z3.val = 0 * 512 + 0 * 256 + z3.val by omega))
  · exact View.canon_apply_of_pieces (Val := Elt Ideal) (e := .bf16) (fun _ => (0 : EReal)) _ (fun p hp z => by
      obtain rfl := List.mem_singleton.mp hp
      exact pay2_apply z) y (cover_all _ y)

end Cert.Proof.XI

end
-- ==== Proof.XR.Value.lean ====
/- The experts' reference, named piece by piece, and each piece read at an index. -/
module

public import proofs.«01_k».proof.Proof.Gen.PlainExpertsIdeal.Run
public import proofs.«01_k».proof.Proof.XR.Spec

@[expose] public section

set_option maxRecDepth 16384

noncomputable section

namespace Cert.Proof.XR

open Cert.PlainExpertsIdeal Cert.PlainExpertsIdeal.Gen
open Idealize.ShloMosaic Idealize.ShloMosaic.TcCoe Idealize.ShloMosaic.Tactic

section Terms
variable {F : FTy → Type} [FloatOps F]

/-- The low halves of the words, and the high ones, as floats. -/
def lows (w : IVec S2x81920x256 32) : FVec F S2x81920x256 .f32 :=
  bitcastToFloat (F := F) .f32 (Host.shli w (broadcastInDim S2x81920x256 ![] bcast_S_S2x81920x256 (constantI S_ 32 16#32)))
def highs (w : IVec S2x81920x256 32) : FVec F S2x81920x256 .f32 :=
  bitcastToFloat (F := F) .f32 (andi w (broadcastInDim S2x81920x256 ![] bcast_S_S2x81920x256 (constantI S_ 32 4294901760#32)))

/-- The four planes of a pair of arrays of halves. -/
def plane0 (x : FVec F S2x81920x256 .f32) : FVec F S81920x256 .f32 :=
  shapeCast _ (extractStridedSlice S1x81920x256 ![0, 0, 0] x slices_S2x81920x256_S1x81920x256_0_0_0) shapeCasts_S1x81920x256_S81920x256
def plane1 (x : FVec F S2x81920x256 .f32) : FVec F S81920x256 .f32 :=
  shapeCast _ (extractStridedSlice S1x81920x256 ![1, 0, 0] x slices_S2x81920x256_S1x81920x256_1_0_0) shapeCasts_S1x81920x256_S81920x256

/-- The rows, tile by tile. -/
def rows (w : IVec S2x81920x256 32) : FVec F S160x512x1024 .f32 :=
  shapeCast _ (Value.fn_main_v14 (F := F) (plane0 (lows w)) (plane1 (lows w)) (plane0 (highs w)) (plane1 (highs w)))
    shapeCasts_S81920x1024_S160x512x1024

/-- Every row's gate and up projections by every expert. -/
def gate (x : FVec F S160x512x1024 .f32) (w : FVec F S32x1024x512 .bf16) : FVec F S160x512x32x256 .f32 :=
  Host.dotGeneral dot_S160x512x1024_S32x1024x256_S160x512x32x256_2_1_01_02_n_n none x
    (extractStridedSlice S32x1024x256 ![0, 0, 0] (extf .f32 w bitsLt_bf16_f32) slices_S32x1024x512_S32x1024x256_0_0_0)
def up (x : FVec F S160x512x1024 .f32) (w : FVec F S32x1024x512 .bf16) : FVec F S160x512x32x256 .f32 :=
  Host.dotGeneral dot_S160x512x1024_S32x1024x256_S160x512x32x256_2_1_01_02_n_n none x
    (extractStridedSlice S32x1024x256 ![0, 0, 256] (extf .f32 w bitsLt_bf16_f32) slices_S32x1024x512_S32x1024x256_0_0_256)

/-- The gated hidden values. -/
def hidden (g u : FVec F S160x512x32x256 .f32) : FVec F S160x512x32x256 .f32 :=
  mulf (mulf g (Host.divf (broadcastInDim S160x512x32x256 ![] bcast_S_S160x512x32x256 (constant S_ .f32 0x3F800000#32))
    (addf (broadcastInDim S160x512x32x256 ![] bcast_S_S160x512x32x256 (constant S_ .f32 0x3F800000#32)) (Host.exp (Host.negf g))))) u

/-- Every row by every expert. -/
def outs (h : FVec F S160x512x32x256 .f32) (w : FVec F S32x256x1024 .bf16) : FVec F S160x512x32x1024 .f32 :=
  transpose S160x512x32x1024 [2, 3, 0, 1] (Host.dotGeneral dot_S32x256x1024_S160x512x32x256_S32x1024x160x512_1_3_2_01_0_2 none
    (extf .f32 w bitsLt_bf16_f32) h) transposes_S32x1024x160x512_S160x512x32x1024_2_3_0_1

/-- The experts' weights, tile by tile: one for the tile's own expert where the tile holds rows, zero otherwise. -/
def picks (te : IVec S160 32) (n : IVec S1 32) : FVec F S160x32 .f32 :=
  select (andi (cmpi .eq (broadcastInDim S160x32 ![0, 1] bcast_S160x1_S160x32_0_1 (broadcastInDim S160x1 ![0] bcast_S160_S160x1_0 te))
      (broadcastInDim S160x32 ![0, 1] bcast_S1x32_S160x32_0_1 (broadcastInDim S1x32 ![1] bcast_S32_S1x32_1 (iotaInDim S32 32 0))))
    (broadcastInDim S160x32 ![0, 1] bcast_S160x1_S160x32_0_1 (cmpi .slt (broadcastInDim S160x1 ![0] bcast_S160_S160x1_0 (iotaInDim S160 32 0))
      (broadcastInDim S160x1 ![] bcast_S_S160x1 (shapeCast _ n shapeCasts_S1_S_)))))
    (broadcastInDim S160x32 ![] bcast_S_S160x32 (constant S_ .f32 0x3F800000#32))
    (broadcastInDim S160x32 ![] bcast_S_S160x32 (constant S_ .f32 0x00000000#32))

/-- The result: each tile's rows by the tile's weights, in planes. -/
def result (p : FVec F S160x32 .f32) (o : FVec F S160x512x32x1024 .f32) : FVec F S2x2x81920x256 .bf16 :=
  truncf .bf16 (transpose S2x2x81920x256 [1, 2, 0, 3] (shapeCast _ (Host.dotGeneral dot_S160x32_S160x512x32x1024_S160x512x1024_1_2_n_13_0_0 none p o)
    shapeCasts_S160x512x1024_S81920x2x2x256) transposes_S81920x2x2x256_S2x2x81920x256_1_2_0_3) bitsLt_bf16_f32

/-- The reference's result, as the pieces compose it. -/
theorem res_eq (m : (ℓ : Loc nD τ sig) → Buf (Elt F) ℓ) (c : Dev nD) :
    Value.res_main_v44 m c = result (picks (m ((c.tc : Thread nD τ).loc main_arg1)) (m ((c.tc : Thread nD τ).loc main_arg2)))
      (outs (hidden (gate (rows (m ((c.tc : Thread nD τ).loc main_arg0))) (m ((c.tc : Thread nD τ).loc main_arg3)))
        (up (rows (m ((c.tc : Thread nD τ).loc main_arg0))) (m ((c.tc : Thread nD τ).loc main_arg3)))) (m ((c.tc : Thread nD τ).loc main_arg4))) := by
  unfold Value.res_main_v44 result picks outs hidden gate up rows plane0 plane1 lows highs Value.fn_main_v14
  rfl

end Terms

theorem plane0_apply (x : FVec Ideal S2x81920x256 .f32) (r : Fin 81920) (k : Fin 256) : plane0 x (ix2 r k) = x (ix3 0 r k) := by
  pointwise [plane0]
theorem plane1_apply (x : FVec Ideal S2x81920x256 .f32) (r : Fin 81920) (k : Fin 256) : plane1 x (ix2 r k) = x (ix3 1 r k) := by
  pointwise [plane1]

theorem lows_apply (w : IVec S2x81920x256 32) (p : Fin 2) (r : Fin 81920) (k : Fin 256) :
    lows (F := Ideal) w (ix3 p r k) = lo (w (ix3 p r k)) := by
  pointwise [lows]; rfl
theorem highs_apply (w : IVec S2x81920x256 32) (p : Fin 2) (r : Fin 81920) (k : Fin 256) :
    highs (F := Ideal) w (ix3 p r k) = hi (w (ix3 p r k)) := by
  pointwise [highs]; rfl

theorem gate_apply (x : FVec Ideal S160x512x1024 .f32) (w : FVec Ideal S32x1024x512 .bf16) (t : Fin 160) (i : Fin 512) (e : Fin 32) (f : Fin 256) :
    gate x w (ix4 t i e f) = ∑ k : Fin 1024, x (ix3 t i k) * w (ix3 e k ⟨f.val, by omega⟩) := by
  pointwise [gate]
theorem up_apply (x : FVec Ideal S160x512x1024 .f32) (w : FVec Ideal S32x1024x512 .bf16) (t : Fin 160) (i : Fin 512) (e : Fin 32) (f : Fin 256) :
    up x w (ix4 t i e f) = ∑ k : Fin 1024, x (ix3 t i k) * w (ix3 e k ⟨256 + f.val, by omega⟩) := by
  pointwise [up]

theorem hidden_apply (g u : FVec Ideal S160x512x32x256 .f32) (t : Fin 160) (i : Fin 512) (e : Fin 32) (f : Fin 256) :
    hidden g u (ix4 t i e f) = g (ix4 t i e f) * Ideal.div 1 (1 + Ideal.exp (-(g (ix4 t i e f)))) * u (ix4 t i e f) := by
  pointwise [hidden]

theorem outs_apply (h : FVec Ideal S160x512x32x256 .f32) (w : FVec Ideal S32x256x1024 .bf16) (t : Fin 160) (i : Fin 512) (e : Fin 32) (d : Fin 1024) :
    outs h w (ix4 t i e d) = ∑ f : Fin 256, w (ix3 e f d) * h (ix4 t i e f) := by
  pointwise [outs]

theorem picks_apply (te : IVec S160 32) (n : IVec S1 32) (t : Fin 160) (e : Fin 32) :
    picks (F := Ideal) te n (ix2 t e) = if te (ix1 t) = BitVec.ofNat 32 e.val ∧ IntOp.cmpi .slt (BitVec.ofNat 32 t.val) (n (ix1 0)) = 1#1 then 1 else 0 := by
  have andi_one (a b : BitVec 1) : IntOp.andi a b = 1#1 ↔ a = 1#1 ∧ b = 1#1 := by revert a b; decide
  pointwise [picks]
  refine if_congr ((andi_one _ _).trans (and_congr ?_ Iff.rfl)) rfl rfl
  have h : ∀ b : Bool, BitVec.ofBool b = 1#1 ↔ b = true := by decide
  exact (h _).trans beq_iff_eq

theorem result_apply (p : FVec Ideal S160x32 .f32) (o : FVec Ideal S160x512x32x1024 .f32) (a b : Fin 2) (t : Fin 160) (i : Fin 512) (l : Fin 256) :
    result p o (ix4 a b ⟨t.val * 512 + i.val, by omega⟩ l) = ∑ e : Fin 32, p (ix2 t e) * o (ix4 t i e ⟨a.val * 512 + b.val * 256 + l.val, by omega⟩) := by
  pointwise [result]

theorem rows_apply (w : IVec S2x81920x256 32) (t : Fin 160) (i : Fin 512) (k : Fin 1024) :
    rows (F := Ideal) w (ix3 t i k) = rowEl (fun c => w (ix3 0 ⟨t.val * 512 + i.val, by omega⟩ c))
      (fun c => w (ix3 1 ⟨t.val * 512 + i.val, by omega⟩ c)) k := by
  pointwise [rows, Value.fn_main_v14, plane0_apply, plane1_apply, lows_apply, highs_apply]
  unfold rowEl
  split
  · rfl
  · rw [dite_congr (show (k.val - 256 < 256) = (k.val < 512) from propext (by omega)) (fun _ => rfl) (fun _ => rfl)]
    split
    · rfl
    · rw [dite_congr (show (k.val - 256 - 256 < 256) = (k.val < 768) from propext (by omega)) (fun _ => rfl) (fun _ => rfl)]
      split
      · exact congrArg (fun j => hi (w (ix3 0 _ j))) (Fin.ext (show k.val - 256 - 256 = k.val - 512 by omega))
      · exact congrArg (fun j => hi (w (ix3 1 _ j))) (Fin.ext (show k.val - 256 - 256 - 256 = k.val - 768 by omega))

/-- The tile's row `i`, and the tile's expert. -/
def tileRow (w : IVec S2x81920x256 32) (t : Fin 160) (i : Fin 512) : Fin 1024 → EReal :=
  rowEl (fun c => w (ix3 0 ⟨t.val * 512 + i.val, by omega⟩ c)) (fun c => w (ix3 1 ⟨t.val * 512 + i.val, by omega⟩ c))
def expert (te : IVec S160 32) (t : Fin 160) : Fin 32 := ⟨(te (ix1 t)).toNat % 32, by omega⟩
/-- Whether tile `t` holds rows. -/
abbrev Holds (n : IVec S1 32) (t : Fin 160) : Prop := IntOp.cmpi .slt (BitVec.ofNat 32 t.val) (n (ix1 0)) = 1#1

/-- The result's element: the tile's row through the tile's expert, zero where the tile holds none. -/
def outEl (w : IVec S2x81920x256 32) (te : IVec S160 32) (n : IVec S1 32) (wg : FVec Ideal S32x1024x512 .bf16) (wd : FVec Ideal S32x256x1024 .bf16)
    (t : Fin 160) (i : Fin 512) (d : Fin 1024) : EReal :=
  if Holds n t then ffn (tileRow w t i) (fun k f => wg (ix3 (expert te t) k f)) (fun f d => wd (ix3 (expert te t) f d)) d else 0

/-- The reference's element. -/
theorem value_apply (w : IVec S2x81920x256 32) (te : IVec S160 32) (n : IVec S1 32) (wg : FVec Ideal S32x1024x512 .bf16) (wd : FVec Ideal S32x256x1024 .bf16)
    (hte : ∀ y, (te y).toNat < 32) (a b : Fin 2) (t : Fin 160) (i : Fin 512) (l : Fin 256) :
    result (picks te n) (outs (hidden (gate (rows w) wg) (up (rows w) wg)) wd) (ix4 a b ⟨t.val * 512 + i.val, by omega⟩ l)
      = outEl w te n wg wd t i ⟨a.val * 512 + b.val * 256 + l.val, by omega⟩ := by
  rw [result_apply]
  have hp : ∀ e : Fin 32, picks (F := Ideal) te n (ix2 t e) = if e = expert te t ∧ Holds n t then 1 else 0 := fun e => by
    rw [picks_apply]
    refine if_congr (and_congr ?_ Iff.rfl) rfl rfl
    have h1 := hte (ix1 t)
    have h2 := e.isLt
    rw [← BitVec.toNat_inj, BitVec.toNat_ofNat, Nat.mod_eq_of_lt (by omega : e.val < 2 ^ 32), expert, Fin.ext_iff]
    show _ ↔ e.val = (te (ix1 t)).toNat % 32
    rw [Nat.mod_eq_of_lt h1]
    exact eq_comm
  simp only [hp]
  rw [sum_pick (Holds n t) (expert te t)]
  unfold outEl
  refine if_congr Iff.rfl ?_ rfl
  rw [outs_apply]
  refine Finset.sum_congr rfl fun f _ => (mul_comm _ _).trans (congrArg₂ _ ?_ rfl)
  rw [hidden_apply, gate_apply, up_apply]
  simp only [rows_apply]
  rfl

end Cert.Proof.XR

end
-- ==== Proof.XI.Array.lean ====
/- The array the experts' call writes, over the extended reals: every tile of it the specification's. -/
module

public import proofs.«01_k».proof.Proof.XI.Tile
public import proofs.«01_k».proof.Proof.XI.Frame
public import proofs.«01_k».proof.Proof.XR.Value
public import Idealize.ShloMosaic.Lib.Pipeline.ValueKit

@[expose] public section

set_option maxRecDepth 16384

noncomputable section

namespace Cert.Proof.XI

open Cert.ExpertsIdeal Cert.ExpertsIdeal.Gen
open Idealize.ShloMosaic Idealize.ShloMosaic.TcCoe Idealize.ShloMosaic.Tactic
open Cert.Proof.XR (rowEl ffn)

variable {m : (ℓ : Loc nD τ sig) → Buf (Elt Ideal) ℓ} (hO : Ok m)

theorem coords_val : ∀ t : Fin grid0.N, (grid0.coords t 0).val = t.val := by decide +kernel

/-- Tables of zeros, which the region takes. -/
def zeros : pre0.Contents (Elt Ideal) := fun j => match j with
  | ⟨0, _⟩ => fun _ => (0#32 : BitVec 32)
  | ⟨1, _⟩ => fun _ => (0#32 : BitVec 32)
def adm₀ : (pcfg0 (F := Ideal)).Adm := ⟨zeros, ok_of_lt zeros fun _ => (by decide : (0#32 : BitVec 32).toNat < 32)⟩

/-- The result's blocks cover its array. -/
theorem covers_zeros : ((cfg0 adm₀).win 3).Covers := by decide +kernel
theorem covers_3 : ((cfgM m hO).win 3).Covers := covers_zeros

/-! ## The blocks -/

theorem transform0 : ∀ t : Fin grid0.N, cc0_transform_0 (grid0.coords t) = ![0, t.val, 0] := by decide +kernel
theorem transform3 : ∀ t : Fin grid0.N, cc0_transform_3 (grid0.coords t) = ![0, 0, t.val, 0] := by decide +kernel

/-- A grid point as a tile. -/
abbrev tile (t : Fin (cfgM m hO).N) : Fin 160 := ⟨t.val, t.isLt⟩

variable (c : Dev nD) (t : Fin (cfgM m hO).N)

/-- The entry of the table of experts a point reads is its own. -/
theorem entry_eq : entry (grid0.coords t) = ix1 (tile hO t) := by
  have h := coords_val t
  have hl : t.val < 160 := t.isLt
  funext a
  refine Fin.ext ?_
  match a with
  | ⟨0, _⟩ =>
    show (BitVec.ofNat 32 (grid0.coords t 0).val).toNat + 1 * 0 = t.val
    rw [h, BitVec.toNat_ofNat, Nat.mod_eq_of_lt (by omega)]
    omega

/-- The point's expert. -/
abbrev te : IVec S160 32 := tbl m 0
theorem te_lt : (te (m := m) (ix1 (tile hO t))).toNat < 32 := by
  have h : (((tbl m 0 : IVec S160 32) (entry (grid0.coords t))).toNat + 1) * 1 ≤ 32 := (hO.1 (grid0.coords t)).choose 0
  rw [← entry_eq hO t]
  show ((tbl m 0 : IVec S160 32) (entry (grid0.coords t))).toNat < 32
  omega

theorem index_0 : ((cfgM m hO).win 0).index t = ![0, t.val, 0] := transform0 t
theorem index_3 : ((cfgM m hO).win 3).index t = ![0, 0, t.val, 0] := transform3 t
theorem index_1 : ((cfgM m hO).win 1).index t = ![(te (m := m) (ix1 (tile hO t))).toNat, 0, 0] := by
  rw [← entry_eq hO t]; rfl
theorem index_2 : ((cfgM m hO).win 2).index t = ![(te (m := m) (ix1 (tile hO t))).toNat, 0, 0] := by
  rw [← entry_eq hO t]; rfl

/-- The rows' block: the tile's rows. -/
theorem blk_x (A : Vec Ideal S2x81920x256 .i32) (p : Fin 2) (i : Fin 512) (k : Fin 256) :
    (((cfgM m hO).win 0).blk t).view.read (Elt Ideal) A (ix3 p i k) = A (ix3 p ⟨t.val * 512 + i.val, by have h : t.val < 160 := t.isLt; omega⟩ k) := by
  have h := index_0 hO t
  blk_ext [h]

/-- The experts' blocks: the tile's expert. -/
theorem blk_g (A : Vec Ideal S32x1024x512 .bf16) (k : Fin 1024) (f : Fin 512) :
    (((cfgM m hO).win 1).blk t).view.read (Elt Ideal) A (ix3 0 k f) = A (ix3 ⟨(te (m := m) (ix1 (tile hO t))).toNat, te_lt hO t⟩ k f) := by
  have h := index_1 hO t
  blk_ext [h]
theorem blk_d (A : Vec Ideal S32x256x1024 .bf16) (f : Fin 256) (k : Fin 1024) :
    (((cfgM m hO).win 2).blk t).view.read (Elt Ideal) A (ix3 0 f k) = A (ix3 ⟨(te (m := m) (ix1 (tile hO t))).toNat, te_lt hO t⟩ f k) := by
  have h := index_2 hO t
  blk_ext [h]

/-- The result's block: the tile's rows. -/
theorem blk_o (A : Vec Ideal S2x2x81920x256 .bf16) (a b : Fin 2) (i : Fin 512) (l : Fin 256) :
    A ((((cfgM m hO).win 3).blk t).view.emb (ix4 a b i l)) = A (ix4 a b ⟨t.val * 512 + i.val, by have h : t.val < 160 := t.isLt; omega⟩ l) := by
  have h := index_3 hO t
  blk_ext [h]

/-- What the body leaves at a point is the specification's tile. -/
theorem cond1_iff : k0_cond1 (grid0.coords t) (count (tbl m 1)) = 1#1 ↔ Cert.Proof.XR.Holds (tbl m 1) (tile hO t) := by
  have h (b : Bool) : (Scalar.cmpi .ne (Scalar.extui (BitVec.ofBool b) : BitVec 32) 0#32 = 1#1) ↔ BitVec.ofBool b = 1#1 := by
    cases b <;> decide
  refine (h (BitVec.slt (BitVec.ofNat 32 (grid0.coords t 0).val) (count (tbl m 1)))).trans ?_
  have hc : count (tbl m 1) = (tbl m 1 : IVec S1 32) (ix1 0) := congrArg (tbl m 1 : IVec S1 32) (funext fun a => by
    match a with
    | ⟨0, _⟩ => rfl)
  rw [coords_val t, hc]
  rfl

theorem out_point (a b : Fin 2) (i : Fin 512) (l : Fin 256) :
    out (F := Ideal) (grid0.coords t) (count (tbl m 1)) (iblk hO c 0 t) (iblk hO c 1 t) (iblk hO c 2 t) (ix4 a b i l)
      = Cert.Proof.XR.outEl (V m c main_arg0) (tbl m 0) (tbl m 1) (V m c main_arg3) (V m c main_arg4) (tile hO t) i
          ⟨a.val * 512 + b.val * 256 + l.val, by omega⟩ := by
  refine (out_apply _ _ _ _ _ _).trans ?_
  unfold Cert.Proof.XR.outEl
  refine if_congr (cond1_iff hO t) ?_ rfl
  have he : Cert.Proof.XR.expert (tbl m 0) (tile hO t) = ⟨(te (m := m) (ix1 (tile hO t))).toNat, te_lt hO t⟩ :=
    Fin.ext (Nat.mod_eq_of_lt (te_lt hO t))
  rw [he]
  unfold elAt Cert.Proof.XR.tileRow xrow
  refine congrFun (congr (congr (congrArg ffn ?_) ?_) ?_) _
  · exact congrArg₂ rowEl (funext fun k => blk_x hO t (V m c main_arg0) 0 i k) (funext fun k => blk_x hO t (V m c main_arg0) 1 i k)
  · exact funext fun k => funext fun f => blk_g hO t (V m c main_arg3) k f
  · exact funext fun f => funext fun k => blk_d hO t (V m c main_arg4) f k

/-! ## The array -/

/-- The result, element by element. -/
def outArr : Vec Ideal S2x2x81920x256 .bf16 := fun y =>
  Cert.Proof.XR.outEl (V m c main_arg0) (tbl m 0) (tbl m 1) (V m c main_arg3) (V m c main_arg4)
    ⟨(y 2).val / 512, by have h : (y 2).val < 81920 := (y 2).isLt; omega⟩ ⟨(y 2).val % 512, by omega⟩
    ⟨(y 0).val * 512 + (y 1).val * 256 + (y 3).val, by
      have h0 : (y 0).val < 2 := (y 0).isLt
      have h1 : (y 1).val < 2 := (y 1).isLt
      have h3 : (y 3).val < 256 := (y 3).isLt
      omega⟩

theorem outArr_tile (τ' : Fin 160) (a b : Fin 2) (i : Fin 512) (l : Fin 256) :
    outArr (m := m) c (ix4 a b ⟨τ'.val * 512 + i.val, by omega⟩ l)
      = Cert.Proof.XR.outEl (V m c main_arg0) (tbl m 0) (tbl m 1) (V m c main_arg3) (V m c main_arg4) τ' i
          ⟨a.val * 512 + b.val * 256 + l.val, by omega⟩ := by
  unfold outArr
  refine congrFun (congr (congrArg _ (Fin.ext ?_)) (Fin.ext ?_)) _
  · show (τ'.val * 512 + i.val) / 512 = τ'.val; omega
  · show (τ'.val * 512 + i.val) % 512 = i.val; omega

/-- What the call writes back. -/
theorem arr_out : (dats hO 0 c).arrAt 3 (cfgM m hO).N = outArr (m := m) c := by
  have key (t : Fin (cfgM m hO).N) (y : S2x2x512x256.Idx) :
      out (F := Ideal) (grid0.coords t) (count (tbl m 1)) (iblk hO c 0 t) (iblk hO c 1 t) (iblk hO c 2 t) y
        = outArr (m := m) c ((((cfgM m hO).win 3).blk t).view.emb y) := by
    idx_vars y
    exact (out_point hO c t y0 y1 y2 y3).trans ((blk_o hO t (outArr (m := m) c) y0 y1 y2 y3).trans (outArr_tile c (tile hO t) y0 y1 y2 y3)).symm
  exact (dats hO 0 c).arrAt_eq_of_covers 3 _ (covers_3 hO) fun t _ y => key t y

end Cert.Proof.XI

end
-- ==== Proof.XI.Claims.lean ====
/- The experts' claims: the reference's frame, and that the call and its reference compute the same rows. -/
module

public import proofs.«01_k».proof.Proof.XI.Array
public import proofs.«01_k».proof.Proof.Gen.PlainExpertsIdeal

@[expose] public section

set_option maxRecDepth 16384

noncomputable section

namespace Cert.Proof.XI

open Cert.ExpertsIdeal.Gen
open Idealize.ShloMosaic Idealize.ShloMosaic.TcCoe Idealize.ShloMosaic.Tactic
open Idealize.SL.Sem

/-- The reference leaves its arguments and its counters as they were. -/
theorem plain_frame : Cert.quiescent_PlainExpertsIdeal := fun m g _ =>
  (θ_run Cert.PlainExpertsIdeal.defs _ _).mono (fun r h => ⟨fun c => (h c).2, sem_eq_zero_of_no_sems (by decide) r.2⟩)
    (Cert.PlainExpertsIdeal.Value.run (F := Ideal) m g)

/-- The call's run: its result at the specification's tiles, its arguments as they were. -/
theorem kernel_run (m : (ℓ : Loc Cert.ExpertsIdeal.nD Cert.ExpertsIdeal.τ Cert.ExpertsIdeal.sig) → Buf (Elt Ideal) ℓ)
    (g : Dev Cert.ExpertsIdeal.nD → PrngReg) (hO : Ok m) :
    θ_run (Cert.ExpertsIdeal.defs (F := Ideal)) (onTc (τ := Cert.ExpertsIdeal.τ) (Cert.ExpertsIdeal.main (F := Ideal))) ⟨m, fun _ => 0, g⟩
      (fun r => ∀ c : Dev Cert.ExpertsIdeal.nD, r.2.mem ((c.tc : Thread Cert.ExpertsIdeal.nD Cert.ExpertsIdeal.τ).loc Cert.ExpertsIdeal.main_v0) = outArr (m := m) c
        ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
        ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
        ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
        ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
        ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)) :=
  (θ_run (Cert.ExpertsIdeal.defs (F := Ideal)) _ _).mono (fun _ h c => ⟨((h.1 c).1 3).trans (arr_out hO c), args_kept hO h.1 c⟩) (run_main g hO)

/-- The reference's result is the array the call writes. -/
theorem result_eq (m : (ℓ : Loc Cert.ExpertsIdeal.nD Cert.ExpertsIdeal.τ Cert.ExpertsIdeal.sig) → Buf (Elt Ideal) ℓ) (hm : Cert.Pre_ExpertsIdeal m)
    (c : Dev Cert.ExpertsIdeal.nD) :
    Cert.Proof.XR.result (F := Ideal) (Cert.Proof.XR.picks (F := Ideal) (V m c Cert.ExpertsIdeal.main_arg1) (V m c Cert.ExpertsIdeal.main_arg2))
      (Cert.Proof.XR.outs (Cert.Proof.XR.hidden (Cert.Proof.XR.gate (Cert.Proof.XR.rows (V m c Cert.ExpertsIdeal.main_arg0)) (V m c Cert.ExpertsIdeal.main_arg3))
        (Cert.Proof.XR.up (Cert.Proof.XR.rows (V m c Cert.ExpertsIdeal.main_arg0)) (V m c Cert.ExpertsIdeal.main_arg3))) (V m c Cert.ExpertsIdeal.main_arg4))
      = outArr (m := m) c := by
  have h0 : V m c Cert.ExpertsIdeal.main_arg1 = tbl m 0 := V_pre m c 0
  have h1 : V m c Cert.ExpertsIdeal.main_arg2 = tbl m 1 := V_pre m c 1
  rw [h0, h1]
  have hte (y : Cert.ExpertsIdeal.S160.Idx) : ((tbl m 0 : IVec Cert.ExpertsIdeal.S160 32) y).toNat < 32 := expert_lt _ _ _ _ _ (hm 0) y
  funext y
  idx_vars y
  have hq : (⟨y2.val / 512 * 512 + y2.val % 512, by omega⟩ : Fin 81920) = y2 := Fin.ext (by show y2.val / 512 * 512 + y2.val % 512 = y2.val; omega)
  have e1 := Cert.Proof.XR.value_apply (V m c Cert.ExpertsIdeal.main_arg0) (tbl m 0) (tbl m 1) (V m c Cert.ExpertsIdeal.main_arg3)
    (V m c Cert.ExpertsIdeal.main_arg4) hte y0 y1 ⟨y2.val / 512, by omega⟩ ⟨y2.val % 512, by omega⟩ y3
  have e2 := outArr_tile (m := m) c ⟨y2.val / 512, by omega⟩ y0 y1 ⟨y2.val % 512, by omega⟩ y3
  have e3 := e1.trans e2.symm
  rw [hq] at e3
  exact e3

/-- Both run, and end with equal results. -/
theorem algebraic : Cert.algebraic_ExpertsIdeal_PlainExpertsIdeal := fun m g m' g' hm hm' =>
  ⟨fun c => outArr (m := m) c, kernel_run m g (ok_ideal m hm),
    (θ_run Cert.PlainExpertsIdeal.defs _ _).mono (fun _ h c => by
      obtain ⟨a0, a1, a2, a3, a4⟩ := hm' c
      refine ⟨((h c).1.trans (Cert.Proof.XR.res_eq m' c)).trans ?_, (h c).2⟩
      rw [a0, a1, a2, a3, a4]
      exact result_eq m hm c) (Cert.PlainExpertsIdeal.Value.run (F := Ideal) m' g')⟩

end Cert.Proof.XI

end
-- ==== Proof.FR.Spec.lean ====
/- One row of the last call, over the extended reals: the mathematics the kernel's tiles and the reference share. -/
module

public import proofs.«01_k».proof.Proof.XR.Spec

@[expose] public section

noncomputable section

namespace Cert.Proof.FR

open Idealize.ShloMosaic
open Cert.Proof.XR (lo hi rowEl)

/-- The residual sum of a row with the two chosen experts' rows, weighted. -/
def resid (x : Fin 1024 → EReal) (u v : EReal) (a b : Fin 1024 → EReal) (d : Fin 1024) : EReal := x d + (u * a d + v * b d)

/-- A row normed by its mean square, under a gain. -/
def rms (x g : Fin 1024 → EReal) (d : Fin 1024) : EReal :=
  x d * Ideal.rsqrt (Ideal.div (∑ k : Fin 1024, x k * x k) (Ideal.ofBits .f32 1149239296#32) + Ideal.ofBits .f32 897988541#32) * g d

/-- Two rows' weighted sum, quarter by quarter. -/
def pairEl (u v : EReal) (p q p' q' : Fin 256 → BitVec 32) (k : Fin 1024) : EReal :=
  if h : k.val < 256 then u * lo (p ⟨k.val, h⟩) + v * lo (p' ⟨k.val, h⟩)
  else if h : k.val - 256 < 256 then u * lo (q ⟨k.val - 256, h⟩) + v * lo (q' ⟨k.val - 256, h⟩)
  else if h : k.val - 256 - 256 < 256 then u * hi (p ⟨k.val - 256 - 256, h⟩) + v * hi (p' ⟨k.val - 256 - 256, h⟩)
  else u * hi (q ⟨k.val - 256 - 256 - 256, by omega⟩) + v * hi (q' ⟨k.val - 256 - 256 - 256, by omega⟩)

/-- … is the sum of the rows' weighted elements. -/
theorem pairEl_eq (u v : EReal) (p q p' q' : Fin 256 → BitVec 32) (k : Fin 1024) :
    pairEl u v p q p' q' k = u * rowEl p q k + v * rowEl p' q' k := by
  unfold pairEl rowEl
  by_cases h0 : k.val < 256
  · simp only [dif_pos h0]
  · by_cases h1 : k.val < 512
    · simp only [dif_neg h0, dif_pos h1, dif_pos (show k.val - 256 < 256 by omega)]
    · by_cases h2 : k.val < 768
      · have e : (⟨k.val - 256 - 256, by omega⟩ : Fin 256) = ⟨k.val - 512, by omega⟩ := Fin.ext (show k.val - 256 - 256 = k.val - 512 by omega)
        simp only [dif_neg h0, dif_neg h1, dif_pos h2, dif_neg (show ¬ k.val - 256 < 256 by omega), dif_pos (show k.val - 256 - 256 < 256 by omega), e]
      · have e : (⟨k.val - 256 - 256 - 256, by omega⟩ : Fin 256) = ⟨k.val - 768, by omega⟩ := Fin.ext (show k.val - 256 - 256 - 256 = k.val - 768 by omega)
        simp only [dif_neg h0, dif_neg h1, dif_neg h2, dif_neg (show ¬ k.val - 256 < 256 by omega), dif_neg (show ¬ k.val - 256 - 256 < 256 by omega), e]

end Cert.Proof.FR

end
-- ==== Proof.FR.Value.lean ====
/- The last call's reference, named piece by piece, and each piece read at an index. -/
module

public import proofs.«01_k».proof.Proof.Gen.PlainFinalIdeal.Run
public import proofs.«01_k».proof.Proof.FR.Spec

@[expose] public section

set_option maxRecDepth 16384

noncomputable section

namespace Cert.Proof.FR

open Cert.PlainFinalIdeal Cert.PlainFinalIdeal.Gen
open Idealize.ShloMosaic Idealize.ShloMosaic.TcCoe Idealize.ShloMosaic.Tactic
open Cert.Proof.XR (lo hi rowEl)

section Terms
variable {F : FTy → Type} [FloatOps F]

/-- The low halves of an array of words, and the high ones, as floats. -/
def lows (w : IVec S2x32768x256 32) : FVec F S2x32768x256 .f32 :=
  bitcastToFloat (F := F) .f32 (Host.shli w (broadcastInDim S2x32768x256 ![] bcast_S_S2x32768x256 (constantI S_ 32 16#32)))
def highs (w : IVec S2x32768x256 32) : FVec F S2x32768x256 .f32 :=
  bitcastToFloat (F := F) .f32 (andi w (broadcastInDim S2x32768x256 ![] bcast_S_S2x32768x256 (constantI S_ 32 4294901760#32)))

/-- The two planes of an array of halves. -/
def plane0 (x : FVec F S2x32768x256 .f32) : FVec F S32768x256 .f32 :=
  shapeCast _ (extractStridedSlice S1x32768x256 ![0, 0, 0] x slices_S2x32768x256_S1x32768x256_0_0_0) shapeCasts_S1x32768x256_S32768x256
def plane1 (x : FVec F S2x32768x256 .f32) : FVec F S32768x256 .f32 :=
  shapeCast _ (extractStridedSlice S1x32768x256 ![1, 0, 0] x slices_S2x32768x256_S1x32768x256_1_0_0) shapeCasts_S1x32768x256_S32768x256

/-- The rows of an array of words. -/
def rows (w : IVec S2x32768x256 32) : FVec F S32768x1024 .f32 :=
  Value.fn_main_v17 (F := F) (plane0 (lows w)) (plane1 (lows w)) (plane0 (highs w)) (plane1 (highs w))

/-- The first chosen expert's words, and the second's. -/
def first (w : IVec S2x2x32768x256 32) : IVec S2x32768x256 32 :=
  shapeCast _ (extractStridedSlice S2x1x32768x256 ![0, 0, 0, 0] w slices_S2x2x32768x256_S2x1x32768x256_0_0_0_0) shapeCasts_S2x1x32768x256_S2x32768x256
def second (w : IVec S2x2x32768x256 32) : IVec S2x32768x256 32 :=
  shapeCast _ (extractStridedSlice S2x1x32768x256 ![0, 1, 0, 0] w slices_S2x2x32768x256_S2x1x32768x256_0_1_0_0) shapeCasts_S2x1x32768x256_S2x32768x256

/-- The residual sum. -/
def summed (x : FVec F S32768x1024 .f32) (r : FVec F S32768x128 .f32) (y0 y1 : FVec F S32768x1024 .f32) : FVec F S32768x1024 .f32 :=
  addf x (addf (mulf (broadcastInDim S32768x1024 ![0, 1] bcast_S32768x1_S32768x1024_0_1 (extractStridedSlice S32768x1 ![0, 2] r slices_S32768x128_S32768x1_0_2)) y0)
    (mulf (broadcastInDim S32768x1024 ![0, 1] bcast_S32768x1_S32768x1024_0_1 (extractStridedSlice S32768x1 ![0, 3] r slices_S32768x128_S32768x1_0_3)) y1))

/-- The norm. -/
def normed (x : FVec F S32768x1024 .f32) (g : FVec F S1024 .f32) : FVec F S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The reference's result, as the pieces compose it. -/
theorem res_eq (m : (ℓ : Loc nD τ sig) → Buf (Elt F) ℓ) (c : Dev nD) :
    Value.res_main_v54 m c = normed (summed (m ((c.tc : Thread nD τ).loc main_arg0)) (m ((c.tc : Thread nD τ).loc main_arg2))
      (rows (first (m ((c.tc : Thread nD τ).loc main_arg1)))) (rows (second (m ((c.tc : Thread nD τ).loc main_arg1))))) (m ((c.tc : Thread nD τ).loc main_arg3)) := by
  unfold Value.res_main_v54 normed summed rows first second plane0 plane1 lows highs Value.fn_main_v17
  rfl

end Terms

theorem plane0_apply (x : FVec Ideal S2x32768x256 .f32) (r : Fin 32768) (k : Fin 256) : plane0 x (ix2 r k) = x (ix3 0 r k) := by
  pointwise [plane0]
theorem plane1_apply (x : FVec Ideal S2x32768x256 .f32) (r : Fin 32768) (k : Fin 256) : plane1 x (ix2 r k) = x (ix3 1 r k) := by
  pointwise [plane1]
theorem first_apply (w : IVec S2x2x32768x256 32) (p : Fin 2) (r : Fin 32768) (k : Fin 256) : first w (ix3 p r k) = w (ix4 p 0 r k) := by
  pointwise [first]
theorem second_apply (w : IVec S2x2x32768x256 32) (p : Fin 2) (r : Fin 32768) (k : Fin 256) : second w (ix3 p r k) = w (ix4 p 1 r k) := by
  pointwise [second]

theorem lows_apply (w : IVec S2x32768x256 32) (p : Fin 2) (r : Fin 32768) (k : Fin 256) :
    lows (F := Ideal) w (ix3 p r k) = lo (w (ix3 p r k)) := by
  pointwise [lows]; rfl
theorem highs_apply (w : IVec S2x32768x256 32) (p : Fin 2) (r : Fin 32768) (k : Fin 256) :
    highs (F := Ideal) w (ix3 p r k) = hi (w (ix3 p r k)) := by
  pointwise [highs]; rfl

theorem rows_apply (w : IVec S2x32768x256 32) (i : Fin 32768) (k : Fin 1024) :
    rows (F := Ideal) w (ix2 i k) = rowEl (fun c => w (ix3 0 i c)) (fun c => w (ix3 1 i c)) k := by
  pointwise [rows, Value.fn_main_v17, plane0_apply, plane1_apply, lows_apply, highs_apply]
  unfold rowEl
  split
  · rfl
  · rw [dite_congr (show (k.val - 256 < 256) = (k.val < 512) from propext (by omega)) (fun _ => rfl) (fun _ => rfl)]
    split
    · rfl
    · rw [dite_congr (show (k.val - 256 - 256 < 256) = (k.val < 768) from propext (by omega)) (fun _ => rfl) (fun _ => rfl)]
      split
      · exact congrArg (fun j => hi (w (ix3 0 _ j))) (Fin.ext (show k.val - 256 - 256 = k.val - 512 by omega))
      · exact congrArg (fun j => hi (w (ix3 1 _ j))) (Fin.ext (show k.val - 256 - 256 - 256 = k.val - 768 by omega))

theorem summed_apply (x : FVec Ideal S32768x1024 .f32) (r : FVec Ideal S32768x128 .f32) (y0 y1 : FVec Ideal S32768x1024 .f32) (i : Fin 32768) (d : Fin 1024) :
    summed x r y0 y1 (ix2 i d) = x (ix2 i d) + (r (ix2 i 2) * y0 (ix2 i d) + r (ix2 i 3) * y1 (ix2 i d)) := by
  pointwise [summed]

theorem normed_apply (x : FVec Ideal S32768x1024 .f32) (g : FVec Ideal S1024 .f32) (i : Fin 32768) (d : Fin 1024) :
    normed x g (ix2 i d) = rms (fun k => x (ix2 i k)) (fun k => g (ix1 k)) d := by
  pointwise [normed]
  rfl

/-- The result's element: the normed residual sum of row `i`. -/
def outEl (x : FVec Ideal S32768x1024 .f32) (w : IVec S2x2x32768x256 32) (r : FVec Ideal S32768x128 .f32) (g : FVec Ideal S1024 .f32)
    (i : Fin 32768) (d : Fin 1024) : EReal :=
  rms (resid (fun k => x (ix2 i k)) (r (ix2 i 2)) (r (ix2 i 3)) (rowEl (fun c => w (ix4 0 0 i c)) (fun c => w (ix4 1 0 i c)))
    (rowEl (fun c => w (ix4 0 1 i c)) (fun c => w (ix4 1 1 i c)))) (fun k => g (ix1 k)) d

/-- The reference's element. -/
theorem value_apply (x : FVec Ideal S32768x1024 .f32) (w : IVec S2x2x32768x256 32) (r : FVec Ideal S32768x128 .f32) (g : FVec Ideal S1024 .f32)
    (i : Fin 32768) (d : Fin 1024) :
    normed (F := Ideal) (summed x r (rows (first w)) (rows (second w))) g (ix2 i d) = outEl x w r g i d := by
  rw [normed_apply]
  simp only [summed_apply, rows_apply, first_apply, second_apply]
  rfl

end Cert.Proof.FR

end
-- ==== Proof.FI.Tile.lean ====
/- What the last call's body leaves in its result's block, and the array it writes, over the extended reals. -/
module

public import proofs.«01_k».proof.Proof.Gen.FinalIdeal.Value
public import proofs.«01_k».proof.Proof.FR.Value
public import Idealize.ShloMosaic.Lib.Pipeline.ValueKit

@[expose] public section

set_option maxRecDepth 16384

noncomputable section

namespace Cert.Proof.FI

open Cert.FinalIdeal Cert.FinalIdeal.Gen
open Idealize.ShloMosaic Idealize.ShloMosaic.TcCoe Idealize.ShloMosaic.Tactic
open Cert.Proof.XR (lo hi rowEl)

open Cert.Proof.FR (resid rms pairEl)

/-- The body's payload at an index. -/
theorem pay_apply (x : Vec Ideal S512x1024 .f32) (r : Vec Ideal S512x128 .f32) (p0 q0 p1 q1 : Vec Ideal S1x1x512x256 .i32) (g : Vec Ideal S1x1024 .f32)
    (i : Fin 512) (d : Fin 1024) :
    k0_pay1 (F := Ideal) x (k0_pay2 r) (k0_pay3 r) (k0_pay5 p0) (k0_pay6 p0) (k0_pay8 q0) (k0_pay9 q0) (k0_pay11 p1) (k0_pay12 p1) (k0_pay13 q1) (k0_pay14 q1) g (ix2 i d)
      = rms (resid (fun k => x (ix2 i k)) (r (ix2 i 2)) (r (ix2 i 3)) (rowEl (fun c => p0 (ix4 0 0 i c)) (fun c => q0 (ix4 0 0 i c)))
          (rowEl (fun c => p1 (ix4 0 0 i c)) (fun c => q1 (ix4 0 0 i c)))) (fun k => g (ix2 0 k)) d := by
  have h (k : Fin 1024) : resid (fun k => x (ix2 i k)) (r (ix2 i 2)) (r (ix2 i 3)) (rowEl (fun c => p0 (ix4 0 0 i c)) (fun c => q0 (ix4 0 0 i c)))
      (rowEl (fun c => p1 (ix4 0 0 i c)) (fun c => q1 (ix4 0 0 i c))) k = x (ix2 i k) + pairEl (r (ix2 i 2)) (r (ix2 i 3)) (fun c => p0 (ix4 0 0 i c))
        (fun c => q0 (ix4 0 0 i c)) (fun c => p1 (ix4 0 0 i c)) (fun c => q1 (ix4 0 0 i c)) k := by
    rw [Cert.Proof.FR.pairEl_eq]; rfl
  unfold rms
  simp only [h]
  pointwise [k0_pay1, k0_pay2, k0_pay3, k0_pay5, k0_pay6, k0_pay8, k0_pay9, k0_pay11, k0_pay12, k0_pay13, k0_pay14, k0_pay4, k0_pay7, k0_pay10]
  rfl

/-! ## The loads -/

theorem ld_x (x : Vec Ideal S512x1024 .f32) (i : Fin 512) (k : Fin 1024) : View.ld x r0_0 (ix2 i k) = x (ix2 i k) := by
  refine congrArg x (funext fun a => ?_)
  fin_cases a <;> exact Fin.ext (by simp [LoadRect.idx, Rect.unit, Rect.toLoadRect, ix2])
theorem ld_r (x : Vec Ideal S512x128 .f32) (i : Fin 512) (k : Fin 128) : View.ld x r0_1 (ix2 i k) = x (ix2 i k) := by
  refine congrArg x (funext fun a => ?_)
  fin_cases a <;> exact Fin.ext (by simp [LoadRect.idx, Rect.unit, Rect.toLoadRect, ix2])
theorem ld_g (x : Vec Ideal S1x1024 .f32) (k : Fin 1024) : View.ld x r0_4 (ix2 0 k) = x (ix2 0 k) := by
  refine congrArg x (funext fun a => ?_)
  fin_cases a <;> exact Fin.ext (by simp [LoadRect.idx, Rect.unit, Rect.toLoadRect, ix2])
theorem ld_p (x : Vec Ideal S2x1x512x256 .i32) (i : Fin 512) (k : Fin 256) : View.ld x r0_2 (ix4 0 0 i k) = x (ix4 0 0 i k) := by
  refine congrArg x (funext fun a => ?_)
  fin_cases a <;> exact Fin.ext (by simp [LoadRect.idx, Rect.unit, Rect.toLoadRect, ix4])
theorem ld_q (x : Vec Ideal S2x1x512x256 .i32) (i : Fin 512) (k : Fin 256) : View.ld x r0_3 (ix4 0 0 i k) = x (ix4 1 0 i k) := by
  refine congrArg x (funext fun a => ?_)
  fin_cases a <;> exact Fin.ext (by simp [LoadRect.idx, Rect.unit, Rect.toLoadRect, ix4])
theorem idx_o (i : Fin 512) (k : Fin 1024) : r0_0.idx (ix2 i k) = ix2 i k := by
  funext a
  fin_cases a <;> exact Fin.ext (by simp [LoadRect.idx, Rect.unit, Rect.toLoadRect, ix2])

/-- What the body leaves in the result's block, at an index. -/
theorem out_apply (x0 : Vec Ideal S512x1024 .f32) (x1 x2 : Vec Ideal S2x1x512x256 .i32) (x3 : Vec Ideal S512x128 .f32) (x4 : Vec Ideal S1x1024 .f32)
    (i : Fin 512) (d : Fin 1024) :
    out0_5 (F := Ideal) x0 x1 x2 x3 x4 (ix2 i d)
      = rms (resid (fun k => x0 (ix2 i k)) (x3 (ix2 i 2)) (x3 (ix2 i 3)) (rowEl (fun c => x1 (ix4 0 0 i c)) (fun c => x1 (ix4 1 0 i c)))
          (rowEl (fun c => x2 (ix4 0 0 i c)) (fun c => x2 (ix4 1 0 i c)))) (fun k => x4 (ix2 0 k)) d := by
  unfold out0_5
  refine ((congrArg _ (idx_o i d).symm).trans (View.canon_cons_emb _ _ _ _)).trans ((pay_apply _ _ _ _ _ _ _ i d).trans ?_)
  refine congrFun (congr (congrArg rms (congr (congr (congr (congr (congrArg resid ?_) (ld_r x3 i 2)) (ld_r x3 i 3)) ?_) ?_)) ?_) d
  · exact funext fun k => ld_x x0 i k
  · exact congrArg₂ rowEl (funext fun k => ld_p x1 i k) (funext fun k => ld_q x1 i k)
  · exact congrArg₂ rowEl (funext fun k => ld_p x2 i k) (funext fun k => ld_q x2 i k)
  · exact funext fun k => ld_g x4 k

/-! ## The blocks -/

theorem ix_0 : ∀ t : Fin cfg0.N, win0_0.index t = ![t.val, 0] := by decide +kernel
theorem ix_1 : ∀ t : Fin cfg0.N, win0_1.index t = ![0, 0, t.val, 0] := by decide +kernel
theorem ix_2 : ∀ t : Fin cfg0.N, win0_2.index t = ![0, 1, t.val, 0] := by decide +kernel
theorem ix_3 : ∀ t : Fin cfg0.N, win0_3.index t = ![t.val, 0] := by decide +kernel
theorem ix_4 : ∀ t : Fin cfg0.N, win0_4.index t = ![0, 0] := by decide +kernel
theorem ix_5 : ∀ t : Fin cfg0.N, win0_5.index t = ![t.val, 0] := by decide +kernel

/-- A grid point's row in the arrays. -/
abbrev row (t : Fin cfg0.N) (i : Fin 512) : Fin 32768 := ⟨t.val * 512 + i.val, by have h : t.val < 64 := t.isLt; omega⟩

variable (t : Fin cfg0.N) (i : Fin 512)

theorem blk_x (A : Vec Ideal S32768x1024 .f32) (k : Fin 1024) : (win0_0.blk t).view.read (Elt Ideal) A (ix2 i k) = A (ix2 (row t i) k) := by
  blk_ext [ix_0 t]
theorem blk_y0 (A : Vec Ideal S2x2x32768x256 .i32) (p : Fin 2) (k : Fin 256) :
    (win0_1.blk t).view.read (Elt Ideal) A (ix4 p 0 i k) = A (ix4 p 0 (row t i) k) := by
  blk_ext [ix_1 t]
theorem blk_y1 (A : Vec Ideal S2x2x32768x256 .i32) (p : Fin 2) (k : Fin 256) :
    (win0_2.blk t).view.read (Elt Ideal) A (ix4 p 0 i k) = A (ix4 p 1 (row t i) k) := by
  blk_ext [ix_2 t]
theorem blk_r (A : Vec Ideal S32768x128 .f32) (k : Fin 128) : (win0_3.blk t).view.read (Elt Ideal) A (ix2 i k) = A (ix2 (row t i) k) := by
  blk_ext [ix_3 t]
theorem blk_g (A : Vec Ideal S1x1024 .f32) (k : Fin 1024) : (win0_4.blk t).view.read (Elt Ideal) A (ix2 0 k) = A (ix2 0 k) := by
  blk_ext [ix_4 t]
theorem blk_o (A : Vec Ideal S32768x1024 .f32) (k : Fin 1024) : A ((win0_5.blk t).view.emb (ix2 i k)) = A (ix2 (row t i) k) := by
  blk_ext [ix_5 t]

end Cert.Proof.FI

end
-- ==== Proof.FI.Array.lean ====
/- The array the last call writes, over the extended reals: every row of it the specification's. -/
module

public import proofs.«01_k».proof.Proof.FI.Tile

@[expose] public section

set_option maxRecDepth 16384

noncomputable section

namespace Cert.Proof.FI

open Cert.FinalIdeal Cert.FinalIdeal.Gen
open Idealize.ShloMosaic Idealize.ShloMosaic.TcCoe Idealize.ShloMosaic.Tactic
open Cert.Proof.XR (rowEl)
open Cert.Proof.FR (resid rms outEl)

variable (m : (ℓ : Loc nD τ sig) → Buf (Elt Ideal) ℓ) (c : Dev nD)

/-- The result, element by element. -/
def outArr : Vec Ideal S32768x1024 .f32 := fun y =>
  outEl (m ((c.tc : Thread nD τ).loc main_arg0)) (m ((c.tc : Thread nD τ).loc main_arg1)) (m ((c.tc : Thread nD τ).loc main_arg2))
    (m ((c.tc : Thread nD τ).loc main_arg3)) (y 0) (y 1)

/-- The gain the call reads is the argument's. -/
theorem gain_apply (k : Fin 1024) : (V m c main_v0 : Vec Ideal S1x1024 .f32) (ix2 0 k) = (m ((c.tc : Thread nD τ).loc main_arg3) : Vec Ideal S1024 .f32) (ix1 k) := by
  entry_read
  pointwise

/-- What the body leaves at a point is the specification's rows. -/
theorem out_point (t : Fin cfg0.N) (i : Fin 512) (d : Fin 1024) :
    out0_5 (F := Ideal) (iblk m c 0 t) (iblk m c 1 t) (iblk m c 2 t) (iblk m c 3 t) (iblk m c 4 t) (ix2 i d) = outArr m c (ix2 (row t i) d) := by
  refine (out_apply _ _ _ _ _ i d).trans ?_
  unfold outArr outEl
  refine congrFun (congr (congrArg rms (congr (congr (congr (congr (congrArg resid ?_) ?_) ?_) ?_) ?_)) ?_) d
  · exact funext fun k => (blk_x t i (V m c main_arg0) k).trans (congrFun (V_main_arg0 m c) _)
  · exact (blk_r t i (V m c main_arg2) 2).trans (congrFun (V_main_arg2 m c) _)
  · exact (blk_r t i (V m c main_arg2) 3).trans (congrFun (V_main_arg2 m c) _)
  · exact congrArg₂ rowEl (funext fun k => (blk_y0 t i (V m c main_arg1) 0 k).trans (congrFun (V_main_arg1 m c) _))
      (funext fun k => (blk_y0 t i (V m c main_arg1) 1 k).trans (congrFun (V_main_arg1 m c) _))
  · exact congrArg₂ rowEl (funext fun k => (blk_y1 t i (V m c main_arg1) 0 k).trans (congrFun (V_main_arg1 m c) _))
      (funext fun k => (blk_y1 t i (V m c main_arg1) 1 k).trans (congrFun (V_main_arg1 m c) _))
  · exact funext fun k => (blk_g t (V m c main_v0) k).trans (gain_apply m c k)

/-- What the body leaves at a point is the array's block. -/
theorem out_block (t : Fin cfg0.N) (y : S512x1024.Idx) :
    out0_5 (F := Ideal) (iblk m c 0 t) (iblk m c 1 t) (iblk m c 2 t) (iblk m c 3 t) (iblk m c 4 t) y = outArr m c ((win0_5.blk t).view.emb y) := by
  idx_vars y
  have e1 := out_point m c t y0 y1
  have e2 := blk_o t y0 (outArr m c) y1
  exact e1.trans e2.symm

/-- What the call writes back. -/
theorem arr_out : (dats m 0 c).arrAt 5 cfg0.N = outArr m c := by
  refine (dats m 0 c).arrAt_eq_of_covers 5 _ (by decide +kernel) fun t _ y => ?_
  blk_simp
  rw [after0_5]
  idx_vars y
  have h := out_block m c t (ix2 y0 y1)
  generalize outArr m c = A at *
  exact h

end Cert.Proof.FI

end
-- ==== Proof.FI.Claims.lean ====
/- The last call's claims: the reference's frame, and that the call and its reference compute the same rows. -/
module

public import proofs.«01_k».proof.Proof.FI.Array
public import proofs.«01_k».proof.Defs
public import proofs.«01_k».proof.Proof.Gen.PlainFinalIdeal

@[expose] public section

set_option maxRecDepth 16384

noncomputable section

namespace Cert.Proof.FI

open Cert.FinalIdeal.Gen
open Idealize.ShloMosaic Idealize.ShloMosaic.TcCoe Idealize.ShloMosaic.Tactic
open Idealize.SL.Sem

/-- The reference leaves its arguments and its counters as they were. -/
theorem plain_frame : Cert.quiescent_PlainFinalIdeal := fun m g _ =>
  (θ_run Cert.PlainFinalIdeal.defs _ _).mono (fun r h => ⟨fun c => (h c).2, sem_eq_zero_of_no_sems (by decide) r.2⟩)
    (Cert.PlainFinalIdeal.Value.run (F := Ideal) m g)

/-- The call's run: its result at the specification's rows, its arguments as they were. -/
theorem kernel_run (m : (ℓ : Loc Cert.FinalIdeal.nD Cert.FinalIdeal.τ Cert.FinalIdeal.sig) → Buf (Elt Ideal) ℓ) (g : Dev Cert.FinalIdeal.nD → PrngReg) :
    θ_run (Cert.FinalIdeal.defs (F := Ideal)) (onTc (τ := Cert.FinalIdeal.τ) (Cert.FinalIdeal.main (F := Ideal))) ⟨m, fun _ => 0, g⟩
      (fun r => ∀ c : Dev Cert.FinalIdeal.nD, r.2.mem ((c.tc : Thread Cert.FinalIdeal.nD Cert.FinalIdeal.τ).loc Cert.FinalIdeal.main_v1) = outArr m c
        ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
        ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
        ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
        ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3)) :=
  (θ_run (Cert.FinalIdeal.defs (F := Ideal)) _ _).mono (fun _ h c => ⟨(h c).1.trans (arr_out m c), (h c).2⟩) (Cert.FinalIdeal.Value.run_blocks m g)

/-- The reference's result is the array the call writes. -/
theorem result_eq (m : (ℓ : Loc Cert.FinalIdeal.nD Cert.FinalIdeal.τ Cert.FinalIdeal.sig) → Buf (Elt Ideal) ℓ) (c : Dev Cert.FinalIdeal.nD) :
    Cert.Proof.FR.normed (F := Ideal) (Cert.Proof.FR.summed (m ((c.tc : Thread Cert.FinalIdeal.nD Cert.FinalIdeal.τ).loc Cert.FinalIdeal.main_arg0))
      (m ((c.tc : Thread Cert.FinalIdeal.nD Cert.FinalIdeal.τ).loc Cert.FinalIdeal.main_arg2))
      (Cert.Proof.FR.rows (Cert.Proof.FR.first (m ((c.tc : Thread Cert.FinalIdeal.nD Cert.FinalIdeal.τ).loc Cert.FinalIdeal.main_arg1))))
      (Cert.Proof.FR.rows (Cert.Proof.FR.second (m ((c.tc : Thread Cert.FinalIdeal.nD Cert.FinalIdeal.τ).loc Cert.FinalIdeal.main_arg1)))))
      (m ((c.tc : Thread Cert.FinalIdeal.nD Cert.FinalIdeal.τ).loc Cert.FinalIdeal.main_arg3)) = outArr m c := by
  funext y
  idx_vars y
  exact Cert.Proof.FR.value_apply _ _ _ _ y0 y1

/-- Both run, and end with equal results. -/
theorem algebraic : Cert.algebraic_FinalIdeal_PlainFinalIdeal := fun m g m' g' _ hm' =>
  ⟨fun c => outArr m c, kernel_run m g,
    (θ_run Cert.PlainFinalIdeal.defs _ _).mono (fun _ h c => by
      obtain ⟨a0, a1, a2, a3⟩ := hm' c
      refine ⟨((h c).1.trans (Cert.Proof.FR.res_eq m' c)).trans ?_, (h c).2⟩
      rw [a0, a1, a2, a3]
      exact result_eq m c) (Cert.PlainFinalIdeal.Value.run (F := Ideal) m' g')⟩

end Cert.Proof.FI

end
-- ==== Proof.MR.Spec.lean ====
/- One row of the mixer's end, over the extended reals: the mathematics the kernel's tiles and the reference share. -/
module

public import proofs.«01_k».proof.Proof.FR.Spec

@[expose] public section

noncomputable section

namespace Cert.Proof.MR

open Idealize.ShloMosaic
open Cert.Proof.FR (rms)

/-- The sigmoid of a normed row's product with a gate's weights. -/
def gateEl (xn : Fin 1024 → EReal) (w : Fin 1024 → Fin 1024 → EReal) (b : Fin 1024 → EReal) (d : Fin 1024) : EReal :=
  Ideal.div 1 (1 + Ideal.exp (-((∑ k : Fin 1024, xn k * w k d) + b d)))

/-- A branch's row, by its weights, under its gate. -/
def termEl (xn : Fin 1024 → EReal) (w : Fin 1024 → Fin 1024 → EReal) (b : Fin 1024 → EReal) (y : Fin 256 → EReal)
    (u : Fin 256 → Fin 1024 → EReal) (d : Fin 1024) : EReal :=
  gateEl xn w b d * ∑ k : Fin 256, y k * u k d

/-- The four branches' sum. -/
def sumEl (xn : Fin 1024 → EReal) (w : Fin 4 → Fin 1024 → Fin 1024 → EReal) (b : Fin 4 → Fin 1024 → EReal) (y : Fin 4 → Fin 256 → EReal)
    (u : Fin 4 → Fin 256 → Fin 1024 → EReal) (d : Fin 1024) : EReal :=
  termEl xn (w 0) (b 0) (y 0) (u 0) d + termEl xn (w 1) (b 1) (y 1) (u 1) d + termEl xn (w 2) (b 2) (y 2) (u 2) d
    + termEl xn (w 3) (b 3) (y 3) (u 3) d

/-- The residual row with the branches' sum by the output weights. -/
def mixEl (x g : Fin 1024 → EReal) (w : Fin 4 → Fin 1024 → Fin 1024 → EReal) (b : Fin 4 → Fin 1024 → EReal) (y : Fin 4 → Fin 256 → EReal)
    (u : Fin 4 → Fin 256 → Fin 1024 → EReal) (o : Fin 1024 → Fin 1024 → EReal) (d : Fin 1024) : EReal :=
  x d + ∑ k : Fin 1024, sumEl (rms x g) w b y u k * o k d

end Cert.Proof.MR

end
-- ==== Proof.MR.Value.lean ====
/- The mixer's reference, named piece by piece, and each piece read at an index. -/
module

public import proofs.«01_k».proof.Proof.Gen.PlainMixerIdeal.Run
public import proofs.«01_k».proof.Proof.MR.Spec

@[expose] public section

set_option maxRecDepth 16384

noncomputable section

namespace Cert.Proof.MR

open Cert.PlainMixerIdeal Cert.PlainMixerIdeal.Gen
open Idealize.ShloMosaic Idealize.ShloMosaic.TcCoe Idealize.ShloMosaic.Tactic
open Cert.Proof.FR (rms)

section Terms
variable {F : FTy → Type} [FloatOps F]

/-- The norm. -/
def normed (x : FVec F S32768x1024 .f32) (g : FVec F S1024 .f32) : FVec F S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- A gate. -/
def gate (xn : FVec F S32768x1024 .f32) (w : FVec F S1024x1024 .f32) (b : FVec F S1024 .f32) : FVec F S32768x1024 .f32 :=
  Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (addf (Host.dotGeneral dot_S32768x1024_S1024x1024_S32768x1024_1_0_0_1_n_n none xn w)
        (broadcastInDim S32768x1024 ![0, 1] bcast_S1x1024_S32768x1024_0_1 (broadcastInDim S1x1024 ![1] bcast_S1024_S1x1024_1 b))))))

/-- A branch by its weights. -/
def branch (y : FVec F S32768x256 .bf16) (u : FVec F S256x1024 .f32) : FVec F S32768x1024 .f32 :=
  Host.dotGeneral dot_S32768x256_S256x1024_S32768x1024_1_0_0_1_n_n none (extf .f32 y bitsLt_bf16_f32) u

/-- The four gates' weights, their biases and the four branches' weights. -/
def gw0 (w : FVec F S4x1024x1024 .f32) : FVec F S1024x1024 .f32 :=
  shapeCast _ (extractStridedSlice S1x1024x1024 ![0, 0, 0] w slices_S4x1024x1024_S1x1024x1024_0_0_0) shapeCasts_S1x1024x1024_S1024x1024
def gb0 (b : FVec F S4x1024 .f32) : FVec F S1024 .f32 :=
  shapeCast _ (extractStridedSlice S1x1024 ![0, 0] b slices_S4x1024_S1x1024_0_0) shapeCasts_S1x1024_S1024
def bw0 (u : FVec F S4x256x1024 .f32) : FVec F S256x1024 .f32 :=
  shapeCast _ (extractStridedSlice S1x256x1024 ![0, 0, 0] u slices_S4x256x1024_S1x256x1024_0_0_0) shapeCasts_S1x256x1024_S256x1024
def gw1 (w : FVec F S4x1024x1024 .f32) : FVec F S1024x1024 .f32 :=
  shapeCast _ (extractStridedSlice S1x1024x1024 ![1, 0, 0] w slices_S4x1024x1024_S1x1024x1024_1_0_0) shapeCasts_S1x1024x1024_S1024x1024
def gb1 (b : FVec F S4x1024 .f32) : FVec F S1024 .f32 :=
  shapeCast _ (extractStridedSlice S1x1024 ![1, 0] b slices_S4x1024_S1x1024_1_0) shapeCasts_S1x1024_S1024
def bw1 (u : FVec F S4x256x1024 .f32) : FVec F S256x1024 .f32 :=
  shapeCast _ (extractStridedSlice S1x256x1024 ![1, 0, 0] u slices_S4x256x1024_S1x256x1024_1_0_0) shapeCasts_S1x256x1024_S256x1024
def gw2 (w : FVec F S4x1024x1024 .f32) : FVec F S1024x1024 .f32 :=
  shapeCast _ (extractStridedSlice S1x1024x1024 ![2, 0, 0] w slices_S4x1024x1024_S1x1024x1024_2_0_0) shapeCasts_S1x1024x1024_S1024x1024
def gb2 (b : FVec F S4x1024 .f32) : FVec F S1024 .f32 :=
  shapeCast _ (extractStridedSlice S1x1024 ![2, 0] b slices_S4x1024_S1x1024_2_0) shapeCasts_S1x1024_S1024
def bw2 (u : FVec F S4x256x1024 .f32) : FVec F S256x1024 .f32 :=
  shapeCast _ (extractStridedSlice S1x256x1024 ![2, 0, 0] u slices_S4x256x1024_S1x256x1024_2_0_0) shapeCasts_S1x256x1024_S256x1024
def gw3 (w : FVec F S4x1024x1024 .f32) : FVec F S1024x1024 .f32 :=
  shapeCast _ (extractStridedSlice S1x1024x1024 ![3, 0, 0] w slices_S4x1024x1024_S1x1024x1024_3_0_0) shapeCasts_S1x1024x1024_S1024x1024
def gb3 (b : FVec F S4x1024 .f32) : FVec F S1024 .f32 :=
  shapeCast _ (extractStridedSlice S1x1024 ![3, 0] b slices_S4x1024_S1x1024_3_0) shapeCasts_S1x1024_S1024
def bw3 (u : FVec F S4x256x1024 .f32) : FVec F S256x1024 .f32 :=
  shapeCast _ (extractStridedSlice S1x256x1024 ![3, 0, 0] u slices_S4x256x1024_S1x256x1024_3_0_0) shapeCasts_S1x256x1024_S256x1024

/-- The four branches' sum, from zero. -/
def summed (xn : FVec F S32768x1024 .f32) (y0 y1 y2 y3 : FVec F S32768x256 .bf16) (w : FVec F S4x1024x1024 .f32) (b : FVec F S4x1024 .f32)
    (u : FVec F S4x256x1024 .f32) : FVec F S32768x1024 .f32 :=
  addf (addf (addf (addf (broadcastInDim S32768x1024 ![] bcast_S_S32768x1024 (constant S_ .f32 0x00000000#32))
    (mulf (gate xn (gw0 w) (gb0 b)) (branch y0 (bw0 u)))) (mulf (gate xn (gw1 w) (gb1 b)) (branch y1 (bw1 u))))
    (mulf (gate xn (gw2 w) (gb2 b)) (branch y2 (bw2 u)))) (mulf (gate xn (gw3 w) (gb3 b)) (branch y3 (bw3 u)))

/-- The residual sum. -/
def mixed (x h : FVec F S32768x1024 .f32) (o : FVec F S1024x1024 .f32) : FVec F S32768x1024 .f32 :=
  addf x (Host.dotGeneral dot_S32768x1024_S1024x1024_S32768x1024_1_0_0_1_n_n none h o)

/-- The reference's result, as the pieces compose it. -/
theorem res_eq (m : (ℓ : Loc nD τ sig) → Buf (Elt F) ℓ) (c : Dev nD) :
    Value.res_main_v95 m c = mixed (m ((c.tc : Thread nD τ).loc main_arg0))
      (summed (normed (m ((c.tc : Thread nD τ).loc main_arg0)) (m ((c.tc : Thread nD τ).loc main_arg5)))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg6)) (m ((c.tc : Thread nD τ).loc main_arg7))
        (m ((c.tc : Thread nD τ).loc main_arg8))) (m ((c.tc : Thread nD τ).loc main_arg9)) := by
  unfold Value.res_main_v95 mixed summed gate branch normed gw0 gw1 gw2 gw3 gb0 gb1 gb2 gb3 bw0 bw1 bw2 bw3
  rfl

end Terms

theorem gw0_apply (w : FVec Ideal S4x1024x1024 .f32) (k d : Fin 1024) : gw0 w (ix2 k d) = w (ix3 0 k d) := by
  pointwise [gw0]
theorem gb0_apply (b : FVec Ideal S4x1024 .f32) (d : Fin 1024) : gb0 b (ix1 d) = b (ix2 0 d) := by
  pointwise [gb0]
theorem bw0_apply (u : FVec Ideal S4x256x1024 .f32) (k : Fin 256) (d : Fin 1024) : bw0 u (ix2 k d) = u (ix3 0 k d) := by
  pointwise [bw0]
theorem gw1_apply (w : FVec Ideal S4x1024x1024 .f32) (k d : Fin 1024) : gw1 w (ix2 k d) = w (ix3 1 k d) := by
  pointwise [gw1]
theorem gb1_apply (b : FVec Ideal S4x1024 .f32) (d : Fin 1024) : gb1 b (ix1 d) = b (ix2 1 d) := by
  pointwise [gb1]
theorem bw1_apply (u : FVec Ideal S4x256x1024 .f32) (k : Fin 256) (d : Fin 1024) : bw1 u (ix2 k d) = u (ix3 1 k d) := by
  pointwise [bw1]
theorem gw2_apply (w : FVec Ideal S4x1024x1024 .f32) (k d : Fin 1024) : gw2 w (ix2 k d) = w (ix3 2 k d) := by
  pointwise [gw2]
theorem gb2_apply (b : FVec Ideal S4x1024 .f32) (d : Fin 1024) : gb2 b (ix1 d) = b (ix2 2 d) := by
  pointwise [gb2]
theorem bw2_apply (u : FVec Ideal S4x256x1024 .f32) (k : Fin 256) (d : Fin 1024) : bw2 u (ix2 k d) = u (ix3 2 k d) := by
  pointwise [bw2]
theorem gw3_apply (w : FVec Ideal S4x1024x1024 .f32) (k d : Fin 1024) : gw3 w (ix2 k d) = w (ix3 3 k d) := by
  pointwise [gw3]
theorem gb3_apply (b : FVec Ideal S4x1024 .f32) (d : Fin 1024) : gb3 b (ix1 d) = b (ix2 3 d) := by
  pointwise [gb3]
theorem bw3_apply (u : FVec Ideal S4x256x1024 .f32) (k : Fin 256) (d : Fin 1024) : bw3 u (ix2 k d) = u (ix3 3 k d) := by
  pointwise [bw3]

theorem normed_apply (x : FVec Ideal S32768x1024 .f32) (g : FVec Ideal S1024 .f32) (i : Fin 32768) (d : Fin 1024) :
    normed x g (ix2 i d) = rms (fun k => x (ix2 i k)) (fun k => g (ix1 k)) d := by
  pointwise [normed]
  rfl

theorem gate_apply (xn : FVec Ideal S32768x1024 .f32) (w : FVec Ideal S1024x1024 .f32) (b : FVec Ideal S1024 .f32) (i : Fin 32768) (d : Fin 1024) :
    gate xn w b (ix2 i d) = gateEl (fun k => xn (ix2 i k)) (fun k d => w (ix2 k d)) (fun d => b (ix1 d)) d := by
  pointwise [gate]
  rfl

theorem branch_apply (y : FVec Ideal S32768x256 .bf16) (u : FVec Ideal S256x1024 .f32) (i : Fin 32768) (d : Fin 1024) :
    branch y u (ix2 i d) = ∑ k : Fin 256, y (ix2 i k) * u (ix2 k d) := by
  pointwise [branch]

/-- The branches of a row, by their number. -/
def branches (y0 y1 y2 y3 : FVec Ideal S32768x256 .bf16) (i : Fin 32768) : Fin 4 → Fin 256 → EReal :=
  ![fun k => y0 (ix2 i k), fun k => y1 (ix2 i k), fun k => y2 (ix2 i k), fun k => y3 (ix2 i k)]

theorem summed_apply (xn : FVec Ideal S32768x1024 .f32) (y0 y1 y2 y3 : FVec Ideal S32768x256 .bf16) (w : FVec Ideal S4x1024x1024 .f32)
    (b : FVec Ideal S4x1024 .f32) (u : FVec Ideal S4x256x1024 .f32) (i : Fin 32768) (d : Fin 1024) :
    summed xn y0 y1 y2 y3 w b u (ix2 i d) = sumEl (fun k => xn (ix2 i k)) (fun a k d => w (ix3 a k d)) (fun a d => b (ix2 a d))
      (branches y0 y1 y2 y3 i) (fun a k d => u (ix3 a k d)) d := by
  pointwise [summed, gate_apply, branch_apply, gw0_apply, gw1_apply, gw2_apply, gw3_apply, gb0_apply, gb1_apply, gb2_apply, gb3_apply, bw0_apply,
    bw1_apply, bw2_apply, bw3_apply]
  rfl

/-- The result's element: the residual row `i` with its mixed branches. -/
def outEl (x : FVec Ideal S32768x1024 .f32) (y0 y1 y2 y3 : FVec Ideal S32768x256 .bf16) (g : FVec Ideal S1024 .f32) (w : FVec Ideal S4x1024x1024 .f32)
    (b : FVec Ideal S4x1024 .f32) (u : FVec Ideal S4x256x1024 .f32) (o : FVec Ideal S1024x1024 .f32) (i : Fin 32768) (d : Fin 1024) : EReal :=
  mixEl (fun k => x (ix2 i k)) (fun k => g (ix1 k)) (fun a k d => w (ix3 a k d)) (fun a d => b (ix2 a d)) (branches y0 y1 y2 y3 i)
    (fun a k d => u (ix3 a k d)) (fun k d => o (ix2 k d)) d

/-- The reference's element. -/
theorem value_apply (x : FVec Ideal S32768x1024 .f32) (y0 y1 y2 y3 : FVec Ideal S32768x256 .bf16) (g : FVec Ideal S1024 .f32) (w : FVec Ideal S4x1024x1024 .f32)
    (b : FVec Ideal S4x1024 .f32) (u : FVec Ideal S4x256x1024 .f32) (o : FVec Ideal S1024x1024 .f32) (i : Fin 32768) (d : Fin 1024) :
    mixed (F := Ideal) x (summed (normed x g) y0 y1 y2 y3 w b u) o (ix2 i d) = outEl x y0 y1 y2 y3 g w b u o i d := by
  pointwise [mixed, summed_apply, normed_apply]
  rfl

end Cert.Proof.MR

end
-- ==== Proof.MI.Tile.lean ====
/- What the mixer's body leaves in its first result's block, over the extended reals. -/
module

public import proofs.«01_k».proof.Proof.Gen.MixerIdeal.Value
public import proofs.«01_k».proof.Proof.MR.Value
public import Idealize.ShloMosaic.Lib.Pipeline.ValueKit

@[expose] public section

set_option maxRecDepth 16384

noncomputable section

namespace Cert.Proof.MI

open Cert.MixerIdeal Cert.MixerIdeal.Gen
open Idealize.ShloMosaic Idealize.ShloMosaic.TcCoe Idealize.ShloMosaic.Tactic
open Cert.Proof.FR (rms)
open Cert.Proof.MR (gateEl termEl sumEl mixEl)

/-! ## The body's parts -/

/-- The normed row. -/
theorem norm_apply (x : Vec Ideal S512x1024 .f32) (g : Vec Ideal S1x1024 .f32) (i : Fin 512) (d : Fin 1024) :
    k0_pay4 (F := Ideal) x g (ix2 i d) = rms (fun k => x (ix2 i k)) (fun k => g (ix2 0 k)) d := by
  pointwise [k0_pay4]
  rfl

/-- The first gate. -/
theorem gate_apply (x : Vec Ideal S512x1024 .f32) (g : Vec Ideal S1x1024 .f32) (w : Vec Ideal S1x1024x1024 .bf16) (b : Vec Ideal S1x1x1024 .f32)
    (i : Fin 512) (d : Fin 1024) :
    k0_pay5 (F := Ideal) x g w b (ix2 i d)
      = gateEl (rms (fun k => x (ix2 i k)) (fun k => g (ix2 0 k))) (fun k d => w (ix3 0 k d)) (fun d => b (ix3 0 0 d)) d := by
  unfold gateEl
  simp only [← norm_apply]
  pointwise [k0_pay5]
  simp only [zero_sub]

/-- The first two branches' sum. -/
theorem two_apply (xn : FVec Ideal S512x1024 .bf16) (g0 : FVec Ideal S512x1024 .f32) (y0 : Vec Ideal S512x256 .bf16) (u0 : Vec Ideal S1x256x1024 .bf16)
    (w1 : Vec Ideal S1x1024x1024 .bf16) (b1 : Vec Ideal S1x1x1024 .f32) (y1 : Vec Ideal S512x256 .bf16) (u1 : Vec Ideal S1x256x1024 .bf16)
    (i : Fin 512) (d : Fin 1024) :
    k0_pay6 (F := Ideal) xn g0 y0 u0 w1 b1 y1 u1 (ix2 i d)
      = g0 (ix2 i d) * (∑ k : Fin 256, y0 (ix2 i k) * u0 (ix3 0 k d))
        + termEl (fun k => xn (ix2 i k)) (fun k d => w1 (ix3 0 k d)) (fun d => b1 (ix3 0 0 d)) (fun k => y1 (ix2 i k)) (fun k d => u1 (ix3 0 k d)) d := by
  pointwise [k0_pay6]
  simp only [zero_sub]
  rfl

/-- The third gate's exponential. -/
theorem exp_apply (xn : FVec Ideal S512x1024 .bf16) (w : Vec Ideal S1x1024x1024 .bf16) (b : Vec Ideal S1x1x1024 .f32) (i : Fin 512) (d : Fin 1024) :
    k0_pay7 (F := Ideal) xn w b (ix2 i d) = Ideal.exp (-((∑ k : Fin 1024, xn (ix2 i k) * w (ix3 0 k d)) + b (ix3 0 0 d))) := by
  pointwise [k0_pay7]
  simp only [zero_sub]

/-- The four branches' sum by the output weights. -/
theorem proj_apply (xn : FVec Ideal S512x1024 .bf16) (s e : FVec Ideal S512x1024 .f32) (y2 : Vec Ideal S512x256 .bf16) (u2 : Vec Ideal S1x256x1024 .bf16)
    (w3 : Vec Ideal S1x1024x1024 .bf16) (b3 : Vec Ideal S1x1x1024 .f32) (y3 : Vec Ideal S512x256 .bf16) (u3 : Vec Ideal S1x256x1024 .bf16)
    (o : Vec Ideal S1024x1024 .bf16) (i : Fin 512) (d : Fin 1024) :
    k0_pay8 (F := Ideal) xn s e (FloatOps.ofBits FTy.f32 1065353216#32) y2 u2 w3 b3 y3 u3 o (ix2 i d)
      = ∑ n : Fin 1024, (s (ix2 i n) + Ideal.div 1 (1 + e (ix2 i n)) * (∑ k : Fin 256, y2 (ix2 i k) * u2 (ix3 0 k n))
        + termEl (fun k => xn (ix2 i k)) (fun k d => w3 (ix3 0 k d)) (fun d => b3 (ix3 0 0 d)) (fun k => y3 (ix2 i k)) (fun k d => u3 (ix3 0 k d)) n)
          * o (ix2 n d) := by
  pointwise [k0_pay8]
  simp only [zero_sub]
  rfl

/-- The residual sum. -/
theorem add_apply (x : Vec Ideal S512x1024 .f32) (p : FVec Ideal S512x1024 .f32) (i : Fin 512) (d : Fin 1024) :
    k0_pay9 (F := Ideal) x p (ix2 i d) = x (ix2 i d) + p (ix2 i d) := by
  pointwise [k0_pay9]

/-! ## The loads -/

theorem ld_w0 (x : Vec Ideal S4x1024x1024 .bf16) (k : Fin 1024) (d : Fin 1024) :
    View.ld x (Rect.unit ![0, 0, 0] S1x1024x1024.size inb_S4x1024x1024_S1x1024x1024_0_0_0) (ix3 0 k d) = x (ix3 0 k d) := by
  refine congrArg x (funext fun a => ?_)
  fin_cases a <;> exact Fin.ext (by simp [LoadRect.idx, Rect.unit, Rect.toLoadRect, ix3])
theorem ld_w1 (x : Vec Ideal S4x1024x1024 .bf16) (k : Fin 1024) (d : Fin 1024) :
    View.ld x (Rect.unit ![1, 0, 0] S1x1024x1024.size inb_S4x1024x1024_S1x1024x1024_1_0_0) (ix3 0 k d) = x (ix3 1 k d) := by
  refine congrArg x (funext fun a => ?_)
  fin_cases a <;> exact Fin.ext (by simp [LoadRect.idx, Rect.unit, Rect.toLoadRect, ix3])
theorem ld_w2 (x : Vec Ideal S4x1024x1024 .bf16) (k : Fin 1024) (d : Fin 1024) :
    View.ld x (Rect.unit ![2, 0, 0] S1x1024x1024.size inb_S4x1024x1024_S1x1024x1024_2_0_0) (ix3 0 k d) = x (ix3 2 k d) := by
  refine congrArg x (funext fun a => ?_)
  fin_cases a <;> exact Fin.ext (by simp [LoadRect.idx, Rect.unit, Rect.toLoadRect, ix3])
theorem ld_w3 (x : Vec Ideal S4x1024x1024 .bf16) (k : Fin 1024) (d : Fin 1024) :
    View.ld x (Rect.unit ![3, 0, 0] S1x1024x1024.size inb_S4x1024x1024_S1x1024x1024_3_0_0) (ix3 0 k d) = x (ix3 3 k d) := by
  refine congrArg x (funext fun a => ?_)
  fin_cases a <;> exact Fin.ext (by simp [LoadRect.idx, Rect.unit, Rect.toLoadRect, ix3])
theorem ld_u0 (x : Vec Ideal S4x256x1024 .bf16) (k : Fin 256) (d : Fin 1024) :
    View.ld x (Rect.unit ![0, 0, 0] S1x256x1024.size inb_S4x256x1024_S1x256x1024_0_0_0) (ix3 0 k d) = x (ix3 0 k d) := by
  refine congrArg x (funext fun a => ?_)
  fin_cases a <;> exact Fin.ext (by simp [LoadRect.idx, Rect.unit, Rect.toLoadRect, ix3])
theorem ld_u1 (x : Vec Ideal S4x256x1024 .bf16) (k : Fin 256) (d : Fin 1024) :
    View.ld x (Rect.unit ![1, 0, 0] S1x256x1024.size inb_S4x256x1024_S1x256x1024_1_0_0) (ix3 0 k d) = x (ix3 1 k d) := by
  refine congrArg x (funext fun a => ?_)
  fin_cases a <;> exact Fin.ext (by simp [LoadRect.idx, Rect.unit, Rect.toLoadRect, ix3])
theorem ld_u2 (x : Vec Ideal S4x256x1024 .bf16) (k : Fin 256) (d : Fin 1024) :
    View.ld x (Rect.unit ![2, 0, 0] S1x256x1024.size inb_S4x256x1024_S1x256x1024_2_0_0) (ix3 0 k d) = x (ix3 2 k d) := by
  refine congrArg x (funext fun a => ?_)
  fin_cases a <;> exact Fin.ext (by simp [LoadRect.idx, Rect.unit, Rect.toLoadRect, ix3])
theorem ld_u3 (x : Vec Ideal S4x256x1024 .bf16) (k : Fin 256) (d : Fin 1024) :
    View.ld x (Rect.unit ![3, 0, 0] S1x256x1024.size inb_S4x256x1024_S1x256x1024_3_0_0) (ix3 0 k d) = x (ix3 3 k d) := by
  refine congrArg x (funext fun a => ?_)
  fin_cases a <;> exact Fin.ext (by simp [LoadRect.idx, Rect.unit, Rect.toLoadRect, ix3])
theorem ld_b0 (x : Vec Ideal S4x1x1024 .f32) (d : Fin 1024) :
    View.ld x (Rect.unit ![0, 0, 0] S1x1x1024.size inb_S4x1x1024_S1x1x1024_0_0_0) (ix3 0 0 d) = x (ix3 0 0 d) := by
  refine congrArg x (funext fun a => ?_)
  fin_cases a <;> exact Fin.ext (by simp [LoadRect.idx, Rect.unit, Rect.toLoadRect, ix3])
theorem ld_b1 (x : Vec Ideal S4x1x1024 .f32) (d : Fin 1024) :
    View.ld x (Rect.unit ![1, 0, 0] S1x1x1024.size inb_S4x1x1024_S1x1x1024_1_0_0) (ix3 0 0 d) = x (ix3 1 0 d) := by
  refine congrArg x (funext fun a => ?_)
  fin_cases a <;> exact Fin.ext (by simp [LoadRect.idx, Rect.unit, Rect.toLoadRect, ix3])
theorem ld_b2 (x : Vec Ideal S4x1x1024 .f32) (d : Fin 1024) :
    View.ld x (Rect.unit ![2, 0, 0] S1x1x1024.size inb_S4x1x1024_S1x1x1024_2_0_0) (ix3 0 0 d) = x (ix3 2 0 d) := by
  refine congrArg x (funext fun a => ?_)
  fin_cases a <;> exact Fin.ext (by simp [LoadRect.idx, Rect.unit, Rect.toLoadRect, ix3])
theorem ld_b3 (x : Vec Ideal S4x1x1024 .f32) (d : Fin 1024) :
    View.ld x (Rect.unit ![3, 0, 0] S1x1x1024.size inb_S4x1x1024_S1x1x1024_3_0_0) (ix3 0 0 d) = x (ix3 3 0 d) := by
  refine congrArg x (funext fun a => ?_)
  fin_cases a <;> exact Fin.ext (by simp [LoadRect.idx, Rect.unit, Rect.toLoadRect, ix3])

/-- The branches' sum by the output weights, from the body's operands' blocks. -/
def projd (x : Vec Ideal S512x1024 .f32) (y0 y1 y2 y3 : Vec Ideal S512x256 .bf16) (g : Vec Ideal S1x1024 .f32) (w : Vec Ideal S4x1024x1024 .bf16)
    (b : Vec Ideal S4x1x1024 .f32) (u : Vec Ideal S4x256x1024 .bf16) (o : Vec Ideal S1024x1024 .bf16) : FVec Ideal S512x1024 .f32 :=
  k0_pay8 (k0_pay4 x g)
    (k0_pay6 (k0_pay4 x g)
      (k0_pay5 x g (View.ld w (Rect.unit ![0, 0, 0] S1x1024x1024.size inb_S4x1024x1024_S1x1024x1024_0_0_0))
        (View.ld b (Rect.unit ![0, 0, 0] S1x1x1024.size inb_S4x1x1024_S1x1x1024_0_0_0)))
      y0 (View.ld u (Rect.unit ![0, 0, 0] S1x256x1024.size inb_S4x256x1024_S1x256x1024_0_0_0))
      (View.ld w (Rect.unit ![1, 0, 0] S1x1024x1024.size inb_S4x1024x1024_S1x1024x1024_1_0_0))
      (View.ld b (Rect.unit ![1, 0, 0] S1x1x1024.size inb_S4x1x1024_S1x1x1024_1_0_0))
      y1 (View.ld u (Rect.unit ![1, 0, 0] S1x256x1024.size inb_S4x256x1024_S1x256x1024_1_0_0)))
    (k0_pay7 (k0_pay4 x g) (View.ld w (Rect.unit ![2, 0, 0] S1x1024x1024.size inb_S4x1024x1024_S1x1024x1024_2_0_0))
      (View.ld b (Rect.unit ![2, 0, 0] S1x1x1024.size inb_S4x1x1024_S1x1x1024_2_0_0)))
    (FloatOps.ofBits FTy.f32 1065353216#32) y2 (View.ld u (Rect.unit ![2, 0, 0] S1x256x1024.size inb_S4x256x1024_S1x256x1024_2_0_0))
    (View.ld w (Rect.unit ![3, 0, 0] S1x1024x1024.size inb_S4x1024x1024_S1x1024x1024_3_0_0))
    (View.ld b (Rect.unit ![3, 0, 0] S1x1x1024.size inb_S4x1x1024_S1x1x1024_3_0_0))
    y3 (View.ld u (Rect.unit ![3, 0, 0] S1x256x1024.size inb_S4x256x1024_S1x256x1024_3_0_0)) o

/-- What the body leaves in the block. -/
def left (x : Vec Ideal S512x1024 .f32) (y0 y1 y2 y3 : Vec Ideal S512x256 .bf16) (g : Vec Ideal S1x1024 .f32) (w : Vec Ideal S4x1024x1024 .bf16)
    (b : Vec Ideal S4x1x1024 .f32) (u : Vec Ideal S4x256x1024 .bf16) (o : Vec Ideal S1024x1024 .bf16) : FVec Ideal S512x1024 .f32 :=
  k0_pay9 x (projd x y0 y1 y2 y3 g w b u o)

/-- … at an index. -/
theorem left_apply (x : Vec Ideal S512x1024 .f32) (y0 y1 y2 y3 : Vec Ideal S512x256 .bf16) (g : Vec Ideal S1x1024 .f32) (w : Vec Ideal S4x1024x1024 .bf16)
    (b : Vec Ideal S4x1x1024 .f32) (u : Vec Ideal S4x256x1024 .bf16) (o : Vec Ideal S1024x1024 .bf16) (i : Fin 512) (d : Fin 1024) :
    left x y0 y1 y2 y3 g w b u o (ix2 i d)
      = mixEl (fun k => x (ix2 i k)) (fun k => g (ix2 0 k)) (fun a k d => w (ix3 a k d)) (fun a d => b (ix3 a 0 d))
        ![fun k => y0 (ix2 i k), fun k => y1 (ix2 i k), fun k => y2 (ix2 i k), fun k => y3 (ix2 i k)]
        (fun a k d => u (ix3 a k d)) (fun k d => o (ix2 k d)) d := by
  unfold left projd
  refine (add_apply _ _ i d).trans ?_
  unfold mixEl
  refine congrArg (x (ix2 i d) + ·) ((proj_apply _ _ _ _ _ _ _ _ _ _ i d).trans (Finset.sum_congr rfl fun n _ => congrArg (· * o (ix2 n d)) ?_))
  have hn : (fun k => k0_pay4 (F := Ideal) x g (ix2 i k)) = rms (fun k => x (ix2 i k)) (fun k => g (ix2 0 k)) := funext fun k => norm_apply x g i k
  rw [two_apply, gate_apply, exp_apply]
  refine congrArg₂ (· + ·) (congrArg₂ (· + ·) (congrArg₂ (· + ·) ?_ ?_) ?_) ?_
  · exact congrFun (congr (congr (congr (congr (congrArg termEl rfl) (funext fun k => funext fun d => ld_w0 w k d)) (funext fun d => ld_b0 b d)) rfl) (funext fun k => funext fun d => ld_u0 u k d)) n
  · exact congrFun (congr (congr (congr (congr (congrArg termEl hn) (funext fun k => funext fun d => ld_w1 w k d)) (funext fun d => ld_b1 b d)) rfl) (funext fun k => funext fun d => ld_u1 u k d)) n
  · exact congrFun (congr (congr (congr (congr (congrArg termEl hn) (funext fun k => funext fun d => ld_w2 w k d)) (funext fun d => ld_b2 b d)) rfl) (funext fun k => funext fun d => ld_u2 u k d)) n
  · exact congrFun (congr (congr (congr (congr (congrArg termEl hn) (funext fun k => funext fun d => ld_w3 w k d)) (funext fun d => ld_b3 b d)) rfl) (funext fun k => funext fun d => ld_u3 u k d)) n

/-! ## The blocks -/

theorem ix_0 : ∀ t : Fin cfg0.N, win0_0.index t = ![t.val, 0] := by decide +kernel
theorem ix_1 : ∀ t : Fin cfg0.N, win0_1.index t = ![t.val, 0] := by decide +kernel
theorem ix_2 : ∀ t : Fin cfg0.N, win0_2.index t = ![t.val, 0] := by decide +kernel
theorem ix_3 : ∀ t : Fin cfg0.N, win0_3.index t = ![t.val, 0] := by decide +kernel
theorem ix_4 : ∀ t : Fin cfg0.N, win0_4.index t = ![t.val, 0] := by decide +kernel
theorem ix_5 : ∀ t : Fin cfg0.N, win0_5.index t = ![0, 0] := by decide +kernel
theorem ix_6 : ∀ t : Fin cfg0.N, win0_6.index t = ![0, 0, 0] := by decide +kernel
theorem ix_7 : ∀ t : Fin cfg0.N, win0_7.index t = ![0, 0, 0] := by decide +kernel
theorem ix_8 : ∀ t : Fin cfg0.N, win0_8.index t = ![0, 0, 0] := by decide +kernel
theorem ix_9 : ∀ t : Fin cfg0.N, win0_9.index t = ![0, 0] := by decide +kernel
theorem ix_13 : ∀ t : Fin cfg0.N, win0_13.index t = ![t.val, 0] := by decide +kernel

/-- A grid point's row in the arrays. -/
abbrev row (t : Fin cfg0.N) (i : Fin 512) : Fin 32768 := ⟨t.val * 512 + i.val, by have h : t.val < 64 := t.isLt; omega⟩

variable (t : Fin cfg0.N) (i : Fin 512)

theorem blk_x (A : Vec Ideal S32768x1024 .f32) (k : Fin 1024) : (win0_0.blk t).view.read (Elt Ideal) A (ix2 i k) = A (ix2 (row t i) k) := by
  blk_ext [ix_0 t]
theorem blk_y0 (A : Vec Ideal S32768x256 .bf16) (k : Fin 256) : (win0_1.blk t).view.read (Elt Ideal) A (ix2 i k) = A (ix2 (row t i) k) := by
  blk_ext [ix_1 t]
theorem blk_y1 (A : Vec Ideal S32768x256 .bf16) (k : Fin 256) : (win0_2.blk t).view.read (Elt Ideal) A (ix2 i k) = A (ix2 (row t i) k) := by
  blk_ext [ix_2 t]
theorem blk_y2 (A : Vec Ideal S32768x256 .bf16) (k : Fin 256) : (win0_3.blk t).view.read (Elt Ideal) A (ix2 i k) = A (ix2 (row t i) k) := by
  blk_ext [ix_3 t]
theorem blk_y3 (A : Vec Ideal S32768x256 .bf16) (k : Fin 256) : (win0_4.blk t).view.read (Elt Ideal) A (ix2 i k) = A (ix2 (row t i) k) := by
  blk_ext [ix_4 t]
theorem blk_g (A : Vec Ideal S1x1024 .f32) (k : Fin 1024) : (win0_5.blk t).view.read (Elt Ideal) A (ix2 0 k) = A (ix2 0 k) := by
  blk_ext [ix_5 t]
theorem blk_w (A : Vec Ideal S4x1024x1024 .bf16) (a : Fin 4) (k d : Fin 1024) :
    (win0_6.blk t).view.read (Elt Ideal) A (ix3 a k d) = A (ix3 a k d) := by
  blk_ext [ix_6 t]
theorem blk_b (A : Vec Ideal S4x1x1024 .f32) (a : Fin 4) (d : Fin 1024) : (win0_7.blk t).view.read (Elt Ideal) A (ix3 a 0 d) = A (ix3 a 0 d) := by
  blk_ext [ix_7 t]
theorem blk_u (A : Vec Ideal S4x256x1024 .bf16) (a : Fin 4) (k : Fin 256) (d : Fin 1024) :
    (win0_8.blk t).view.read (Elt Ideal) A (ix3 a k d) = A (ix3 a k d) := by
  blk_ext [ix_8 t]
theorem blk_wo (A : Vec Ideal S1024x1024 .bf16) (k d : Fin 1024) : (win0_9.blk t).view.read (Elt Ideal) A (ix2 k d) = A (ix2 k d) := by
  blk_ext [ix_9 t]
theorem blk_o (A : Vec Ideal S32768x1024 .f32) (k : Fin 1024) : A ((win0_13.blk t).view.emb (ix2 i k)) = A (ix2 (row t i) k) := by
  blk_ext [ix_13 t]

end Cert.Proof.MI

end
-- ==== Proof.MI.Array.lean ====
/- The mixer's first result, over the extended reals: every row of it the specification's. -/
module

public import proofs.«01_k».proof.Proof.MI.Tile

@[expose] public section

set_option maxRecDepth 16384

noncomputable section

namespace Cert.Proof.MI

open Cert.MixerIdeal Cert.MixerIdeal.Gen
open Idealize.ShloMosaic Idealize.ShloMosaic.TcCoe Idealize.ShloMosaic.Tactic
open Cert.Proof.MR (outEl mixEl branches)

variable (m : (ℓ : Loc nD τ sig) → Buf (Elt Ideal) ℓ) (c : Dev nD)

/-- The result, element by element. -/
def outArr : Vec Ideal S32768x1024 .f32 := fun y =>
  outEl (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (y 0) (y 1)

/-! The gain and the weights the call reads are the arguments'. -/

theorem gain_apply (k : Fin 1024) : (V m c main_v10 : Vec Ideal S1x1024 .f32) (ix2 0 k) = (m ((c.tc : Thread nD τ).loc main_arg5) : Vec Ideal S1024 .f32) (ix1 k) := by
  simp only [V, hostOps0, hostOps0_1, hostOps0_2, List.flatten_cons, List.flatten_nil, List.append_nil, List.cons_append, List.nil_append]
  entry_read
  pointwise
theorem gates_apply (a : Fin 4) (k d : Fin 1024) : (V m c main_v11 : Vec Ideal S4x1024x1024 .bf16) (ix3 a k d)
    = (m ((c.tc : Thread nD τ).loc main_arg6) : Vec Ideal S4x1024x1024 .f32) (ix3 a k d) := by
  simp only [V, hostOps0, hostOps0_1, hostOps0_2, List.flatten_cons, List.flatten_nil, List.append_nil, List.cons_append, List.nil_append]
  entry_read
  pointwise
theorem biases_apply (a : Fin 4) (d : Fin 1024) : (V m c main_v12 : Vec Ideal S4x1x1024 .f32) (ix3 a 0 d)
    = (m ((c.tc : Thread nD τ).loc main_arg7) : Vec Ideal S4x1024 .f32) (ix2 a d) := by
  simp only [V, hostOps0, hostOps0_1, hostOps0_2, List.flatten_cons, List.flatten_nil, List.append_nil, List.cons_append, List.nil_append]
  entry_read
  pointwise
theorem branches_apply (a : Fin 4) (k : Fin 256) (d : Fin 1024) : (V m c main_v13 : Vec Ideal S4x256x1024 .bf16) (ix3 a k d)
    = (m ((c.tc : Thread nD τ).loc main_arg8) : Vec Ideal S4x256x1024 .f32) (ix3 a k d) := by
  simp only [V, hostOps0, hostOps0_1, hostOps0_2, List.flatten_cons, List.flatten_nil, List.append_nil, List.cons_append, List.nil_append]
  entry_read
  pointwise
theorem output_apply (k d : Fin 1024) : (V m c main_v14 : Vec Ideal S1024x1024 .bf16) (ix2 k d)
    = (m ((c.tc : Thread nD τ).loc main_arg9) : Vec Ideal S1024x1024 .f32) (ix2 k d) := by
  simp only [V, hostOps0, hostOps0_1, hostOps0_2, List.flatten_cons, List.flatten_nil, List.append_nil, List.cons_append, List.nil_append]
  entry_read
  pointwise

/-- What the body leaves at a point, the first or a later one. -/
theorem outs_eq (t : Fin cfg0.N) : (outsAt0 m c t.val t.isLt).1
    = left (iblk m c 0 t) (iblk m c 1 t) (iblk m c 2 t) (iblk m c 3 t) (iblk m c 4 t) (iblk m c 5 t) (iblk m c 6 t) (iblk m c 7 t) (iblk m c 8 t) (iblk m c 9 t) := by
  by_cases h : t.val % 64 = 0
  · rw [outsAt0_A m c t h]
    dsimp only
    frame_out
    rfl
  · rw [outsAt0_B m c t h]
    dsimp only
    frame_out
    rfl

/-- … is the specification's rows. -/
theorem out_point (t : Fin cfg0.N) (i : Fin 512) (d : Fin 1024) :
    (outsAt0 m c t.val t.isLt).1 (ix2 i d) = outArr m c (ix2 (row t i) d) := by
  refine ((congrFun (outs_eq m c t) _).trans (left_apply _ _ _ _ _ _ _ _ _ _ i d)).trans ?_
  unfold outArr outEl branches
  refine congrFun (congr (congr (congr (congr (congr (congr (congrArg mixEl ?_) ?_) ?_) ?_) ?_) ?_) ?_) d
  · exact funext fun k => (blk_x t i (V m c main_arg0) k).trans (congrFun (V_main_arg0 m c) _)
  · exact funext fun k => (blk_g t (V m c main_v10) k).trans (gain_apply m c k)
  · exact funext fun a => funext fun k => funext fun d => (blk_w t (V m c main_v11) a k d).trans (gates_apply m c a k d)
  · exact funext fun a => funext fun d => (blk_b t (V m c main_v12) a d).trans (biases_apply m c a d)
  · refine funext fun a => ?_
    fin_cases a
    · exact funext fun k => (blk_y0 t i (V m c main_arg1) k).trans (congrFun (V_main_arg1 m c) _)
    · exact funext fun k => (blk_y1 t i (V m c main_arg2) k).trans (congrFun (V_main_arg2 m c) _)
    · exact funext fun k => (blk_y2 t i (V m c main_arg3) k).trans (congrFun (V_main_arg3 m c) _)
    · exact funext fun k => (blk_y3 t i (V m c main_arg4) k).trans (congrFun (V_main_arg4 m c) _)
  · exact funext fun a => funext fun k => funext fun d => (blk_u t (V m c main_v13) a k d).trans (branches_apply m c a k d)
  · exact funext fun k => funext fun d => (blk_wo t (V m c main_v14) k d).trans (output_apply m c k d)

/-- What the body leaves at a point is the array's block. -/
theorem out_block (t : Fin cfg0.N) (y : S512x1024.Idx) : (outsAt0 m c t.val t.isLt).1 y = outArr m c ((win0_13.blk t).view.emb y) := by
  idx_vars y
  have e1 := out_point m c t y0 y1
  have e2 := blk_o t y0 (outArr m c) y1
  exact e1.trans e2.symm

/-- What the call writes back. -/
theorem arr_out : (dats m 0 c).arrAt 13 cfg0.N = outArr m c := by
  refine (dats m 0 c).arrAt_eq_of_covers 13 _ (by decide +kernel) fun t _ y => ?_
  blk_simp
  rw [after0_13]
  idx_vars y
  have h := out_block m c t (ix2 y0 y1)
  generalize outArr m c = A at *
  exact h

end Cert.Proof.MI

end
-- ==== Proof.MR.Planes.lean ====
/- The mixer's second result in the reference: the residual sum normed for the experts, in quarters. -/
module

public import proofs.«01_k».proof.Proof.MR.Value

@[expose] public section

set_option maxRecDepth 16384

noncomputable section

namespace Cert.Proof.MR

open Cert.PlainMixerIdeal Cert.PlainMixerIdeal.Gen
open Idealize.ShloMosaic Idealize.ShloMosaic.TcCoe Idealize.ShloMosaic.Tactic
open Cert.Proof.FR (rms)

section Terms
variable {F : FTy → Type} [FloatOps F]

/-- Rows in planes: each row's two halves, and each half's two quarters. -/
def planes (x : FVec F S32768x1024 .f32) : FVec F S2x2x32768x256 .bf16 :=
  truncf .bf16 (transpose S2x2x32768x256 [1, 2, 0, 3] (shapeCast _ x shapeCasts_S32768x1024_S32768x2x2x256)
    transposes_S32768x2x2x256_S2x2x32768x256_1_2_0_3) bitsLt_bf16_f32

/-- The reference's second result is its first one, normed and in planes. -/
theorem next_eq (m : (ℓ : Loc nD τ sig) → Buf (Elt F) ℓ) (c : Dev nD) :
    Value.res_main_v111 m c = planes (normed (Value.res_main_v95 m c) (m ((c.tc : Thread nD τ).loc main_arg10))) := by
  unfold Value.res_main_v111 Value.res_main_v95 planes normed
  rfl

end Terms

/-- The column of a plane's element in its row. -/
abbrev col (p q : Fin 2) (k : Fin 256) : Fin 1024 := ⟨p.val * 512 + q.val * 256 + k.val, by omega⟩

theorem planes_apply (x : FVec Ideal S32768x1024 .f32) (p q : Fin 2) (i : Fin 32768) (k : Fin 256) :
    planes x (ix4 p q i k) = x (ix2 i (col p q k)) := by
  pointwise [planes]

/-- The second result's element: the first one's row, normed. -/
def nextEl (x : FVec Ideal S32768x1024 .f32) (g : FVec Ideal S1024 .f32) (p q : Fin 2) (i : Fin 32768) (k : Fin 256) : EReal :=
  rms (fun d => x (ix2 i d)) (fun d => g (ix1 d)) (col p q k)

/-- The reference's element. -/
theorem next_apply (x : FVec Ideal S32768x1024 .f32) (g : FVec Ideal S1024 .f32) (p q : Fin 2) (i : Fin 32768) (k : Fin 256) :
    planes (normed x g) (ix4 p q i k) = nextEl x g p q i k :=
  (planes_apply _ p q i k).trans (normed_apply x g i _)

end Cert.Proof.MR

end
-- ==== Proof.MI.Planes.lean ====
/- The mixer's second result, over the extended reals: the first one's rows, normed and in planes. -/
module

public import proofs.«01_k».proof.Proof.MI.Array
public import proofs.«01_k».proof.Proof.MR.Planes

@[expose] public section

set_option maxRecDepth 16384

noncomputable section

namespace Cert.Proof.MI

open Cert.MixerIdeal Cert.MixerIdeal.Gen
open Idealize.ShloMosaic Idealize.ShloMosaic.TcCoe Idealize.ShloMosaic.Tactic
open Cert.Proof.FR (rms)
open Cert.Proof.MR (col nextEl)

/-! ## The body's parts -/

/-- The residual sum's row, normed. -/
theorem next_norm (x : Vec Ideal S512x1024 .f32) (p : FVec Ideal S512x1024 .f32) (g : Vec Ideal S1x1024 .f32) (i : Fin 512) (d : Fin 1024) :
    k0_pay10 (F := Ideal) x p g (ix2 i d) = rms (fun k => k0_pay9 (F := Ideal) x p (ix2 i k)) (fun k => g (ix2 0 k)) d := by
  pointwise [k0_pay10]
  rfl

/-! Its four quarters. -/

theorem next_00 (x : Vec Ideal S512x1024 .f32) (p : FVec Ideal S512x1024 .f32) (g : Vec Ideal S1x1024 .f32) (i : Fin 512) (l : Fin 256) :
    k0_pay11 (F := Ideal) x p g (ix4 0 0 i l) = k0_pay10 (F := Ideal) x p g (ix2 i ⟨l.val, by omega⟩) := by
  pointwise [k0_pay11]
theorem next_10 (x : Vec Ideal S512x1024 .f32) (p : FVec Ideal S512x1024 .f32) (g : Vec Ideal S1x1024 .f32) (i : Fin 512) (l : Fin 256) :
    k0_pay12 (F := Ideal) x p g (ix4 0 0 i l) = k0_pay10 (F := Ideal) x p g (ix2 i ⟨512 + l.val, by omega⟩) := by
  pointwise [k0_pay12]
theorem next_01 (x : Vec Ideal S512x1024 .f32) (p : FVec Ideal S512x1024 .f32) (g : Vec Ideal S1x1024 .f32) (i : Fin 512) (l : Fin 256) :
    k0_pay13 (F := Ideal) x p g (ix4 0 0 i l) = k0_pay10 (F := Ideal) x p g (ix2 i ⟨256 + l.val, by omega⟩) := by
  pointwise [k0_pay13]
theorem next_11 (x : Vec Ideal S512x1024 .f32) (p : FVec Ideal S512x1024 .f32) (g : Vec Ideal S1x1024 .f32) (i : Fin 512) (l : Fin 256) :
    k0_pay15 (F := Ideal) (k0_pay14 (F := Ideal) x p g) (ix4 0 0 i l) = k0_pay10 (F := Ideal) x p g (ix2 i ⟨768 + l.val, by omega⟩) := by
  pointwise [k0_pay15, k0_pay14]

/-! ## Where the stores write -/

abbrev r00 : Rect S2x2x512x256 := Rect.unit ![0, 0, 0, 0] S1x1x512x256.size inb_S2x2x512x256_S1x1x512x256_0_0_0_0
abbrev r10 : Rect S2x2x512x256 := Rect.unit ![1, 0, 0, 0] S1x1x512x256.size inb_S2x2x512x256_S1x1x512x256_1_0_0_0
abbrev r01 : Rect S2x2x512x256 := Rect.unit ![0, 1, 0, 0] S1x1x512x256.size inb_S2x2x512x256_S1x1x512x256_0_1_0_0
abbrev r11 : Rect S2x2x512x256 := Rect.unit ![1, 1, 0, 0] S1x1x512x256.size inb_S2x2x512x256_S1x1x512x256_1_1_0_0

theorem emb_00 (i : Fin 512) (l : Fin 256) : r00.idx (ix4 0 0 i l) = ix4 0 0 i l := by
  funext a
  fin_cases a <;> exact Fin.ext (by simp [LoadRect.idx, Rect.unit, Rect.toLoadRect, ix4])
theorem emb_10 (i : Fin 512) (l : Fin 256) : r10.idx (ix4 0 0 i l) = ix4 1 0 i l := by
  funext a
  fin_cases a <;> exact Fin.ext (by simp [LoadRect.idx, Rect.unit, Rect.toLoadRect, ix4])
theorem emb_01 (i : Fin 512) (l : Fin 256) : r01.idx (ix4 0 0 i l) = ix4 0 1 i l := by
  funext a
  fin_cases a <;> exact Fin.ext (by simp [LoadRect.idx, Rect.unit, Rect.toLoadRect, ix4])
theorem emb_11 (i : Fin 512) (l : Fin 256) : r11.idx (ix4 0 0 i l) = ix4 1 1 i l := by
  funext a
  fin_cases a <;> exact Fin.ext (by simp [LoadRect.idx, Rect.unit, Rect.toLoadRect, ix4])

/-! ## The block -/

/-- What the body leaves in the second result's block: its pieces, the last one first. -/
abbrev nextPieces (x : Vec Ideal S512x1024 .f32) (p : FVec Ideal S512x1024 .f32) (g : Vec Ideal S1x1024 .f32) :
    List (View.Piece (Elt Ideal) S2x2x512x256 .bf16) :=
  [⟨r11, k0_pay15 (F := Ideal) (k0_pay14 (F := Ideal) x p g)⟩, ⟨r01, k0_pay13 (F := Ideal) x p g⟩, ⟨r10, k0_pay12 (F := Ideal) x p g⟩,
    ⟨r00, k0_pay11 (F := Ideal) x p g⟩]

/-- The four planes cover the block. -/
theorem cover_next (p₀ p₁ p₂ p₃ : Vec Ideal S1x1x512x256 .bf16) (y : S2x2x512x256.Idx) :
    ∃ pc ∈ ([⟨r11, p₀⟩, ⟨r01, p₁⟩, ⟨r10, p₂⟩, ⟨r00, p₃⟩] : List (View.Piece (Elt Ideal) S2x2x512x256 .bf16)), y ∈ pc.1.set :=
  View.cover_of_tiled [⟨r11, p₀⟩, ⟨r01, p₁⟩, ⟨r10, p₂⟩, ⟨r00, p₃⟩] S1x1x512x256.size (by rfl) y

/-- The block's element: plane, half, row and column. -/
def nextAt (s : FVec Ideal S512x1024 .f32) (g : Vec Ideal S1x1024 .f32) (y : S2x2x512x256.Idx) : EReal :=
  rms (fun k => s (ix2 (y 2) k)) (fun k => g (ix2 0 k)) (col (y 0) (y 1) (y 3))

theorem nextAt_apply (s : FVec Ideal S512x1024 .f32) (g : Vec Ideal S1x1024 .f32) (a b : Fin 2) (i : Fin 512) (l : Fin 256) (d : Fin 1024)
    (h : d.val = a.val * 512 + b.val * 256 + l.val) :
    rms (fun k => s (ix2 i k)) (fun k => g (ix2 0 k)) d = nextAt s g (ix4 a b i l) :=
  congrArg (rms (fun k => s (ix2 i k)) (fun k => g (ix2 0 k))) (Fin.ext h)

/-- The pieces are the block. -/
theorem pieces_apply (x : Vec Ideal S512x1024 .f32) (p : FVec Ideal S512x1024 .f32) (g : Vec Ideal S1x1024 .f32) (y : S2x2x512x256.Idx) :
    View.canon (nextPieces x p g) y = nextAt (k0_pay9 (F := Ideal) x p) g y := by
  refine View.canon_apply_of_pieces (Val := Elt Ideal) (e := .bf16) (nextAt (k0_pay9 (F := Ideal) x p) g) _ (fun q hq z => ?_) y (cover_next _ _ _ _ y)
  simp only [nextPieces, List.mem_cons, List.not_mem_nil, or_false] at hq
  rcases hq with rfl | rfl | rfl | rfl <;> idx_vars z <;> (obtain rfl : z0 = 0 := Subsingleton.elim _ _) <;> (obtain rfl : z1 = 0 := Subsingleton.elim _ _)
  · exact (next_11 x p g z2 z3).trans ((next_norm x p g z2 _).trans ((nextAt_apply _ g 1 1 z2 z3 _ (show 768 + z3.val = 1 * 512 + 1 * 256 + z3.val by omega)).trans
      (congrArg (nextAt (k0_pay9 (F := Ideal) x p) g) (emb_11 z2 z3)).symm))
  · exact (next_01 x p g z2 z3).trans ((next_norm x p g z2 _).trans ((nextAt_apply _ g 0 1 z2 z3 _ (show 256 + z3.val = 0 * 512 + 1 * 256 + z3.val by omega)).trans
      (congrArg (nextAt (k0_pay9 (F := Ideal) x p) g) (emb_01 z2 z3)).symm))
  · exact (next_10 x p g z2 z3).trans ((next_norm x p g z2 _).trans ((nextAt_apply _ g 1 0 z2 z3 _ (show 512 + z3.val = 1 * 512 + 0 * 256 + z3.val by omega)).trans
      (congrArg (nextAt (k0_pay9 (F := Ideal) x p) g) (emb_10 z2 z3)).symm))
  · exact (next_00 x p g z2 z3).trans ((next_norm x p g z2 _).trans ((nextAt_apply _ g 0 0 z2 z3 _ (show z3.val = 0 * 512 + 0 * 256 + z3.val by omega)).trans
      (congrArg (nextAt (k0_pay9 (F := Ideal) x p) g) (emb_00 z2 z3)).symm))

/-! ## The array -/

theorem ix_10 : ∀ t : Fin cfg0.N, win0_10.index t = ![0, 0] := by decide +kernel
theorem ix_14 : ∀ t : Fin cfg0.N, win0_14.index t = ![0, 0, t.val, 0] := by decide +kernel

theorem blk_fg (t : Fin cfg0.N) (A : Vec Ideal S1x1024 .f32) (k : Fin 1024) : (win0_10.blk t).view.read (Elt Ideal) A (ix2 0 k) = A (ix2 0 k) := by
  blk_ext [ix_10 t]
theorem blk_next (t : Fin cfg0.N) (A : Vec Ideal S2x2x32768x256 .bf16) (a b : Fin 2) (i : Fin 512) (l : Fin 256) :
    A ((win0_14.blk t).view.emb (ix4 a b i l)) = A (ix4 a b (row t i) l) := by
  blk_ext [ix_14 t]

variable (m : (ℓ : Loc nD τ sig) → Buf (Elt Ideal) ℓ) (c : Dev nD)

/-- The second result, element by element. -/
def nextArr : Vec Ideal S2x2x32768x256 .bf16 := fun y =>
  nextEl (outArr m c) (m ((c.tc : Thread nD τ).loc main_arg10)) (y 0) (y 1) (y 2) (y 3)

/-- The gain the call reads is the argument's. -/
theorem next_gain_apply (k : Fin 1024) : (V m c main_v15 : Vec Ideal S1x1024 .f32) (ix2 0 k) = (m ((c.tc : Thread nD τ).loc main_arg10) : Vec Ideal S1024 .f32) (ix1 k) := by
  simp only [V, hostOps0, hostOps0_1, hostOps0_2, List.flatten_cons, List.flatten_nil, List.append_nil, List.cons_append, List.nil_append]
  entry_read
  pointwise

/-- What the body leaves at a point, the first or a later one. -/
theorem nexts_eq (t : Fin cfg0.N) : (outsAt0 m c t.val t.isLt).2.1
    = View.canon (nextPieces (iblk m c 0 t) (projd (iblk m c 0 t) (iblk m c 1 t) (iblk m c 2 t) (iblk m c 3 t) (iblk m c 4 t) (iblk m c 5 t) (iblk m c 6 t)
      (iblk m c 7 t) (iblk m c 8 t) (iblk m c 9 t)) (iblk m c 10 t)) := by
  by_cases h : t.val % 64 = 0
  · rw [outsAt0_A m c t h]
    dsimp only
    frame_out
    rfl
  · rw [outsAt0_B m c t h]
    dsimp only
    frame_out
    rfl

/-- … is the first result's rows, normed. -/
theorem next_point (t : Fin cfg0.N) (a b : Fin 2) (i : Fin 512) (l : Fin 256) :
    (outsAt0 m c t.val t.isLt).2.1 (ix4 a b i l) = nextArr m c (ix4 a b (row t i) l) := by
  refine ((congrFun (nexts_eq m c t) _).trans (pieces_apply _ _ _ _)).trans ?_
  unfold nextAt nextArr nextEl
  refine congrFun (congrArg₂ rms (funext fun k => ?_) (funext fun k => ?_)) _
  · exact (congrFun (outs_eq m c t) _).symm.trans (out_point m c t i k)
  · exact (blk_fg t (V m c main_v15) k).trans (next_gain_apply m c k)

/-- What the body leaves at a point is the array's block. -/
theorem next_block (t : Fin cfg0.N) (y : S2x2x512x256.Idx) : (outsAt0 m c t.val t.isLt).2.1 y = nextArr m c ((win0_14.blk t).view.emb y) := by
  idx_vars y
  have e1 := next_point m c t y0 y1 y2 y3
  have e2 := blk_next t (nextArr m c) y0 y1 y2 y3
  exact e1.trans e2.symm

/-- What the call writes back. -/
theorem arr_next : (dats m 0 c).arrAt 14 cfg0.N = nextArr m c := by
  refine (dats m 0 c).arrAt_eq_of_covers 14 _ (by decide +kernel) fun t _ y => ?_
  blk_simp
  rw [after0_14]
  idx_vars y
  have h := next_block m c t (ix4 y0 y1 y2 y3)
  generalize nextArr m c = A at *
  exact h

end Cert.Proof.MI

end
-- ==== Proof.MI.Claims.lean ====
/- The mixer's claims: the reference's frame, and that the call's first two results are its reference's. -/
module

public import proofs.«01_k».proof.Proof.MI.Planes
public import proofs.«01_k».proof.Defs
public import proofs.«01_k».proof.Proof.Gen.PlainMixerIdeal

@[expose] public section

set_option maxRecDepth 16384

noncomputable section

namespace Cert.Proof.MI

open Cert.MixerIdeal.Gen
open Idealize.ShloMosaic Idealize.ShloMosaic.TcCoe Idealize.ShloMosaic.Tactic
open Idealize.SL.Sem

/-- The reference leaves its arguments and its counters as they were. -/
theorem plain_frame : Cert.quiescent_PlainMixerIdeal := fun m g _ =>
  (θ_run Cert.PlainMixerIdeal.defs _ _).mono (fun r h => ⟨fun c => (h c).2.2, sem_eq_zero_of_no_sems (by decide) r.2⟩)
    (Cert.PlainMixerIdeal.Value.run (F := Ideal) m g)

/-- The call's run: its first two results at the specification's rows, its arguments as they were. -/
theorem kernel_run (m : (ℓ : Loc Cert.MixerIdeal.nD Cert.MixerIdeal.τ Cert.MixerIdeal.sig) → Buf (Elt Ideal) ℓ) (g : Dev Cert.MixerIdeal.nD → PrngReg) :
    θ_run (Cert.MixerIdeal.defs (F := Ideal)) (onTc (τ := Cert.MixerIdeal.τ) (Cert.MixerIdeal.main (F := Ideal))) ⟨m, fun _ => 0, g⟩
      (fun r => ∀ c : Dev Cert.MixerIdeal.nD, r.2.mem ((c.tc : Thread Cert.MixerIdeal.nD Cert.MixerIdeal.τ).loc Cert.MixerIdeal.main_v26_0) = outArr m c
        ∧ r.2.mem ((c.tc : Thread Cert.MixerIdeal.nD Cert.MixerIdeal.τ).loc Cert.MixerIdeal.main_v26_1) = nextArr m c
        ∧ r.2.mem ((c.tc : Thread Cert.MixerIdeal.nD Cert.MixerIdeal.τ).loc Cert.MixerIdeal.main_arg0) = m ((c.tc : Thread Cert.MixerIdeal.nD Cert.MixerIdeal.τ).loc Cert.MixerIdeal.main_arg0)
        ∧ r.2.mem ((c.tc : Thread Cert.MixerIdeal.nD Cert.MixerIdeal.τ).loc Cert.MixerIdeal.main_arg1) = m ((c.tc : Thread Cert.MixerIdeal.nD Cert.MixerIdeal.τ).loc Cert.MixerIdeal.main_arg1)
        ∧ r.2.mem ((c.tc : Thread Cert.MixerIdeal.nD Cert.MixerIdeal.τ).loc Cert.MixerIdeal.main_arg2) = m ((c.tc : Thread Cert.MixerIdeal.nD Cert.MixerIdeal.τ).loc Cert.MixerIdeal.main_arg2)
        ∧ r.2.mem ((c.tc : Thread Cert.MixerIdeal.nD Cert.MixerIdeal.τ).loc Cert.MixerIdeal.main_arg3) = m ((c.tc : Thread Cert.MixerIdeal.nD Cert.MixerIdeal.τ).loc Cert.MixerIdeal.main_arg3)
        ∧ r.2.mem ((c.tc : Thread Cert.MixerIdeal.nD Cert.MixerIdeal.τ).loc Cert.MixerIdeal.main_arg4) = m ((c.tc : Thread Cert.MixerIdeal.nD Cert.MixerIdeal.τ).loc Cert.MixerIdeal.main_arg4)
        ∧ r.2.mem ((c.tc : Thread Cert.MixerIdeal.nD Cert.MixerIdeal.τ).loc Cert.MixerIdeal.main_arg5) = m ((c.tc : Thread Cert.MixerIdeal.nD Cert.MixerIdeal.τ).loc Cert.MixerIdeal.main_arg5)
        ∧ r.2.mem ((c.tc : Thread Cert.MixerIdeal.nD Cert.MixerIdeal.τ).loc Cert.MixerIdeal.main_arg6) = m ((c.tc : Thread Cert.MixerIdeal.nD Cert.MixerIdeal.τ).loc Cert.MixerIdeal.main_arg6)
        ∧ r.2.mem ((c.tc : Thread Cert.MixerIdeal.nD Cert.MixerIdeal.τ).loc Cert.MixerIdeal.main_arg7) = m ((c.tc : Thread Cert.MixerIdeal.nD Cert.MixerIdeal.τ).loc Cert.MixerIdeal.main_arg7)
        ∧ r.2.mem ((c.tc : Thread Cert.MixerIdeal.nD Cert.MixerIdeal.τ).loc Cert.MixerIdeal.main_arg8) = m ((c.tc : Thread Cert.MixerIdeal.nD Cert.MixerIdeal.τ).loc Cert.MixerIdeal.main_arg8)
        ∧ r.2.mem ((c.tc : Thread Cert.MixerIdeal.nD Cert.MixerIdeal.τ).loc Cert.MixerIdeal.main_arg9) = m ((c.tc : Thread Cert.MixerIdeal.nD Cert.MixerIdeal.τ).loc Cert.MixerIdeal.main_arg9)
        ∧ r.2.mem ((c.tc : Thread Cert.MixerIdeal.nD Cert.MixerIdeal.τ).loc Cert.MixerIdeal.main_arg10) = m ((c.tc : Thread Cert.MixerIdeal.nD Cert.MixerIdeal.τ).loc Cert.MixerIdeal.main_arg10)
        ∧ r.2.mem ((c.tc : Thread Cert.MixerIdeal.nD Cert.MixerIdeal.τ).loc Cert.MixerIdeal.main_arg11) = m ((c.tc : Thread Cert.MixerIdeal.nD Cert.MixerIdeal.τ).loc Cert.MixerIdeal.main_arg11)
        ∧ r.2.mem ((c.tc : Thread Cert.MixerIdeal.nD Cert.MixerIdeal.τ).loc Cert.MixerIdeal.main_arg12) = m ((c.tc : Thread Cert.MixerIdeal.nD Cert.MixerIdeal.τ).loc Cert.MixerIdeal.main_arg12)) :=
  (θ_run (Cert.MixerIdeal.defs (F := Ideal)) _ _).mono (fun _ h c => ⟨(h c).1.trans (arr_out m c), (h c).2.1.trans (arr_next m c), (h c).2.2.2.2.2⟩) (Cert.MixerIdeal.Value.run_blocks m g)

/-- The reference's first result is the array the call writes. -/
theorem result_eq (m : (ℓ : Loc Cert.MixerIdeal.nD Cert.MixerIdeal.τ Cert.MixerIdeal.sig) → Buf (Elt Ideal) ℓ) (c : Dev Cert.MixerIdeal.nD) :
    Cert.Proof.MR.mixed (F := Ideal) (m ((c.tc : Thread Cert.MixerIdeal.nD Cert.MixerIdeal.τ).loc Cert.MixerIdeal.main_arg0))
      (Cert.Proof.MR.summed (Cert.Proof.MR.normed (m ((c.tc : Thread Cert.MixerIdeal.nD Cert.MixerIdeal.τ).loc Cert.MixerIdeal.main_arg0)) (m ((c.tc : Thread Cert.MixerIdeal.nD Cert.MixerIdeal.τ).loc Cert.MixerIdeal.main_arg5)))
        (m ((c.tc : Thread Cert.MixerIdeal.nD Cert.MixerIdeal.τ).loc Cert.MixerIdeal.main_arg1)) (m ((c.tc : Thread Cert.MixerIdeal.nD Cert.MixerIdeal.τ).loc Cert.MixerIdeal.main_arg2)) (m ((c.tc : Thread Cert.MixerIdeal.nD Cert.MixerIdeal.τ).loc Cert.MixerIdeal.main_arg3))
        (m ((c.tc : Thread Cert.MixerIdeal.nD Cert.MixerIdeal.τ).loc Cert.MixerIdeal.main_arg4)) (m ((c.tc : Thread Cert.MixerIdeal.nD Cert.MixerIdeal.τ).loc Cert.MixerIdeal.main_arg6)) (m ((c.tc : Thread Cert.MixerIdeal.nD Cert.MixerIdeal.τ).loc Cert.MixerIdeal.main_arg7))
        (m ((c.tc : Thread Cert.MixerIdeal.nD Cert.MixerIdeal.τ).loc Cert.MixerIdeal.main_arg8))) (m ((c.tc : Thread Cert.MixerIdeal.nD Cert.MixerIdeal.τ).loc Cert.MixerIdeal.main_arg9)) = outArr m c := by
  funext y
  idx_vars y
  exact Cert.Proof.MR.value_apply _ _ _ _ _ _ _ _ _ _ y0 y1

/-- … and so is its second one. -/
theorem next_result_eq (m : (ℓ : Loc Cert.MixerIdeal.nD Cert.MixerIdeal.τ Cert.MixerIdeal.sig) → Buf (Elt Ideal) ℓ) (c : Dev Cert.MixerIdeal.nD) :
    Cert.Proof.MR.planes (F := Ideal) (Cert.Proof.MR.normed (outArr m c) (m ((c.tc : Thread Cert.MixerIdeal.nD Cert.MixerIdeal.τ).loc Cert.MixerIdeal.main_arg10)))
      = nextArr m c := by
  funext y
  idx_vars y
  exact Cert.Proof.MR.next_apply _ _ y0 y1 y2 y3

/-- Both run, and end with equal results. -/
theorem algebraic : Cert.algebraic_MixerIdeal_PlainMixerIdeal := fun m g m' g' _ hm' =>
  ⟨fun c => outArr m c, fun c => nextArr m c, kernel_run m g,
    (θ_run Cert.PlainMixerIdeal.defs _ _).mono (fun _ h c => by
      obtain ⟨a0, a1, a2, a3, a4, a5, a6, a7, a8, a9, a10, _⟩ := hm' c
      have e : Cert.PlainMixerIdeal.Value.res_main_v95 m' c = outArr m c := by
        refine (Cert.Proof.MR.res_eq m' c).trans ?_
        rw [a0, a1, a2, a3, a4, a5, a6, a7, a8, a9]
        exact result_eq m c
      refine ⟨(h c).1.trans e, ((h c).2.1.trans (Cert.Proof.MR.next_eq m' c)).trans ?_, (h c).2.2⟩
      rw [e, a10]
      exact next_result_eq m c) (Cert.PlainMixerIdeal.Value.run (F := Ideal) m' g')⟩

end Cert.Proof.MI

end
-- ==== Proof.SI.Array.lean ====
/- The array the last call writes for the second half of the rows, over the extended reals: the rows before them as
   they were, and every row of the half the specification's. -/
module

public import proofs.«01_k».proof.Proof.Gen.SecondIdeal.Value
public import proofs.«01_k».proof.Proof.FI.Tile

@[expose] public section

set_option maxRecDepth 16384

noncomputable section

namespace Cert.Proof.SI

open Cert.SecondIdeal Cert.SecondIdeal.Gen
open Idealize.ShloMosaic Idealize.ShloMosaic.TcCoe Idealize.ShloMosaic.Tactic
open Cert.Proof.XR (rowEl)
open Cert.Proof.FR (resid rms outEl)

/-- An array of both halves: the first half as given, the second the specification's rows. -/
def outFn (x : Vec Ideal S32768x1024 .f32) (w : Vec Ideal S2x2x32768x256 .i32) (r : Vec Ideal S32768x128 .f32) (g : Vec Ideal S1024 .f32)
    (p : Vec Ideal S65536x1024 .f32) (i : Fin 65536) (d : Fin 1024) : EReal :=
  if i.val < 32768 then p (ix2 i d) else outEl x w r g ⟨i.val - 32768, by omega⟩ d

variable (m : (ℓ : Loc nD τ sig) → Buf (Elt Ideal) ℓ) (c : Dev nD)

/-- The result, element by element. -/
def outArr : Vec Ideal S65536x1024 .f32 := fun y =>
  outFn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (y 0) (y 1)

/-! ## The blocks -/

theorem ix_0 : ∀ t : Fin cfg0.N, win0_0.index t = ![t.val, 0] := by decide +kernel
theorem ix_1 : ∀ t : Fin cfg0.N, win0_1.index t = ![0, 0, t.val, 0] := by decide +kernel
theorem ix_2 : ∀ t : Fin cfg0.N, win0_2.index t = ![0, 1, t.val, 0] := by decide +kernel
theorem ix_3 : ∀ t : Fin cfg0.N, win0_3.index t = ![t.val, 0] := by decide +kernel
theorem ix_4 : ∀ t : Fin cfg0.N, win0_4.index t = ![0, 0] := by decide +kernel
theorem ix_5 : ∀ t : Fin cfg0.N, win0_5.index t = ![t.val + 64, 0] := by decide +kernel

/-- A grid point's row among the half's, and in the result. -/
abbrev row (t : Fin cfg0.N) (i : Fin 512) : Fin 32768 := ⟨t.val * 512 + i.val, by have h : t.val < 64 := t.isLt; omega⟩
abbrev rowOut (t : Fin cfg0.N) (i : Fin 512) : Fin 65536 := ⟨(t.val + 64) * 512 + i.val, by have h : t.val < 64 := t.isLt; omega⟩

section Blocks
variable (t : Fin cfg0.N) (i : Fin 512)

theorem blk_x (A : Vec Ideal S32768x1024 .f32) (k : Fin 1024) : (win0_0.blk t).view.read (Elt Ideal) A (ix2 i k) = A (ix2 (row t i) k) := by
  blk_ext [ix_0 t]
theorem blk_y0 (A : Vec Ideal S2x2x32768x256 .i32) (p : Fin 2) (k : Fin 256) :
    (win0_1.blk t).view.read (Elt Ideal) A (ix4 p 0 i k) = A (ix4 p 0 (row t i) k) := by
  blk_ext [ix_1 t]
theorem blk_y1 (A : Vec Ideal S2x2x32768x256 .i32) (p : Fin 2) (k : Fin 256) :
    (win0_2.blk t).view.read (Elt Ideal) A (ix4 p 0 i k) = A (ix4 p 1 (row t i) k) := by
  blk_ext [ix_2 t]
theorem blk_r (A : Vec Ideal S32768x128 .f32) (k : Fin 128) : (win0_3.blk t).view.read (Elt Ideal) A (ix2 i k) = A (ix2 (row t i) k) := by
  blk_ext [ix_3 t]
theorem blk_g (A : Vec Ideal S1x1024 .f32) (k : Fin 1024) : (win0_4.blk t).view.read (Elt Ideal) A (ix2 0 k) = A (ix2 0 k) := by
  blk_ext [ix_4 t]
theorem blk_o (A : Vec Ideal S65536x1024 .f32) (k : Fin 1024) : A ((win0_5.blk t).view.emb (ix2 i k)) = A (ix2 (rowOut t i) k) := by
  blk_ext [ix_5 t]

end Blocks

/-! ## The array -/

/-- The gain the call reads is the argument's. -/
theorem gain_apply (k : Fin 1024) : (V m c main_v0 : Vec Ideal S1x1024 .f32) (ix2 0 k) = (m ((c.tc : Thread nD τ).loc main_arg3) : Vec Ideal S1024 .f32) (ix1 k) := by
  entry_read
  pointwise

/-- The body leaves what the first half's body leaves of the same blocks. -/
theorem outs_apply (t : Fin cfg0.N) (i : Fin 512) (d : Fin 1024) : outsAt0 m c t (ix2 i d)
    = Cert.FinalIdeal.Gen.out0_5 (F := Ideal) (iblk m c 0 t) (iblk m c 1 t) (iblk m c 2 t) (iblk m c 3 t) (iblk m c 4 t) (ix2 i d) := by
  unfold outsAt0
  frame_out
  rfl

/-- … so the specification's rows. -/
theorem out_point (t : Fin cfg0.N) (i : Fin 512) (d : Fin 1024) : outsAt0 m c t (ix2 i d) = outArr m c (ix2 (rowOut t i) d) := by
  refine (outs_apply m c t i d).trans ((Cert.Proof.FI.out_apply _ _ _ _ _ i d).trans ?_)
  have e : (⟨(rowOut t i).val - 32768, by have h : t.val < 64 := t.isLt; show (t.val + 64) * 512 + i.val - 32768 < 32768; omega⟩ : Fin 32768) = row t i :=
    Fin.ext (show (t.val + 64) * 512 + i.val - 32768 = t.val * 512 + i.val by omega)
  refine Eq.trans ?_ (if_neg (show ¬ (t.val + 64) * 512 + i.val < 32768 by omega)).symm
  refine Eq.trans ?_ (congrArg (fun j => outEl _ _ _ _ j d) e).symm
  unfold outEl
  refine congrFun (congr (congrArg rms (congr (congr (congr (congr (congrArg resid ?_) ?_) ?_) ?_) ?_)) ?_) d
  · exact funext fun k => (blk_x t i (V m c main_arg0) k).trans (congrFun (V_main_arg0 m c) _)
  · exact (blk_r t i (V m c main_arg2) 2).trans (congrFun (V_main_arg2 m c) _)
  · exact (blk_r t i (V m c main_arg2) 3).trans (congrFun (V_main_arg2 m c) _)
  · exact congrArg₂ rowEl (funext fun k => (blk_y0 t i (V m c main_arg1) 0 k).trans (congrFun (V_main_arg1 m c) _))
      (funext fun k => (blk_y0 t i (V m c main_arg1) 1 k).trans (congrFun (V_main_arg1 m c) _))
  · exact congrArg₂ rowEl (funext fun k => (blk_y1 t i (V m c main_arg1) 0 k).trans (congrFun (V_main_arg1 m c) _))
      (funext fun k => (blk_y1 t i (V m c main_arg1) 1 k).trans (congrFun (V_main_arg1 m c) _))
  · exact funext fun k => (blk_g t (V m c main_v0) k).trans (gain_apply m c k)

/-- What the body leaves at a point is the array's block. -/
theorem out_block (t : Fin cfg0.N) (y : S512x1024.Idx) : outsAt0 m c t y = outArr m c ((win0_5.blk t).view.emb y) := by
  idx_vars y
  have e1 := out_point m c t y0 y1
  have e2 := blk_o t y0 (outArr m c) y1
  exact e1.trans e2.symm

/-- Before the call the result is the array passed on. -/
theorem entry_apply (y : S65536x1024.Idx) : (V m c main_v1 : Vec Ideal S65536x1024 .f32) y = (m ((c.tc : Thread nD τ).loc main_arg4) : Vec Ideal S65536x1024 .f32) y := by
  entry_read
  rfl

/-- … of which the first half is the specification's. -/
theorem entry_first (y : S65536x1024.Idx) (h : (y 0).val < 32768) : (V m c main_v1 : Vec Ideal S65536x1024 .f32) y = outArr m c y := by
  refine (entry_apply m c y).trans ?_
  idx_vars y
  exact (if_pos (show y0.val < 32768 from h)).symm

/-- What the call leaves. -/
theorem arr_out : (dats m 0 c).arrAt 5 cfg0.N = outArr m c := by
  refine (dats m 0 c).arrAt_eq_of_coversWhere_of_agree 5 _ (fun β => 64 ≤ β (0 : Fin _)) (by decide +kernel) (fun t _ y => ?_) (fun j hj => ?_)
  · blk_simp
    rw [after0_5]
    idx_vars y
    have h := out_block m c t (ix2 y0 y1)
    generalize outArr m c = A at *
    exact h
  · blk_simp [Pipeline.Window.cell_apply] at hj
    have e : (cfg0.win 5).arr.view.emb j = j := by
      blk_ext []
    rw [e]
    exact entry_first m c j (by show (j 0).val < 32768; omega)

end Cert.Proof.SI

end
-- ==== Proof.SI.Value.lean ====
/- The second half's reference: the first half's rows as given, then the rows of the first half's reference. -/
module

public import proofs.«01_k».proof.Proof.Gen.PlainSecondIdeal.Run
public import proofs.«01_k».proof.Proof.SI.Array

@[expose] public section

set_option maxRecDepth 16384

noncomputable section

namespace Cert.Proof.SI

open Cert.PlainSecondIdeal Cert.PlainSecondIdeal.Gen
open Idealize.ShloMosaic Idealize.ShloMosaic.TcCoe Idealize.ShloMosaic.Tactic
open Cert.Proof.FR (normed summed rows first second)

/-- The given rows before others. -/
def joined (p : FVec Ideal S65536x1024 .f32) (x : FVec Ideal S32768x1024 .f32) : FVec Ideal S65536x1024 .f32 :=
  Value.fn_main_v56 (F := Ideal) (extractStridedSlice S32768x1024 ![0, 0] p slices_S65536x1024_S32768x1024_0_0) x

/-- The reference's result, as the pieces compose it. -/
theorem res_eq (m : (ℓ : Loc nD τ sig) → Buf (Elt Ideal) ℓ) (c : Dev nD) :
    Value.res_main_v56 (F := Ideal) m c = joined (m ((c.tc : Thread nD τ).loc main_arg4))
      (normed (F := Ideal) (summed (m ((c.tc : Thread nD τ).loc main_arg0)) (m ((c.tc : Thread nD τ).loc main_arg2))
        (rows (first (m ((c.tc : Thread nD τ).loc main_arg1)))) (rows (second (m ((c.tc : Thread nD τ).loc main_arg1))))) (m ((c.tc : Thread nD τ).loc main_arg3))) := by
  unfold Value.res_main_v56 joined normed summed rows first second Cert.Proof.FR.plane0 Cert.Proof.FR.plane1 Cert.Proof.FR.lows Cert.Proof.FR.highs
    Cert.PlainFinalIdeal.Value.fn_main_v17 Value.fn_main_v56
  rfl

/-- The rows joined, at an index. -/
theorem joined_apply (p : FVec Ideal S65536x1024 .f32) (x : FVec Ideal S32768x1024 .f32) (i : Fin 65536) (d : Fin 1024) :
    joined p x (ix2 i d) = if i.val < 32768 then p (ix2 i d) else x (ix2 ⟨i.val - 32768, by omega⟩ d) := by
  pointwise [joined, Value.fn_main_v56]
  split <;> rfl

/-- The reference's element. -/
theorem value_apply (x : Vec Ideal S32768x1024 .f32) (w : Vec Ideal S2x2x32768x256 .i32) (r : Vec Ideal S32768x128 .f32) (g : Vec Ideal S1024 .f32)
    (p : Vec Ideal S65536x1024 .f32) (i : Fin 65536) (d : Fin 1024) :
    joined p (normed (F := Ideal) (summed x r (rows (first w)) (rows (second w))) g) (ix2 i d) = outFn x w r g p i d :=
  (joined_apply p _ i d).trans (congrArg (fun e => if i.val < 32768 then p (ix2 i d) else e) (Cert.Proof.FR.value_apply x w r g _ d))

end Cert.Proof.SI

end
-- ==== Proof.SI.Claims.lean ====
/- The claims of the last call for the second half: the reference's frame, and that the call and its reference compute
   the same array. -/
module

public import proofs.«01_k».proof.Proof.SI.Value
public import proofs.«01_k».proof.Defs
public import proofs.«01_k».proof.Proof.Gen.PlainSecondIdeal

@[expose] public section

set_option maxRecDepth 16384

noncomputable section

namespace Cert.Proof.SI

open Cert.SecondIdeal.Gen
open Idealize.ShloMosaic Idealize.ShloMosaic.TcCoe Idealize.ShloMosaic.Tactic
open Idealize.SL.Sem

/-- The reference leaves its arguments and its counters as they were. -/
theorem plain_frame : Cert.quiescent_PlainSecondIdeal := fun m g _ =>
  (θ_run Cert.PlainSecondIdeal.defs _ _).mono (fun r h => ⟨fun c => (h c).2, sem_eq_zero_of_no_sems (by decide) r.2⟩)
    (Cert.PlainSecondIdeal.Value.run (F := Ideal) m g)

/-- The call's run: its result at the specification's array, its arguments as they were. -/
theorem kernel_run (m : (ℓ : Loc Cert.SecondIdeal.nD Cert.SecondIdeal.τ Cert.SecondIdeal.sig) → Buf (Elt Ideal) ℓ) (g : Dev Cert.SecondIdeal.nD → PrngReg) :
    θ_run (Cert.SecondIdeal.defs (F := Ideal)) (onTc (τ := Cert.SecondIdeal.τ) (Cert.SecondIdeal.main (F := Ideal))) ⟨m, fun _ => 0, g⟩
      (fun r => ∀ c : Dev Cert.SecondIdeal.nD, r.2.mem ((c.tc : Thread Cert.SecondIdeal.nD Cert.SecondIdeal.τ).loc Cert.SecondIdeal.main_v1) = outArr m c
        ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
        ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
        ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
        ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
        ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)) :=
  (θ_run (Cert.SecondIdeal.defs (F := Ideal)) _ _).mono (fun _ h c => ⟨(h c).1.trans (arr_out m c), (h c).2⟩) (Cert.SecondIdeal.Value.run_blocks m g)

/-- The reference's result is the array the call writes. -/
theorem result_eq (m : (ℓ : Loc Cert.SecondIdeal.nD Cert.SecondIdeal.τ Cert.SecondIdeal.sig) → Buf (Elt Ideal) ℓ) (c : Dev Cert.SecondIdeal.nD) :
    joined (m ((c.tc : Thread Cert.SecondIdeal.nD Cert.SecondIdeal.τ).loc Cert.SecondIdeal.main_arg4)) (Cert.Proof.FR.normed (F := Ideal) (Cert.Proof.FR.summed (m ((c.tc : Thread Cert.SecondIdeal.nD Cert.SecondIdeal.τ).loc Cert.SecondIdeal.main_arg0))
      (m ((c.tc : Thread Cert.SecondIdeal.nD Cert.SecondIdeal.τ).loc Cert.SecondIdeal.main_arg2))
      (Cert.Proof.FR.rows (Cert.Proof.FR.first (m ((c.tc : Thread Cert.SecondIdeal.nD Cert.SecondIdeal.τ).loc Cert.SecondIdeal.main_arg1))))
      (Cert.Proof.FR.rows (Cert.Proof.FR.second (m ((c.tc : Thread Cert.SecondIdeal.nD Cert.SecondIdeal.τ).loc Cert.SecondIdeal.main_arg1)))))
      (m ((c.tc : Thread Cert.SecondIdeal.nD Cert.SecondIdeal.τ).loc Cert.SecondIdeal.main_arg3))) = outArr m c := by
  funext y
  idx_vars y
  exact value_apply _ _ _ _ _ y0 y1

/-- Both run, and end with equal results. -/
theorem algebraic : Cert.algebraic_SecondIdeal_PlainSecondIdeal := fun m g m' g' _ hm' =>
  ⟨fun c => outArr m c, kernel_run m g,
    (θ_run Cert.PlainSecondIdeal.defs _ _).mono (fun _ h c => by
      obtain ⟨a0, a1, a2, a3, a4⟩ := hm' c
      refine ⟨((h c).1.trans (res_eq m' c)).trans ?_, (h c).2⟩
      rw [a0, a1, a2, a3, a4]
      exact result_eq m c) (Cert.PlainSecondIdeal.Value.run (F := Ideal) m' g')⟩

end Cert.Proof.SI

end
-- ==== Proof.lean ====
/- The claim, from its parts: the kernel programs' frames at the device's floats and at the extended reals, the
   references' frames, the named constant, and the values of the calls. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Experts
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.Final
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.Mixer
public import proofs.«01_k».proof.Proof.Gen.MixerIdeal
public import proofs.«01_k».proof.Proof.Gen.MixerIdeal.Skeleton
public import proofs.«01_k».proof.Proof.Gen.MixerIdeal.Launch
public import proofs.«01_k».proof.Proof.Gen.MixerIdeal.Points
public import proofs.«01_k».proof.Proof.Gen.MixerIdeal.Frame
public import proofs.«01_k».proof.Proof.Gen.MixerIdeal.Value
public import proofs.«01_k».proof.Proof.Gen.PlainExpertsIdeal
public import proofs.«01_k».proof.Proof.Gen.PlainExpertsIdeal.Run
public import proofs.«01_k».proof.Proof.Gen.PlainFinalIdeal
public import proofs.«01_k».proof.Proof.Gen.PlainFinalIdeal.Run
public import proofs.«01_k».proof.Proof.Gen.PlainMixerIdeal
public import proofs.«01_k».proof.Proof.Gen.PlainMixerIdeal.Run
public import proofs.«01_k».proof.Proof.Gen.Pre_expert_ids
public import proofs.«01_k».proof.Proof.K.Frame
public import proofs.«01_k».proof.Proof.Claims
public import proofs.«01_k».proof.Proof.XI.Bits
public import proofs.«01_k».proof.Proof.XI.Claims
public import proofs.«01_k».proof.Proof.Gen.Final.Frame
public import proofs.«01_k».proof.Proof.FI.Claims
public import proofs.«01_k».proof.Proof.Gen.Mixer.Frame
public import proofs.«01_k».proof.Proof.MI.Claims
public import proofs.«01_k».proof.Proof.Gen.Second
public import proofs.«01_k».proof.Proof.Gen.Second.Frame
public import proofs.«01_k».proof.Proof.Gen.SecondIdeal
public import proofs.«01_k».proof.Proof.Gen.SecondIdeal.Frame
public import proofs.«01_k».proof.Proof.Gen.SecondIdeal.Value
public import proofs.«01_k».proof.Proof.Gen.PlainSecondIdeal
public import proofs.«01_k».proof.Proof.Gen.PlainSecondIdeal.Run
public import proofs.«01_k».proof.Proof.SI.Claims
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim :=
  ⟨Cert.Kernel.Gen.facts, Cert.KernelIdeal.Gen.facts, Cert.ReferenceIdeal.Gen.facts,
    Cert.Experts.Gen.facts, Cert.ExpertsIdeal.Gen.facts, Cert.PlainExpertsIdeal.Gen.facts,
    Cert.Final.Gen.facts, Cert.FinalIdeal.Gen.facts, Cert.PlainFinalIdeal.Gen.facts,
    Cert.Mixer.Gen.facts, Cert.MixerIdeal.Gen.facts, Cert.PlainMixerIdeal.Gen.facts,
    Cert.Second.Gen.facts, Cert.SecondIdeal.Gen.facts, Cert.PlainSecondIdeal.Gen.facts,
    Cert.Pre_finite.Gen.facts, Cert.Pre_expert_ids.Gen.facts,
    fun m ρ _ => K.frame m ρ, fun m ρ _ => KI.frame m ρ, fun m ρ _ => KI.frame m ρ, reference_frame,
    fun m ρ _ => reference_frame m ρ trivial,
    XI.frame_bits, XI.frame, XI.plain_frame, fun m ρ _ => XI.plain_frame m ρ trivial,
    fun m ρ _ => Cert.Final.Gen.frame m ρ, fun m ρ _ => Cert.FinalIdeal.Gen.frame m ρ, FI.plain_frame,
    fun m ρ _ => Cert.Mixer.Gen.frame m ρ, fun m ρ _ => Cert.MixerIdeal.Gen.frame m ρ, MI.plain_frame,
    fun m ρ _ => Cert.Second.Gen.frame m ρ, fun m ρ _ => Cert.SecondIdeal.Gen.frame m ρ, SI.plain_frame,
    preserves, algebraic, trivial, XI.algebraic, trivial, FI.algebraic, trivial, MI.algebraic,
    trivial, SI.algebraic⟩

end Cert.Proof

end
